-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩
abbrev S1x1024x8x128 : Shape := ⟨4, ![1, 1024, 8, 128]⟩
abbrev S1024x8x128 : Shape := ⟨3, ![1024, 8, 128]⟩
abbrev S2x3x256x512 : Shape := ⟨4, ![2, 3, 256, 512]⟩
abbrev S3x2x64x512 : Shape := ⟨4, ![3, 2, 64, 512]⟩
abbrev S2x3 : Shape := ⟨2, ![2, 3]⟩
abbrev S3x2 : Shape := ⟨2, ![3, 2]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S1x1 : Shape := ⟨2, ![1, 1]⟩
abbrev S1x1x256x512 : Shape := ⟨4, ![1, 1, 256, 512]⟩
abbrev S256x512 : Shape := ⟨2, ![256, 512]⟩
abbrev S1x1x64x512 : Shape := ⟨4, ![1, 1, 64, 512]⟩
abbrev S64x512 : Shape := ⟨2, ![64, 512]⟩

abbrev nBuf : Space → Nat
  | .hbm => 38
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x1024x8x128, .f32⟩
  | .hbm, ⟨23, _⟩ => ⟨S1024x8x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x1024x8x128, .f32⟩
  | .hbm, ⟨35, _⟩ => ⟨S1024x8x128, .f32⟩
  | .hbm, ⟨36, _⟩ => ⟨S1024x1024, .f32⟩
  | .hbm, ⟨37, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S2x3x256x512, .f32⟩
  | .local _ .vmem, ⟨8, _⟩ => ⟨S3x2x64x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 2 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_21 : BitVec 32 := 1#32
  let v43 : BitVec 32 := Scalar.muli v29 c1_i32_21
  let v44 : BitVec 32 := Scalar.addi c0_i32_22 v43
  v44.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_24 : BitVec 32 := 1#32
  let v45 : BitVec 32 := Scalar.muli v25 c1_i32_24
  let v46 : BitVec 32 := Scalar.addi c0_i32_25 v45
  v46.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_13 : BitVec 32 := 1#32
  let v30 : BitVec 32 := Scalar.addi v20 c1_i32_13
  let c4_i32_14 : BitVec 32 := 4#32
  let v31 : BitVec 32 := Scalar.remsi v30 c4_i32_14
  let c4_i32_15 : BitVec 32 := 4#32
  let v32 : BitVec 32 := Scalar.muli v31 c4_i32_15
  let c4_i32 : BitVec 32 := 4#32
  let v3 : BitVec 32 := Scalar.remsi v2 c4_i32
  let v33 : BitVec 32 := Scalar.addi v32 v3
  let c1_i32_27 : BitVec 32 := 1#32
  let v47 : BitVec 32 := Scalar.muli v33 c1_i32_27
  let v48 : BitVec 32 := Scalar.addi c0_i32_28 v47
  v48.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v34 : BitVec 32 := Scalar.addi v20 c2_i32
  let c4_i32_16 : BitVec 32 := 4#32
  let v35 : BitVec 32 := Scalar.remsi v34 c4_i32_16
  let c4_i32_17 : BitVec 32 := 4#32
  let v36 : BitVec 32 := Scalar.muli v35 c4_i32_17
  let c4_i32 : BitVec 32 := 4#32
  let v3 : BitVec 32 := Scalar.remsi v2 c4_i32
  let v37 : BitVec 32 := Scalar.addi v36 v3
  let c1_i32_30 : BitVec 32 := 1#32
  let v49 : BitVec 32 := Scalar.muli v37 c1_i32_30
  let v50 : BitVec 32 := Scalar.addi c0_i32_31 v49
  v50.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v38 : BitVec 32 := Scalar.addi v20 c3_i32
  let c4_i32_18 : BitVec 32 := 4#32
  let v39 : BitVec 32 := Scalar.remsi v38 c4_i32_18
  let c4_i32_19 : BitVec 32 := 4#32
  let v40 : BitVec 32 := Scalar.muli v39 c4_i32_19
  let c4_i32 : BitVec 32 := 4#32
  let v3 : BitVec 32 := Scalar.remsi v2 c4_i32
  let v41 : BitVec 32 := Scalar.addi v40 v3
  let c1_i32_33 : BitVec 32 := 1#32
  let v51 : BitVec 32 := Scalar.muli v41 c1_i32_33
  let v52 : BitVec 32 := Scalar.addi c0_i32_34 v51
  v52.toNat
def k0_off1 (d0 : Dev nD) (c0_i32_159 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v307 : BitVec 32 := Scalar.subi v3 c0_i32_159
  let c16_i32_160 : BitVec 32 := 16#32
  let v308 : BitVec 32 := Scalar.addi v307 c16_i32_160
  let c4_i32_161 : BitVec 32 := 4#32
  let v309 : BitVec 32 := Scalar.remsi v308 c4_i32_161
  let c256_i32 : BitVec 32 := 256#32
  let v313 : BitVec 32 := Scalar.muli v309 c256_i32
  let c0_i32_176 : BitVec 32 := 0#32
  ![v313.toNat, 0]
def k0_dev6 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_172 : BitVec 32 := 1#32
  let v315 : BitVec 32 := Scalar.muli v25 c1_i32_172
  let v316 : BitVec 32 := Scalar.addi c0_i32_173 v315
  v316.toNat
def k0_off2 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v310 : BitVec 32 := Scalar.addi v3 c0_i32_162
  let c16_i32_163 : BitVec 32 := 16#32
  let v311 : BitVec 32 := Scalar.addi v310 c16_i32_163
  let c4_i32_164 : BitVec 32 := 4#32
  let v312 : BitVec 32 := Scalar.remsi v311 c4_i32_164
  let c256_i32_165 : BitVec 32 := 256#32
  let v314 : BitVec 32 := Scalar.muli v312 c256_i32_165
  let c512_i32 : BitVec 32 := 512#32
  ![v314.toNat, 512]
def k0_dev7 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_183 : BitVec 32 := 1#32
  let v324 : BitVec 32 := Scalar.muli v29 c1_i32_183
  let v325 : BitVec 32 := Scalar.addi c0_i32_184 v324
  v325.toNat
def k0_off3 (d0 : Dev nD) (c0_i32_230 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_229 : BitVec 32 := 1#32
  let v357 : BitVec 32 := Scalar.subi v3 c1_i32_229
  let v358 : BitVec 32 := Scalar.subi v357 c0_i32_230
  let c16_i32_231 : BitVec 32 := 16#32
  let v359 : BitVec 32 := Scalar.addi v358 c16_i32_231
  let c4_i32_232 : BitVec 32 := 4#32
  let v360 : BitVec 32 := Scalar.remsi v359 c4_i32_232
  let c256_i32_237 : BitVec 32 := 256#32
  let v365 : BitVec 32 := Scalar.muli v360 c256_i32_237
  let v367 : Index := Scalar.indexCast v365
  let c0_239 : Index := 0#32
  ![v367.toNat, 0]
def k0_off4 (d0 : Dev nD) (c0_i32_234 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_233 : BitVec 32 := 1#32
  let v361 : BitVec 32 := Scalar.addi v3 c1_i32_233
  let v362 : BitVec 32 := Scalar.addi v361 c0_i32_234
  let c16_i32_235 : BitVec 32 := 16#32
  let v363 : BitVec 32 := Scalar.addi v362 c16_i32_235
  let c4_i32_236 : BitVec 32 := 4#32
  let v364 : BitVec 32 := Scalar.remsi v363 c4_i32_236
  let c256_i32_238 : BitVec 32 := 256#32
  let v366 : BitVec 32 := Scalar.muli v364 c256_i32_238
  let v375 : Index := Scalar.indexCast v366
  let c512_245 : Index := 512#32
  ![v375.toNat, 512]
def k0_dev8 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_265 : BitVec 32 := 1#32
  let v391 : BitVec 32 := Scalar.muli v25 c1_i32_265
  let v392 : BitVec 32 := Scalar.addi c0_i32_266 v391
  v392.toNat
def k0_dev9 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_276 : BitVec 32 := 1#32
  let v400 : BitVec 32 := Scalar.muli v29 c1_i32_276
  let v401 : BitVec 32 := Scalar.addi c0_i32_277 v400
  v401.toNat
def k0_dev10 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_359 : BitVec 32 := 1#32
  let v467 : BitVec 32 := Scalar.muli v25 c1_i32_359
  let v468 : BitVec 32 := Scalar.addi c0_i32_360 v467
  v468.toNat
def k0_dev11 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_370 : BitVec 32 := 1#32
  let v476 : BitVec 32 := Scalar.muli v29 c1_i32_370
  let v477 : BitVec 32 := Scalar.addi c0_i32_371 v476
  v477.toNat
def k0_off5 (d0 : Dev nD) (c1_i32_445 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_439 : BitVec 32 := 1#32
  let v535 : BitVec 32 := Scalar.addi v3 c1_i32_439
  let c16_i32_440 : BitVec 32 := 16#32
  let v536 : BitVec 32 := Scalar.addi v535 c16_i32_440
  let c4_i32_441 : BitVec 32 := 4#32
  let v537 : BitVec 32 := Scalar.remsi v536 c4_i32_441
  let c256_i32_448 : BitVec 32 := 256#32
  let v545 : BitVec 32 := Scalar.muli v537 c256_i32_448
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v541 : BitVec 32 := Scalar.addi v20 c1_i32_445
  let c4_i32_446 : BitVec 32 := 4#32
  let v542 : BitVec 32 := Scalar.remsi v541 c4_i32_446
  let c64_i32_449 : BitVec 32 := 64#32
  let v546 : BitVec 32 := Scalar.muli v542 c64_i32_449
  let v547 : BitVec 32 := Scalar.addi v545 v546
  let c0_i32_460 : BitVec 32 := 0#32
  ![v547.toNat, 0]
def k0_dev12 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_445 : BitVec 32 := 1#32
  let v541 : BitVec 32 := Scalar.addi v20 c1_i32_445
  let c4_i32_446 : BitVec 32 := 4#32
  let v542 : BitVec 32 := Scalar.remsi v541 c4_i32_446
  let c4_i32_447 : BitVec 32 := 4#32
  let v543 : BitVec 32 := Scalar.muli v542 c4_i32_447
  let c4_i32 : BitVec 32 := 4#32
  let v3 : BitVec 32 := Scalar.remsi v2 c4_i32
  let v544 : BitVec 32 := Scalar.addi v543 v3
  let c1_i32_456 : BitVec 32 := 1#32
  let v548 : BitVec 32 := Scalar.muli v544 c1_i32_456
  let v549 : BitVec 32 := Scalar.addi c0_i32_457 v548
  v549.toNat
def k0_off6 (d0 : Dev nD) (c1_i32_445 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_442 : BitVec 32 := 1#32
  let v538 : BitVec 32 := Scalar.subi v3 c1_i32_442
  let c16_i32_443 : BitVec 32 := 16#32
  let v539 : BitVec 32 := Scalar.addi v538 c16_i32_443
  let c4_i32_444 : BitVec 32 := 4#32
  let v540 : BitVec 32 := Scalar.remsi v539 c4_i32_444
  let c256_i32_461 : BitVec 32 := 256#32
  let v557 : BitVec 32 := Scalar.muli v540 c256_i32_461
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v541 : BitVec 32 := Scalar.addi v20 c1_i32_445
  let c4_i32_446 : BitVec 32 := 4#32
  let v542 : BitVec 32 := Scalar.remsi v541 c4_i32_446
  let c64_i32_462 : BitVec 32 := 64#32
  let v558 : BitVec 32 := Scalar.muli v542 c64_i32_462
  let v559 : BitVec 32 := Scalar.addi v557 v558
  let c512_i32_473 : BitVec 32 := 512#32
  ![v559.toNat, 512]
def k0_dev13 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_445 : BitVec 32 := 1#32
  let v541 : BitVec 32 := Scalar.addi v20 c1_i32_445
  let c4_i32_446 : BitVec 32 := 4#32
  let v542 : BitVec 32 := Scalar.remsi v541 c4_i32_446
  let c4_i32_447 : BitVec 32 := 4#32
  let v543 : BitVec 32 := Scalar.muli v542 c4_i32_447
  let c4_i32 : BitVec 32 := 4#32
  let v3 : BitVec 32 := Scalar.remsi v2 c4_i32
  let v544 : BitVec 32 := Scalar.addi v543 v3
  let c1_i32_469 : BitVec 32 := 1#32
  let v560 : BitVec 32 := Scalar.muli v544 c1_i32_469
  let v561 : BitVec 32 := Scalar.addi c0_i32_470 v560
  v561.toNat
def k0_dev14 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_474 : BitVec 32 := 2#32
  let v569 : BitVec 32 := Scalar.addi v20 c2_i32_474
  let c4_i32_475 : BitVec 32 := 4#32
  let v570 : BitVec 32 := Scalar.remsi v569 c4_i32_475
  let c4_i32_476 : BitVec 32 := 4#32
  let v571 : BitVec 32 := Scalar.muli v570 c4_i32_476
  let c4_i32 : BitVec 32 := 4#32
  let v3 : BitVec 32 := Scalar.remsi v2 c4_i32
  let v572 : BitVec 32 := Scalar.addi v571 v3
  let c1_i32_485 : BitVec 32 := 1#32
  let v576 : BitVec 32 := Scalar.muli v572 c1_i32_485
  let v577 : BitVec 32 := Scalar.addi c0_i32_486 v576
  v577.toNat
def k0_dev15 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_474 : BitVec 32 := 2#32
  let v569 : BitVec 32 := Scalar.addi v20 c2_i32_474
  let c4_i32_475 : BitVec 32 := 4#32
  let v570 : BitVec 32 := Scalar.remsi v569 c4_i32_475
  let c4_i32_476 : BitVec 32 := 4#32
  let v571 : BitVec 32 := Scalar.muli v570 c4_i32_476
  let c4_i32 : BitVec 32 := 4#32
  let v3 : BitVec 32 := Scalar.remsi v2 c4_i32
  let v572 : BitVec 32 := Scalar.addi v571 v3
  let c1_i32_498 : BitVec 32 := 1#32
  let v588 : BitVec 32 := Scalar.muli v572 c1_i32_498
  let v589 : BitVec 32 := Scalar.addi c0_i32_499 v588
  v589.toNat
def k0_dev16 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_503 : BitVec 32 := 3#32
  let v597 : BitVec 32 := Scalar.addi v20 c3_i32_503
  let c4_i32_504 : BitVec 32 := 4#32
  let v598 : BitVec 32 := Scalar.remsi v597 c4_i32_504
  let c4_i32_505 : BitVec 32 := 4#32
  let v599 : BitVec 32 := Scalar.muli v598 c4_i32_505
  let c4_i32 : BitVec 32 := 4#32
  let v3 : BitVec 32 := Scalar.remsi v2 c4_i32
  let v600 : BitVec 32 := Scalar.addi v599 v3
  let c1_i32_514 : BitVec 32 := 1#32
  let v604 : BitVec 32 := Scalar.muli v600 c1_i32_514
  let v605 : BitVec 32 := Scalar.addi c0_i32_515 v604
  v605.toNat
def k0_dev17 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_503 : BitVec 32 := 3#32
  let v597 : BitVec 32 := Scalar.addi v20 c3_i32_503
  let c4_i32_504 : BitVec 32 := 4#32
  let v598 : BitVec 32 := Scalar.remsi v597 c4_i32_504
  let c4_i32_505 : BitVec 32 := 4#32
  let v599 : BitVec 32 := Scalar.muli v598 c4_i32_505
  let c4_i32 : BitVec 32 := 4#32
  let v3 : BitVec 32 := Scalar.remsi v2 c4_i32
  let v600 : BitVec 32 := Scalar.addi v599 v3
  let c1_i32_527 : BitVec 32 := 1#32
  let v616 : BitVec 32 := Scalar.muli v600 c1_i32_527
  let v617 : BitVec 32 := Scalar.addi c0_i32_528 v616
  v617.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_439 : BitVec 32 := 1#32
  let v535 : BitVec 32 := Scalar.addi v3 c1_i32_439
  let c16_i32_440 : BitVec 32 := 16#32
  let v536 : BitVec 32 := Scalar.addi v535 c16_i32_440
  let c4_i32_441 : BitVec 32 := 4#32
  let v537 : BitVec 32 := Scalar.remsi v536 c4_i32_441
  let c256_i32_676 : BitVec 32 := 256#32
  let v703 : BitVec 32 := Scalar.muli v537 c256_i32_676
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_677 : BitVec 32 := 64#32
  let v704 : BitVec 32 := Scalar.muli v20 c64_i32_677
  let v705 : BitVec 32 := Scalar.addi v703 v704
  let v709 : Index := Scalar.indexCast v705
  let c0_680 : Index := 0#32
  ![v709.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_442 : BitVec 32 := 1#32
  let v538 : BitVec 32 := Scalar.subi v3 c1_i32_442
  let c16_i32_443 : BitVec 32 := 16#32
  let v539 : BitVec 32 := Scalar.addi v538 c16_i32_443
  let c4_i32_444 : BitVec 32 := 4#32
  let v540 : BitVec 32 := Scalar.remsi v539 c4_i32_444
  let c256_i32_678 : BitVec 32 := 256#32
  let v706 : BitVec 32 := Scalar.muli v540 c256_i32_678
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_679 : BitVec 32 := 64#32
  let v707 : BitVec 32 := Scalar.muli v20 c64_i32_679
  let v708 : BitVec 32 := Scalar.addi v706 v707
  let v723 : Index := Scalar.indexCast v708
  let c512_694 : Index := 512#32
  ![v723.toNat, 512]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_439 : BitVec 32 := 1#32
  let v535 : BitVec 32 := Scalar.addi v3 c1_i32_439
  let c16_i32_440 : BitVec 32 := 16#32
  let v536 : BitVec 32 := Scalar.addi v535 c16_i32_440
  let c4_i32_441 : BitVec 32 := 4#32
  let v537 : BitVec 32 := Scalar.remsi v536 c4_i32_441
  let c256_i32_711 : BitVec 32 := 256#32
  let v741 : BitVec 32 := Scalar.muli v537 c256_i32_711
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_712 : BitVec 32 := 64#32
  let v742 : BitVec 32 := Scalar.muli v20 c64_i32_712
  let v743 : BitVec 32 := Scalar.addi v741 v742
  let c0_i32_719 : BitVec 32 := 0#32
  ![v743.toNat, 0]
def k0_dev18 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_708 : BitVec 32 := 1#32
  let v737 : BitVec 32 := Scalar.addi v20 c1_i32_708
  let c4_i32_709 : BitVec 32 := 4#32
  let v738 : BitVec 32 := Scalar.remsi v737 c4_i32_709
  let c4_i32_710 : BitVec 32 := 4#32
  let v739 : BitVec 32 := Scalar.muli v738 c4_i32_710
  let c4_i32 : BitVec 32 := 4#32
  let v3 : BitVec 32 := Scalar.remsi v2 c4_i32
  let v740 : BitVec 32 := Scalar.addi v739 v3
  let c1_i32_717 : BitVec 32 := 1#32
  let v744 : BitVec 32 := Scalar.muli v740 c1_i32_717
  let v745 : BitVec 32 := Scalar.addi c0_i32_718 v744
  v745.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_442 : BitVec 32 := 1#32
  let v538 : BitVec 32 := Scalar.subi v3 c1_i32_442
  let c16_i32_443 : BitVec 32 := 16#32
  let v539 : BitVec 32 := Scalar.addi v538 c16_i32_443
  let c4_i32_444 : BitVec 32 := 4#32
  let v540 : BitVec 32 := Scalar.remsi v539 c4_i32_444
  let c256_i32_721 : BitVec 32 := 256#32
  let v752 : BitVec 32 := Scalar.muli v540 c256_i32_721
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_722 : BitVec 32 := 64#32
  let v753 : BitVec 32 := Scalar.muli v20 c64_i32_722
  let v754 : BitVec 32 := Scalar.addi v752 v753
  let c512_i32_729 : BitVec 32 := 512#32
  ![v754.toNat, 512]
def k0_dev19 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_708 : BitVec 32 := 1#32
  let v737 : BitVec 32 := Scalar.addi v20 c1_i32_708
  let c4_i32_709 : BitVec 32 := 4#32
  let v738 : BitVec 32 := Scalar.remsi v737 c4_i32_709
  let c4_i32_710 : BitVec 32 := 4#32
  let v739 : BitVec 32 := Scalar.muli v738 c4_i32_710
  let c4_i32 : BitVec 32 := 4#32
  let v3 : BitVec 32 := Scalar.remsi v2 c4_i32
  let v740 : BitVec 32 := Scalar.addi v739 v3
  let c1_i32_727 : BitVec 32 := 1#32
  let v755 : BitVec 32 := Scalar.muli v740 c1_i32_727
  let v756 : BitVec 32 := Scalar.addi c0_i32_728 v755
  v756.toNat
def k0_dev20 (d0 : Dev nD) : Nat :=
  let c0_i32_741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_731 : BitVec 32 := 2#32
  let v763 : BitVec 32 := Scalar.addi v20 c2_i32_731
  let c4_i32_732 : BitVec 32 := 4#32
  let v764 : BitVec 32 := Scalar.remsi v763 c4_i32_732
  let c4_i32_733 : BitVec 32 := 4#32
  let v765 : BitVec 32 := Scalar.muli v764 c4_i32_733
  let c4_i32 : BitVec 32 := 4#32
  let v3 : BitVec 32 := Scalar.remsi v2 c4_i32
  let v766 : BitVec 32 := Scalar.addi v765 v3
  let c1_i32_740 : BitVec 32 := 1#32
  let v770 : BitVec 32 := Scalar.muli v766 c1_i32_740
  let v771 : BitVec 32 := Scalar.addi c0_i32_741 v770
  v771.toNat
def k0_dev21 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_731 : BitVec 32 := 2#32
  let v763 : BitVec 32 := Scalar.addi v20 c2_i32_731
  let c4_i32_732 : BitVec 32 := 4#32
  let v764 : BitVec 32 := Scalar.remsi v763 c4_i32_732
  let c4_i32_733 : BitVec 32 := 4#32
  let v765 : BitVec 32 := Scalar.muli v764 c4_i32_733
  let c4_i32 : BitVec 32 := 4#32
  let v3 : BitVec 32 := Scalar.remsi v2 c4_i32
  let v766 : BitVec 32 := Scalar.addi v765 v3
  let c1_i32_750 : BitVec 32 := 1#32
  let v781 : BitVec 32 := Scalar.muli v766 c1_i32_750
  let v782 : BitVec 32 := Scalar.addi c0_i32_751 v781
  v782.toNat
def k0_dev22 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_754 : BitVec 32 := 3#32
  let v789 : BitVec 32 := Scalar.addi v20 c3_i32_754
  let c4_i32_755 : BitVec 32 := 4#32
  let v790 : BitVec 32 := Scalar.remsi v789 c4_i32_755
  let c4_i32_756 : BitVec 32 := 4#32
  let v791 : BitVec 32 := Scalar.muli v790 c4_i32_756
  let c4_i32 : BitVec 32 := 4#32
  let v3 : BitVec 32 := Scalar.remsi v2 c4_i32
  let v792 : BitVec 32 := Scalar.addi v791 v3
  let c1_i32_763 : BitVec 32 := 1#32
  let v796 : BitVec 32 := Scalar.muli v792 c1_i32_763
  let v797 : BitVec 32 := Scalar.addi c0_i32_764 v796
  v797.toNat
def k0_dev23 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_754 : BitVec 32 := 3#32
  let v789 : BitVec 32 := Scalar.addi v20 c3_i32_754
  let c4_i32_755 : BitVec 32 := 4#32
  let v790 : BitVec 32 := Scalar.remsi v789 c4_i32_755
  let c4_i32_756 : BitVec 32 := 4#32
  let v791 : BitVec 32 := Scalar.muli v790 c4_i32_756
  let c4_i32 : BitVec 32 := 4#32
  let v3 : BitVec 32 := Scalar.remsi v2 c4_i32
  let v792 : BitVec 32 := Scalar.addi v791 v3
  let c1_i32_773 : BitVec 32 := 1#32
  let v807 : BitVec 32 := Scalar.muli v792 c1_i32_773
  let v808 : BitVec 32 := Scalar.addi c0_i32_774 v807
  v808.toNat
def k0_off11 (d0 : Dev nD) (c0_i32_892 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_891 : BitVec 32 := 1#32
  let v911 : BitVec 32 := Scalar.addi v3 c1_i32_891
  let v912 : BitVec 32 := Scalar.subi v911 c0_i32_892
  let c16_i32_893 : BitVec 32 := 16#32
  let v913 : BitVec 32 := Scalar.addi v912 c16_i32_893
  let c4_i32_894 : BitVec 32 := 4#32
  let v914 : BitVec 32 := Scalar.remsi v913 c4_i32_894
  let c256_i32_899 : BitVec 32 := 256#32
  let v919 : BitVec 32 := Scalar.muli v914 c256_i32_899
  let c0_i32_907 : BitVec 32 := 0#32
  ![v919.toNat, 0]
def k0_dev24 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_905 : BitVec 32 := 1#32
  let v921 : BitVec 32 := Scalar.muli v25 c1_i32_905
  let v922 : BitVec 32 := Scalar.addi c0_i32_906 v921
  v922.toNat
def k0_off12 (d0 : Dev nD) (c0_i32_896 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_895 : BitVec 32 := 1#32
  let v915 : BitVec 32 := Scalar.subi v3 c1_i32_895
  let v916 : BitVec 32 := Scalar.addi v915 c0_i32_896
  let c16_i32_897 : BitVec 32 := 16#32
  let v917 : BitVec 32 := Scalar.addi v916 c16_i32_897
  let c4_i32_898 : BitVec 32 := 4#32
  let v918 : BitVec 32 := Scalar.remsi v917 c4_i32_898
  let c256_i32_900 : BitVec 32 := 256#32
  let v920 : BitVec 32 := Scalar.muli v918 c256_i32_900
  let c512_i32_915 : BitVec 32 := 512#32
  ![v920.toNat, 512]
def k0_dev25 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_913 : BitVec 32 := 1#32
  let v929 : BitVec 32 := Scalar.muli v29 c1_i32_913
  let v930 : BitVec 32 := Scalar.addi c0_i32_914 v929
  v930.toNat
def k0_dev26 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_961 : BitVec 32 := 1#32
  let v967 : BitVec 32 := Scalar.muli v25 c1_i32_961
  let v968 : BitVec 32 := Scalar.addi c0_i32_962 v967
  v968.toNat
def k0_dev27 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_969 : BitVec 32 := 1#32
  let v975 : BitVec 32 := Scalar.muli v29 c1_i32_969
  let v976 : BitVec 32 := Scalar.addi c0_i32_970 v975
  v976.toNat
def k0_dev28 (d0 : Dev nD) : Nat :=
  let c0_i32_1018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_1017 : BitVec 32 := 1#32
  let v1013 : BitVec 32 := Scalar.muli v25 c1_i32_1017
  let v1014 : BitVec 32 := Scalar.addi c0_i32_1018 v1013
  v1014.toNat
def k0_dev29 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_1025 : BitVec 32 := 1#32
  let v1021 : BitVec 32 := Scalar.muli v29 c1_i32_1025
  let v1022 : BitVec 32 := Scalar.addi c0_i32_1026 v1021
  v1022.toNat
def k0_dev30 (d0 : Dev nD) : Nat :=
  let c0_i32_1061_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_10 : BitVec 32 := 1#32
  let v26 : BitVec 32 := Scalar.subi v3 c1_i32_10
  let c16_i32_11 : BitVec 32 := 16#32
  let v27 : BitVec 32 := Scalar.addi v26 c16_i32_11
  let c4_i32_12 : BitVec 32 := 4#32
  let v28 : BitVec 32 := Scalar.remsi v27 c4_i32_12
  let v29 : BitVec 32 := Scalar.addi v21 v28
  let c1_i32_1060_r0 : BitVec 32 := 1#32
  let v1050_r0 : BitVec 32 := Scalar.muli v29 c1_i32_1060_r0
  let v1051_r0 : BitVec 32 := Scalar.addi c0_i32_1061_r0 v1050_r0
  v1051_r0.toNat
def k0_dev31 (d0 : Dev nD) : Nat :=
  let c0_i32_1064_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v21 : BitVec 32 := Scalar.muli v20 c4_i32_6
  let c4_i32 : BitVec 32 := 4#32
  let v3 : BitVec 32 := Scalar.remsi v2 c4_i32
  let c1_i32_7 : BitVec 32 := 1#32
  let v22 : BitVec 32 := Scalar.addi v3 c1_i32_7
  let c16_i32_8 : BitVec 32 := 16#32
  let v23 : BitVec 32 := Scalar.addi v22 c16_i32_8
  let c4_i32_9 : BitVec 32 := 4#32
  let v24 : BitVec 32 := Scalar.remsi v23 c4_i32_9
  let v25 : BitVec 32 := Scalar.addi v21 v24
  let c1_i32_1063_r0 : BitVec 32 := 1#32
  let v1052_r0 : BitVec 32 := Scalar.muli v25 c1_i32_1063_r0
  let v1053_r0 : BitVec 32 := Scalar.addi c0_i32_1064_r0 v1052_r0
  v1053_r0.toNat
def k0_dev32 (d0 : Dev nD) : Nat :=
  let c0_i32_1067_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_13 : BitVec 32 := 1#32
  let v30 : BitVec 32 := Scalar.addi v20 c1_i32_13
  let c4_i32_14 : BitVec 32 := 4#32
  let v31 : BitVec 32 := Scalar.remsi v30 c4_i32_14
  let c4_i32_15 : BitVec 32 := 4#32
  let v32 : BitVec 32 := Scalar.muli v31 c4_i32_15
  let c4_i32 : BitVec 32 := 4#32
  let v3 : BitVec 32 := Scalar.remsi v2 c4_i32
  let v33 : BitVec 32 := Scalar.addi v32 v3
  let c1_i32_1066_r0 : BitVec 32 := 1#32
  let v1054_r0 : BitVec 32 := Scalar.muli v33 c1_i32_1066_r0
  let v1055_r0 : BitVec 32 := Scalar.addi c0_i32_1067_r0 v1054_r0
  v1055_r0.toNat
def k0_dev33 (d0 : Dev nD) : Nat :=
  let c0_i32_1070_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32 : BitVec 32 := 2#32
  let v34 : BitVec 32 := Scalar.addi v20 c2_i32
  let c4_i32_16 : BitVec 32 := 4#32
  let v35 : BitVec 32 := Scalar.remsi v34 c4_i32_16
  let c4_i32_17 : BitVec 32 := 4#32
  let v36 : BitVec 32 := Scalar.muli v35 c4_i32_17
  let c4_i32 : BitVec 32 := 4#32
  let v3 : BitVec 32 := Scalar.remsi v2 c4_i32
  let v37 : BitVec 32 := Scalar.addi v36 v3
  let c1_i32_1069_r0 : BitVec 32 := 1#32
  let v1056_r0 : BitVec 32 := Scalar.muli v37 c1_i32_1069_r0
  let v1057_r0 : BitVec 32 := Scalar.addi c0_i32_1070_r0 v1056_r0
  v1057_r0.toNat
def k0_dev34 (d0 : Dev nD) : Nat :=
  let c0_i32_1073_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32 : BitVec 32 := 3#32
  let v38 : BitVec 32 := Scalar.addi v20 c3_i32
  let c4_i32_18 : BitVec 32 := 4#32
  let v39 : BitVec 32 := Scalar.remsi v38 c4_i32_18
  let c4_i32_19 : BitVec 32 := 4#32
  let v40 : BitVec 32 := Scalar.muli v39 c4_i32_19
  let c4_i32 : BitVec 32 := 4#32
  let v3 : BitVec 32 := Scalar.remsi v2 c4_i32
  let v41 : BitVec 32 := Scalar.addi v40 v3
  let c1_i32_1072_r0 : BitVec 32 := 1#32
  let v1058_r0 : BitVec 32 := Scalar.muli v41 c1_i32_1072_r0
  let v1059_r0 : BitVec 32 := Scalar.addi c0_i32_1073_r0 v1058_r0
  v1059_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x128x1024x1024, .f32⟩
  | .hbm, ⟨85, _⟩ => ⟨S_, .f32⟩
  | .hbm, ⟨86, _⟩ => ⟨S1x128x1024x1024, .f32⟩
  | .hbm, ⟨87, _⟩ => ⟨S1x128x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x128x1024x1024, .i1⟩
  | .hbm, ⟨92, _⟩ => ⟨S1x128x1024x1024, .f32⟩
  | .hbm, ⟨93, _⟩ => ⟨S1x128x1024x1024, .f32⟩
  | .hbm, ⟨94, _⟩ => ⟨S_, .f32⟩
  | .hbm, ⟨95, _⟩ => ⟨S1x128x1024, .f32⟩
  | .hbm, ⟨96, _⟩ => ⟨S1x128x1024x1, .f32⟩
  | .hbm, ⟨97, _⟩ => ⟨S1x128x1024x1024, .f32⟩
  | .hbm, ⟨98, _⟩ => ⟨S1x128x1024x1024, .f32⟩
  | .hbm, ⟨99, _⟩ => ⟨S1x128x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x128x1024, .f32⟩
  | .hbm, ⟨105, _⟩ => ⟨S1x128x1024x1, .f32⟩
  | .hbm, ⟨106, _⟩ => ⟨S_, .f32⟩
  | .hbm, ⟨107, _⟩ => ⟨S_, .f32⟩
  | .hbm, ⟨108, _⟩ => ⟨S1x128x1024x1, .i1⟩
  | .hbm, ⟨109, _⟩ => ⟨S1x128x1024x1, .f32⟩
  | .hbm, ⟨110, _⟩ => ⟨S1x128x1024x1, .f32⟩
  | .hbm, ⟨111, _⟩ => ⟨S1x128x1024x1024, .f32⟩
  | .hbm, ⟨112, _⟩ => ⟨S1x128x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x128x1024x1024, .i1⟩
  | .hbm, ⟨117, _⟩ => ⟨S1x128x1024x1024, .f32⟩
  | .hbm, ⟨118, _⟩ => ⟨S1x128x1024x1024, .f32⟩
  | .hbm, ⟨119, _⟩ => ⟨S1x128x128x1024, .f32⟩
  | .hbm, ⟨120, _⟩ => ⟨S1x1024x128x128, .f32⟩
  | .hbm, ⟨121, _⟩ => ⟨S1x1024x16384, .f32⟩
  | .hbm, ⟨122, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.KernelIdeal.Peers.lean ====
/-
  THE TORUS. The sixteen devices form a 4-by-4 grid: device c stands at column c mod 4 of row c div 4. Each device
  talks to its two neighbours within the row (a ring of four) and to the three other devices of its column. Here are
  the names of those five peers, their inverses, and the facts that each copy and signal of the kernel addresses one of
  them and each of its moving windows lies where the grid position says.
-/
module

public import proofs.«01_k».proof.Proof.Gen.KernelIdeal

@[expose] public section

noncomputable section

namespace Cert.KernelIdeal.Comm

open Idealize.ShloMosaic Idealize.ShloMosaic.TcCoe
open Cert.KernelIdeal Cert.KernelIdeal.Gen

/-- The next device of the row. -/
def rt (c : Dev nD) : Dev nD := ⟨4 * (c.val / 4) + (c.val % 4 + 1) % 4, by have := c.isLt; simp only [nD] at *; omega⟩
/-- The previous device of the row. -/
def lf (c : Dev nD) : Dev nD := ⟨4 * (c.val / 4) + (c.val % 4 + 3) % 4, by have := c.isLt; simp only [nD] at *; omega⟩
/-- The device k rows further in the column. -/
def zp (k : Fin 4) (c : Dev nD) : Dev nD :=
  ⟨4 * ((c.val / 4 + k.val) % 4) + c.val % 4, by have := c.isLt; simp only [nD] at *; omega⟩

theorem rt_lf : ∀ c : Dev nD, rt (lf c) = c := by decide +kernel
theorem lf_rt : ∀ c : Dev nD, lf (rt c) = c := by decide +kernel
theorem zp_zp : ∀ (k : Fin 4) (c : Dev nD), zp (-k) (zp k c) = c := by decide +kernel
theorem zp_zp' : ∀ (k : Fin 4) (c : Dev nD), zp k (zp (-k) c) = c := by decide +kernel

theorem dev1_eq : ∀ d0 : Dev nD, (⟨k0_dev1 d0, k0_dev1_lt d0⟩ : Dev nD) = lf d0 := by decide +kernel
theorem dev2_eq : ∀ d0 : Dev nD, (⟨k0_dev2 d0, k0_dev2_lt d0⟩ : Dev nD) = rt d0 := by decide +kernel
theorem dev3_eq : ∀ d0 : Dev nD, (⟨k0_dev3 d0, k0_dev3_lt d0⟩ : Dev nD) = zp 1 d0 := by decide +kernel
theorem dev4_eq : ∀ d0 : Dev nD, (⟨k0_dev4 d0, k0_dev4_lt d0⟩ : Dev nD) = zp 2 d0 := by decide +kernel
theorem dev5_eq : ∀ d0 : Dev nD, (⟨k0_dev5 d0, k0_dev5_lt d0⟩ : Dev nD) = zp 3 d0 := by decide +kernel
theorem dev6_eq : ∀ d0 : Dev nD, (⟨k0_dev6 d0, k0_dev6_lt d0⟩ : Dev nD) = rt d0 := by decide +kernel
theorem dev7_eq : ∀ d0 : Dev nD, (⟨k0_dev7 d0, k0_dev7_lt d0⟩ : Dev nD) = lf d0 := by decide +kernel
theorem dev8_eq : ∀ d0 : Dev nD, (⟨k0_dev8 d0, k0_dev8_lt d0⟩ : Dev nD) = rt d0 := by decide +kernel
theorem dev9_eq : ∀ d0 : Dev nD, (⟨k0_dev9 d0, k0_dev9_lt d0⟩ : Dev nD) = lf d0 := by decide +kernel
theorem dev10_eq : ∀ d0 : Dev nD, (⟨k0_dev10 d0, k0_dev10_lt d0⟩ : Dev nD) = rt d0 := by decide +kernel
theorem dev11_eq : ∀ d0 : Dev nD, (⟨k0_dev11 d0, k0_dev11_lt d0⟩ : Dev nD) = lf d0 := by decide +kernel
theorem dev12_eq : ∀ d0 : Dev nD, (⟨k0_dev12 d0, k0_dev12_lt d0⟩ : Dev nD) = zp 1 d0 := by decide +kernel
theorem dev13_eq : ∀ d0 : Dev nD, (⟨k0_dev13 d0, k0_dev13_lt d0⟩ : Dev nD) = zp 1 d0 := by decide +kernel
theorem dev14_eq : ∀ d0 : Dev nD, (⟨k0_dev14 d0, k0_dev14_lt d0⟩ : Dev nD) = zp 2 d0 := by decide +kernel
theorem dev15_eq : ∀ d0 : Dev nD, (⟨k0_dev15 d0, k0_dev15_lt d0⟩ : Dev nD) = zp 2 d0 := by decide +kernel
theorem dev16_eq : ∀ d0 : Dev nD, (⟨k0_dev16 d0, k0_dev16_lt d0⟩ : Dev nD) = zp 3 d0 := by decide +kernel
theorem dev17_eq : ∀ d0 : Dev nD, (⟨k0_dev17 d0, k0_dev17_lt d0⟩ : Dev nD) = zp 3 d0 := by decide +kernel
theorem dev18_eq : ∀ d0 : Dev nD, (⟨k0_dev18 d0, k0_dev18_lt d0⟩ : Dev nD) = zp 1 d0 := by decide +kernel
theorem dev19_eq : ∀ d0 : Dev nD, (⟨k0_dev19 d0, k0_dev19_lt d0⟩ : Dev nD) = zp 1 d0 := by decide +kernel
theorem dev20_eq : ∀ d0 : Dev nD, (⟨k0_dev20 d0, k0_dev20_lt d0⟩ : Dev nD) = zp 2 d0 := by decide +kernel
theorem dev21_eq : ∀ d0 : Dev nD, (⟨k0_dev21 d0, k0_dev21_lt d0⟩ : Dev nD) = zp 2 d0 := by decide +kernel
theorem dev22_eq : ∀ d0 : Dev nD, (⟨k0_dev22 d0, k0_dev22_lt d0⟩ : Dev nD) = zp 3 d0 := by decide +kernel
theorem dev23_eq : ∀ d0 : Dev nD, (⟨k0_dev23 d0, k0_dev23_lt d0⟩ : Dev nD) = zp 3 d0 := by decide +kernel
theorem dev24_eq : ∀ d0 : Dev nD, (⟨k0_dev24 d0, k0_dev24_lt d0⟩ : Dev nD) = rt d0 := by decide +kernel
theorem dev25_eq : ∀ d0 : Dev nD, (⟨k0_dev25 d0, k0_dev25_lt d0⟩ : Dev nD) = lf d0 := by decide +kernel
theorem dev26_eq : ∀ d0 : Dev nD, (⟨k0_dev26 d0, k0_dev26_lt d0⟩ : Dev nD) = rt d0 := by decide +kernel
theorem dev27_eq : ∀ d0 : Dev nD, (⟨k0_dev27 d0, k0_dev27_lt d0⟩ : Dev nD) = lf d0 := by decide +kernel
theorem dev28_eq : ∀ d0 : Dev nD, (⟨k0_dev28 d0, k0_dev28_lt d0⟩ : Dev nD) = rt d0 := by decide +kernel
theorem dev29_eq : ∀ d0 : Dev nD, (⟨k0_dev29 d0, k0_dev29_lt d0⟩ : Dev nD) = lf d0 := by decide +kernel
theorem dev30_eq : ∀ d0 : Dev nD, (⟨k0_dev30 d0, k0_dev30_lt d0⟩ : Dev nD) = lf d0 := by decide +kernel
theorem dev31_eq : ∀ d0 : Dev nD, (⟨k0_dev31 d0, k0_dev31_lt d0⟩ : Dev nD) = rt d0 := by decide +kernel
theorem dev32_eq : ∀ d0 : Dev nD, (⟨k0_dev32 d0, k0_dev32_lt d0⟩ : Dev nD) = zp 1 d0 := by decide +kernel
theorem dev33_eq : ∀ d0 : Dev nD, (⟨k0_dev33 d0, k0_dev33_lt d0⟩ : Dev nD) = zp 2 d0 := by decide +kernel
theorem dev34_eq : ∀ d0 : Dev nD, (⟨k0_dev34 d0, k0_dev34_lt d0⟩ : Dev nD) = zp 3 d0 := by decide +kernel

/-- Column (position in the ring). -/
def pz (c : Dev nD) : ℕ := c.val % 4
/-- Row (position in the column). -/
def zz (c : Dev nD) : ℕ := c.val / 4

/-- The quarter of rows that lies s places before the device's own, and s places after. -/
def qm (c : Dev nD) (s : ℕ) : Fin 4 := ⟨(c.val % 4 + 16 - s % 4) % 4, Nat.mod_lt _ (by decide)⟩
def qp (c : Dev nD) (s : ℕ) : Fin 4 := ⟨(c.val % 4 + s) % 4, Nat.mod_lt _ (by decide)⟩
/-- The strip of sixty-four rows within a quarter that belongs to the row k further. -/
def rz (c : Dev nD) (k : ℕ) : Fin 4 := ⟨(c.val / 4 + k) % 4, Nat.mod_lt _ (by decide)⟩

theorem off1_eq : ∀ (d0 : Dev nD) (r : Fin 3), k0_off1 d0 (BitVec.ofNat 32 r.val) = ![256 * (qm d0 r.val).val, 512 * 0] := by decide +kernel
theorem off2_eq : ∀ (d0 : Dev nD) (r : Fin 3), k0_off2 d0 (BitVec.ofNat 32 r.val) = ![256 * (qp d0 r.val).val, 512 * 1] := by decide +kernel
theorem off3_eq : ∀ (d0 : Dev nD) (r : Fin 3), k0_off3 d0 (BitVec.ofNat 32 r.val) = ![256 * (qm d0 (r.val + 1)).val, 512 * 0] := by decide +kernel
theorem off4_eq : ∀ (d0 : Dev nD) (r : Fin 3), k0_off4 d0 (BitVec.ofNat 32 r.val) = ![256 * (qp d0 (r.val + 1)).val, 512 * 1] := by decide +kernel
theorem off5_eq : ∀ (d0 : Dev nD) (r : Fin 3), k0_off5 d0 (BitVec.ofNat 32 (1 + r.val)) = ![256 * (qm d0 3).val + 64 * (rz d0 (1 + r.val)).val, 512 * 0] := by decide +kernel
theorem off6_eq : ∀ (d0 : Dev nD) (r : Fin 3), k0_off6 d0 (BitVec.ofNat 32 (1 + r.val)) = ![256 * (qp d0 3).val + 64 * (rz d0 (1 + r.val)).val, 512 * 1] := by decide +kernel
theorem off7_eq : ∀ d0 : Dev nD, k0_off7 d0 = ![256 * (qm d0 3).val + 64 * (rz d0 0).val, 512 * 0] := by decide +kernel
theorem off8_eq : ∀ d0 : Dev nD, k0_off8 d0 = ![256 * (qp d0 3).val + 64 * (rz d0 0).val, 512 * 1] := by decide +kernel
theorem off9_eq : ∀ d0 : Dev nD, k0_off9 d0 = ![256 * (qm d0 3).val + 64 * (rz d0 0).val, 512 * 0] := by decide +kernel
theorem off10_eq : ∀ d0 : Dev nD, k0_off10 d0 = ![256 * (qp d0 3).val + 64 * (rz d0 0).val, 512 * 1] := by decide +kernel
theorem off11_eq : ∀ (d0 : Dev nD) (r : Fin 3), k0_off11 d0 (BitVec.ofNat 32 r.val) = ![256 * (qm d0 (r.val + 3)).val, 512 * 0] := by decide +kernel
theorem off12_eq : ∀ (d0 : Dev nD) (r : Fin 3), k0_off12 d0 (BitVec.ofNat 32 r.val) = ![256 * (qp d0 (r.val + 3)).val, 512 * 1] := by decide +kernel

end Cert.KernelIdeal.Comm

end
-- ==== Proof.KernelIdeal.Geometry.lean ====
/-
  THE WINDOWS of the three buffers the devices exchange through, and how a buffer splits into them.
  The result block (1024 by 1024) is cut into eight windows: four quarters of rows by two halves of columns; a window is
  cut further into four strips of sixty-four rows. The two landing buffers are cut into their slots.
  A window's points-to is the buffer's, over the window's elements: splitting and joining are facts about index sets.
-/
module

public import proofs.«01_k».proof.Proof.KernelIdeal.Peers
public import Idealize.ShloMosaic.Lib.Pipeline.TalkSites
public import Idealize.ShloMosaic.Lib.Pipeline.Kit
public import Idealize.ShloMosaic.Lib.Rounds
public import Idealize.ShloMosaic.Lib.Ring

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds)

/-- The resource algebra: the pipeline's copy of the rounds and the exchange's, whose duties are named by peer. -/
abbrev UU : Type := UR sig nD τ × URounds (GSem nD τ sig) (Fin 5)

variable {F : FTy → Type} [FloatOps F]

local notation "𝕄" => MT nD τ sig ℕ (Elt F) ℕ UU ℕ

/-! ## The windows -/

/-- The result block in its staging buffer, the two landing buffers. -/
abbrev outM : Memref sig .tc .vmem S1024x1024 .f32 := Memref.whole cc0_stg5_0
abbrev aM : Memref sig .tc .vmem S2x3x256x512 .f32 := Memref.whole cc0_scratch1
abbrev bM : Memref sig .tc .vmem S3x2x64x512 .f32 := Memref.whole cc0_scratch2

theorem q_inb (j : Fin 4) (h : Fin 2) : ∀ a, (![256 * j.val, 512 * h.val] : Fin 2 → ℕ) a + S256x512.size a ≤ S1024x1024.size a := by
  revert j h; decide
theorem s_inb (j r : Fin 4) (h : Fin 2) : ∀ a, (![256 * j.val + 64 * r.val, 512 * h.val] : Fin 2 → ℕ) a + S64x512.size a ≤ S1024x1024.size a := by
  revert j r h; decide
theorem a_inb (d : Fin 2) (s : Fin 3) : ∀ a, (![d.val, s.val, 0, 0] : Fin 4 → ℕ) a + S1x1x256x512.size a ≤ S2x3x256x512.size a := by
  revert d s; decide
theorem b_inb (l : Fin 3) (h : Fin 2) : ∀ a, (![l.val, h.val, 0, 0] : Fin 4 → ℕ) a + S1x1x64x512.size a ≤ S3x2x64x512.size a := by
  revert l h; decide

abbrev qR (j : Fin 4) (h : Fin 2) : Rect S1024x1024 := Rect.unit ![256 * j.val, 512 * h.val] S256x512.size (q_inb j h)
abbrev sR (j r : Fin 4) (h : Fin 2) : Rect S1024x1024 := Rect.unit ![256 * j.val + 64 * r.val, 512 * h.val] S64x512.size (s_inb j r h)
abbrev aR (d : Fin 2) (s : Fin 3) : Rect S2x3x256x512 := Rect.unit ![d.val, s.val, 0, 0] S1x1x256x512.size (a_inb d s)
abbrev bR (l : Fin 3) (h : Fin 2) : Rect S3x2x64x512 := Rect.unit ![l.val, h.val, 0, 0] S1x1x64x512.size (b_inb l h)

/-- Quarter j of the rows, half h of the columns. -/
abbrev Qm (j : Fin 4) (h : Fin 2) : Memref sig .tc .vmem S256x512 .f32 := outM.slice (qR j h) (fun _ => rfl)
/-- Strip r of it. -/
abbrev Sm (j r : Fin 4) (h : Fin 2) : Memref sig .tc .vmem S64x512 .f32 := outM.slice (sR j r h) (fun _ => rfl)
/-- The landing slots. -/
abbrev Am (d : Fin 2) (s : Fin 3) : Memref sig .tc .vmem S256x512 .f32 := (aM.slice (aR d s) (fun _ => rfl)).squeeze S256x512 squeezes_S1x1x256x512_S256x512
abbrev Bm (l : Fin 3) (h : Fin 2) : Memref sig .tc .vmem S64x512 .f32 := (bM.slice (bR l h) (fun _ => rfl)).squeeze S64x512 squeezes_S1x1x64x512_S64x512

/-- In direction d (0: copies go to the next device, 1: to the previous one) the quarter whose window device c copies at step s. -/
def dq (d : Fin 2) (c : Dev nD) (s : ℕ) : Fin 4 := if d = 0 then qm c s else qp c s
/-- Direction d: the device copied to, the device copied from. -/
def to' (d : Fin 2) (c : Dev nD) : Dev nD := if d = 0 then rt c else lf c
@[inherit_doc to'] def fr (d : Fin 2) (c : Dev nD) : Dev nD := if d = 0 then lf c else rt c

theorem fr_to (d : Fin 2) (c : Dev nD) : fr d (to' d c) = c := by revert d c; decide +kernel
theorem to_fr (d : Fin 2) (c : Dev nD) : to' d (fr d c) = c := by revert d c; decide +kernel

theorem dq_inj (d : Fin 2) (c : Dev nD) : ∀ s t : Fin 4, dq d c s.val = dq d c t.val → s = t := by revert d c; decide +kernel
theorem dq_surj (d : Fin 2) (c : Dev nD) (j : Fin 4) : ∃ s : Fin 4, dq d c s.val = j := by revert d c j; decide +kernel
theorem rz_inj (c : Dev nD) : ∀ s t : Fin 4, rz c s.val = rz c t.val → s = t := by revert c; decide +kernel
theorem rz_surj (c : Dev nD) (j : Fin 4) : ∃ s : Fin 4, rz c s.val = j := by revert c j; decide +kernel

/-! ## Which elements -/

theorem mem_q {j : Fin 4} {h : Fin 2} {i : S1024x1024.Idx} : i ∈ (qR j h).set ↔
    (256 * j.val ≤ (i 0).val ∧ (i 0).val < 256 * j.val + 256) ∧ (512 * h.val ≤ (i 1).val ∧ (i 1).val < 512 * h.val + 512) := by
  rw [Rect.mem_set_unit, Fin.forall_fin_two]; rfl
theorem mem_s {j r : Fin 4} {h : Fin 2} {i : S1024x1024.Idx} : i ∈ (sR j r h).set ↔
    (256 * j.val + 64 * r.val ≤ (i 0).val ∧ (i 0).val < 256 * j.val + 64 * r.val + 64) ∧ (512 * h.val ≤ (i 1).val ∧ (i 1).val < 512 * h.val + 512) := by
  rw [Rect.mem_set_unit, Fin.forall_fin_two]; rfl
theorem mem_a {d : Fin 2} {s : Fin 3} {i : S2x3x256x512.Idx} : i ∈ (aR d s).set ↔ (i 0).val = d.val ∧ (i 1).val = s.val := by
  have h2 : (i 2).val < 256 := (i 2).isLt
  have h3 : (i 3).val < 512 := (i 3).isLt
  rw [Rect.mem_set_unit]
  constructor
  · intro h
    have h0 : d.val ≤ (i 0).val ∧ (i 0).val < d.val + 1 := h 0
    have h1 : s.val ≤ (i 1).val ∧ (i 1).val < s.val + 1 := h 1
    omega
  · rintro ⟨h0, h1⟩ a
    match a with
    | ⟨0, _⟩ => exact (show d.val ≤ (i 0).val ∧ (i 0).val < d.val + 1 by omega)
    | ⟨1, _⟩ => exact (show s.val ≤ (i 1).val ∧ (i 1).val < s.val + 1 by omega)
    | ⟨2, _⟩ => exact (show 0 ≤ (i 2).val ∧ (i 2).val < 0 + 256 by omega)
    | ⟨3, _⟩ => exact (show 0 ≤ (i 3).val ∧ (i 3).val < 0 + 512 by omega)
theorem mem_b {l : Fin 3} {h : Fin 2} {i : S3x2x64x512.Idx} : i ∈ (bR l h).set ↔ (i 0).val = l.val ∧ (i 1).val = h.val := by
  have h2 : (i 2).val < 64 := (i 2).isLt
  have h3 : (i 3).val < 512 := (i 3).isLt
  rw [Rect.mem_set_unit]
  constructor
  · intro h'
    have h0 : l.val ≤ (i 0).val ∧ (i 0).val < l.val + 1 := h' 0
    have h1 : h.val ≤ (i 1).val ∧ (i 1).val < h.val + 1 := h' 1
    omega
  · rintro ⟨h0, h1⟩ a
    match a with
    | ⟨0, _⟩ => exact (show l.val ≤ (i 0).val ∧ (i 0).val < l.val + 1 by omega)
    | ⟨1, _⟩ => exact (show h.val ≤ (i 1).val ∧ (i 1).val < h.val + 1 by omega)
    | ⟨2, _⟩ => exact (show 0 ≤ (i 2).val ∧ (i 2).val < 0 + 64 by omega)
    | ⟨3, _⟩ => exact (show 0 ≤ (i 3).val ∧ (i 3).val < 0 + 512 by omega)

theorem q_cover (c : Dev nD) : (Finset.univ : Finset (Fin 2 × Fin 4)).biUnion (fun p => (qR (dq p.1 c p.2.val) p.1).set) = Finset.univ := by
  refine Finset.eq_univ_iff_forall.mpr fun i => Finset.mem_biUnion.mpr ?_
  have h0 : (i 0).val < 1024 := (i 0).isLt
  have h1 : (i 1).val < 1024 := (i 1).isLt
  obtain ⟨s, hs⟩ := dq_surj ⟨(i 1).val / 512, by omega⟩ c ⟨(i 0).val / 256, by omega⟩
  refine ⟨(⟨(i 1).val / 512, by omega⟩, s), Finset.mem_univ _, ?_⟩
  rw [mem_q, hs]
  dsimp only
  omega
theorem q_disj (c : Dev nD) : ∀ p ∈ (Finset.univ : Finset (Fin 2 × Fin 4)), ∀ p' ∈ (Finset.univ : Finset (Fin 2 × Fin 4)), p ≠ p' →
    Disjoint (qR (dq p.1 c p.2.val) p.1).set (qR (dq p'.1 c p'.2.val) p'.1).set := by
  rintro ⟨d, s⟩ - ⟨d', s'⟩ - hne
  refine Finset.disjoint_left.mpr fun i hi hi' => hne ?_
  rw [mem_q] at hi hi'
  dsimp only at hi hi'
  obtain rfl : d = d' := Fin.ext (by omega)
  exact Prod.ext rfl (dq_inj d c s s' (Fin.ext (by omega)))
theorem s_cover (c : Dev nD) (j : Fin 4) (h : Fin 2) : (Finset.univ : Finset (Fin 4)).biUnion (fun k => (sR j (rz c k.val) h).set) = (qR j h).set := by
  ext i
  rw [Finset.mem_biUnion, mem_q]
  constructor
  · rintro ⟨k, -, hk⟩
    rw [mem_s] at hk
    have := (rz c k.val).isLt
    omega
  · rintro ⟨h0, h1⟩
    obtain ⟨k, hk⟩ := rz_surj c ⟨((i 0).val - 256 * j.val) / 64, by omega⟩
    refine ⟨k, Finset.mem_univ _, ?_⟩
    rw [mem_s, hk]
    dsimp only
    omega
theorem s_disj (c : Dev nD) (j : Fin 4) (h : Fin 2) : ∀ p ∈ (Finset.univ : Finset (Fin 4)), ∀ p' ∈ (Finset.univ : Finset (Fin 4)), p ≠ p' →
    Disjoint (sR j (rz c p.val) h).set (sR j (rz c p'.val) h).set := by
  intro s _ s' _ hne
  refine Finset.disjoint_left.mpr fun i hi hi' => hne ?_
  rw [mem_s] at hi hi'
  exact rz_inj c s s' (Fin.ext (by omega))
theorem a_cover : (Finset.univ : Finset (Fin 2 × Fin 3)).biUnion (fun p => (aR p.1 p.2).set) = Finset.univ := by
  refine Finset.eq_univ_iff_forall.mpr fun i => Finset.mem_biUnion.mpr ⟨(i 0, i 1), Finset.mem_univ _, ?_⟩
  rw [mem_a]; exact ⟨rfl, rfl⟩
theorem a_disj : ∀ p ∈ (Finset.univ : Finset (Fin 2 × Fin 3)), ∀ p' ∈ (Finset.univ : Finset (Fin 2 × Fin 3)), p ≠ p' →
    Disjoint (aR p.1 p.2).set (aR p'.1 p'.2).set := by
  rintro ⟨d, s⟩ - ⟨d', s'⟩ - hne
  refine Finset.disjoint_left.mpr fun i hi hi' => hne ?_
  rw [mem_a] at hi hi'
  dsimp only at hi hi'
  exact Prod.ext (Fin.ext (by dsimp only; omega)) (Fin.ext (by dsimp only; omega))
theorem b_cover : (Finset.univ : Finset (Fin 3 × Fin 2)).biUnion (fun p => (bR p.1 p.2).set) = Finset.univ := by
  refine Finset.eq_univ_iff_forall.mpr fun i => Finset.mem_biUnion.mpr ⟨(i 0, i 1), Finset.mem_univ _, ?_⟩
  rw [mem_b]; exact ⟨rfl, rfl⟩
theorem b_disj : ∀ p ∈ (Finset.univ : Finset (Fin 3 × Fin 2)), ∀ p' ∈ (Finset.univ : Finset (Fin 3 × Fin 2)), p ≠ p' →
    Disjoint (bR p.1 p.2).set (bR p'.1 p'.2).set := by
  rintro ⟨d, s⟩ - ⟨d', s'⟩ - hne
  refine Finset.disjoint_left.mpr fun i hi hi' => hne ?_
  rw [mem_b] at hi hi'
  dsimp only at hi hi'
  exact Prod.ext (Fin.ext (by dsimp only; omega)) (Fin.ext (by dsimp only; omega))

/-! ## What is held -/

/-- Device c's elements under a window, at buffer contents f. -/
abbrev ptsq {s : Shape} (M : Memref sig .tc .vmem s .f32) (c : Dev nD) (q : PosShare TreeShare) (f : Buf (Elt F) (M.view.loc (c : Thread nD τ))) : sProp 𝕄 :=
  M.view.loc (c : Thread nD τ) ↦[M.view.set]{q} f
/-- Outright. -/
abbrev pts {s : Shape} (M : Memref sig .tc .vmem s .f32) (c : Dev nD) (f : Buf (Elt F) (M.view.loc (c : Thread nD τ))) : sProp 𝕄 :=
  ptsq M c fullShare f
/-- At contents not chosen. -/
def free {s : Shape} (M : Memref sig .tc .vmem s .f32) (c : Dev nD) : sProp 𝕄 := iprop(∃ f, pts M c f)
/-- At contents the window reads as v. -/
def holds {s : Shape} (M : Memref sig .tc .vmem s .f32) (c : Dev nD) (v : Vec F s .f32) : sProp 𝕄 :=
  iprop(∃ f, pts M c f ∗ ⌜M.view.read (Elt F) f = v⌝)

theorem holds_free {s : Shape} (M : Memref sig .tc .vmem s .f32) (c : Dev nD) (v : Vec F s .f32) : (holds M c v : sProp 𝕄) ⊢ free M c := by
  unfold holds free
  iintro ⟨%f, H, -⟩
  iexists f; iexact H
theorem pts_free {s : Shape} (M : Memref sig .tc .vmem s .f32) (c : Dev nD) (f) : (pts M c f : sProp 𝕄) ⊢ free M c := by
  unfold free
  iintro H
  iexists f; iexact H

/-- The whole result block as its eight windows, in the order device c works through them. -/
theorem out_split (c : Dev nD) (f : Buf (Elt F) ((c : Thread nD τ).loc cc0_stg5_0)) :
    (((c : Thread nD τ).loc cc0_stg5_0) ↦{fullShare} f : sProp 𝕄) = bigSep Finset.univ fun p : Fin 2 × Fin 4 => pts (Qm (dq p.1 c p.2.val) p.1) c f := by
  have h := pointsTo_biUnion (Ix := ℕ) (Val := Elt F) (Name := ℕ) (U := UU) (Lvl := ℕ) (ℓ := (c : Thread nD τ).loc cc0_stg5_0) (q := fullShare) (f := f)
    (Finset.univ : Finset (Fin 2 × Fin 4)) (fun p => (qR (dq p.1 c p.2.val) p.1).set) (q_disj c)
  rw [q_cover] at h
  rw [h]
  refine bigSep_congr fun p _ => ?_
  unfold pts ptsq
  rw [show (Qm (dq p.1 c p.2.val) p.1).view.set = (qR (dq p.1 c p.2.val) p.1).set from View.set_slice_whole _ _]

/-- A window as its four strips, in the order device c's column names them. -/
theorem q_split (c : Dev nD) (j : Fin 4) (h : Fin 2) (f : Buf (Elt F) ((c : Thread nD τ).loc cc0_stg5_0)) :
    (pts (Qm j h) c f : sProp 𝕄) = bigSep Finset.univ fun k : Fin 4 => pts (Sm j (rz c k.val) h) c f := by
  have h' := pointsTo_biUnion (Ix := ℕ) (Val := Elt F) (Name := ℕ) (U := UU) (Lvl := ℕ) (ℓ := (c : Thread nD τ).loc cc0_stg5_0) (q := fullShare) (f := f)
    (Finset.univ : Finset (Fin 4)) (fun k => (sR j (rz c k.val) h).set) (s_disj c j h)
  rw [s_cover] at h'
  unfold pts ptsq
  rw [show (Qm j h).view.set = (qR j h).set from View.set_slice_whole _ _]
  refine h'.trans (bigSep_congr fun k _ => ?_)
  rw [show (Sm j (rz c k.val) h).view.set = (sR j (rz c k.val) h).set from View.set_slice_whole _ _]

theorem a_set (d : Fin 2) (s : Fin 3) : (Am d s).view.set = (aR d s).set := (View.set_reshape _ _).trans (View.set_slice_whole _ _)
theorem b_set (l : Fin 3) (h : Fin 2) : (Bm l h).view.set = (bR l h).set := (View.set_reshape _ _).trans (View.set_slice_whole _ _)

theorem a_split (c : Dev nD) (f : Buf (Elt F) ((c : Thread nD τ).loc cc0_scratch1)) :
    (((c : Thread nD τ).loc cc0_scratch1) ↦{fullShare} f : sProp 𝕄) ⊢ bigSep Finset.univ fun p : Fin 2 × Fin 3 => free (Am p.1 p.2) c := by
  have h := pointsTo_biUnion (Ix := ℕ) (Val := Elt F) (Name := ℕ) (U := UU) (Lvl := ℕ) (ℓ := (c : Thread nD τ).loc cc0_scratch1) (q := fullShare) (f := f)
    (Finset.univ : Finset (Fin 2 × Fin 3)) (fun p => (aR p.1 p.2).set) a_disj
  rw [a_cover] at h
  rw [h]
  refine bigSep_mono fun p _ => ?_
  unfold free pts ptsq
  rw [a_set]
  refine (show (((c : Thread nD τ).loc cc0_scratch1) ↦[(aR p.1 p.2).set]{fullShare} f : sProp 𝕄)
    ⊢ iprop(∃ f : Buf (Elt F) ((c : Thread nD τ).loc cc0_scratch1), ((c : Thread nD τ).loc cc0_scratch1) ↦[(aR p.1 p.2).set]{fullShare} f) from ?_)
  iintro H; iexists f; iexact H
theorem a_join (c : Dev nD) : (bigSep Finset.univ fun p : Fin 2 × Fin 3 => free (Am p.1 p.2) c : sProp 𝕄)
    ⊢ iprop(∃ f : Buf (Elt F) ((c : Thread nD τ).loc cc0_scratch1), ((c : Thread nD τ).loc cc0_scratch1) ↦{fullShare} f) := by
  refine BI.Entails.trans (Entails.of_eq (bigSep_congr fun p _ => ?_))
    (Ring.pointsTo_blocks_join_exists (ℓ := (c : Thread nD τ).loc cc0_scratch1) (fun p : Fin 2 × Fin 3 => (aR p.1 p.2).set)
      (fun p p' h => a_disj p (Finset.mem_univ _) p' (Finset.mem_univ _) h) a_cover (q := fullShare) (constant (F := F) S2x3x256x512 .f32 0#32))
  unfold free pts ptsq; rw [a_set]

theorem b_split (c : Dev nD) (f : Buf (Elt F) ((c : Thread nD τ).loc cc0_scratch2)) :
    (((c : Thread nD τ).loc cc0_scratch2) ↦{fullShare} f : sProp 𝕄) ⊢ bigSep Finset.univ fun p : Fin 3 × Fin 2 => free (Bm p.1 p.2) c := by
  have h := pointsTo_biUnion (Ix := ℕ) (Val := Elt F) (Name := ℕ) (U := UU) (Lvl := ℕ) (ℓ := (c : Thread nD τ).loc cc0_scratch2) (q := fullShare) (f := f)
    (Finset.univ : Finset (Fin 3 × Fin 2)) (fun p => (bR p.1 p.2).set) b_disj
  rw [b_cover] at h
  rw [h]
  refine bigSep_mono fun p _ => ?_
  unfold free pts ptsq
  rw [b_set]
  refine (show (((c : Thread nD τ).loc cc0_scratch2) ↦[(bR p.1 p.2).set]{fullShare} f : sProp 𝕄)
    ⊢ iprop(∃ f : Buf (Elt F) ((c : Thread nD τ).loc cc0_scratch2), ((c : Thread nD τ).loc cc0_scratch2) ↦[(bR p.1 p.2).set]{fullShare} f) from ?_)
  iintro H; iexists f; iexact H
theorem b_join (c : Dev nD) : (bigSep Finset.univ fun p : Fin 3 × Fin 2 => free (Bm p.1 p.2) c : sProp 𝕄)
    ⊢ iprop(∃ f : Buf (Elt F) ((c : Thread nD τ).loc cc0_scratch2), ((c : Thread nD τ).loc cc0_scratch2) ↦{fullShare} f) := by
  refine BI.Entails.trans (Entails.of_eq (bigSep_congr fun p _ => ?_))
    (Ring.pointsTo_blocks_join_exists (ℓ := (c : Thread nD τ).loc cc0_scratch2) (fun p : Fin 3 × Fin 2 => (bR p.1 p.2).set)
      (fun p p' h => b_disj p (Finset.mem_univ _) p' (Finset.mem_univ _) h) b_cover (q := fullShare) (constant (F := F) S3x2x64x512 .f32 0#32))
  unfold free pts ptsq; rw [b_set]

/-- The six landing slots as a list, in either buffer. -/
theorem sep_a (Φ : Fin 2 × Fin 3 → sProp 𝕄) : bigSep Finset.univ Φ
    = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
theorem sep_b (Φ : Fin 3 × Fin 2 → sProp 𝕄) : bigSep Finset.univ Φ
    = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
/-- The eight windows of the result block as a list. -/
theorem sep_o (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ
theorem sep_s (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.KernelIdeal.Comm

end
-- ==== Proof.KernelIdeal.Sched.lean ====
/-
  WHAT THE DEVICES EXCHANGE. Every semaphore cell with who pays it, how much, and what the payment hands over; the values
  are those of the sums as the kernel forms them, from A, the devices' partial blocks.
-/
module

public import proofs.«01_k».proof.Proof.KernelIdeal.Geometry

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)

variable {F : FTy → Type} [FloatOps F]

local notation "𝕄" => MT nD τ sig ℕ (Elt F) ℕ UU ℕ

abbrev EP : Emb (UR sig nD τ) (MT nD τ sig ℕ (Elt F) ℕ UU ℕ) := embL
abbrev EM : Emb (URounds (GSem nD τ sig) (Fin 5)) (MT nD τ sig ℕ (Elt F) ℕ UU ℕ) := embR

/-! ## The values -/

/-- A window of a block; a strip of a window. -/
def tile (j : Fin 4) (h : Fin 2) (f : Vec F S1024x1024 .f32) : Vec F S256x512 .f32 := (Qm j h).view.read (Elt F) f
def strip (r : Fin 4) (v : Vec F S256x512 .f32) : Vec F S64x512 .f32 :=
  fun i => v (fun | 0 => ⟨64 * r.val + (i 0).val, by have h : (i 0).val < 64 := (i 0).isLt; have := r.isLt; show _ < 256; omega⟩ | 1 => ⟨(i 1).val, (i 1).isLt⟩)

section Values

variable (A : Dev nD → Vec F S1024x1024 .f32)

/-- The running sum in direction d that device c holds after s additions. -/
def acc (d : Fin 2) (c : Dev nD) : ℕ → Vec F S256x512 .f32
  | 0 => tile (dq d c 0) d (A c)
  | s + 1 => addf (tile (dq d c (s + 1)) d (A c)) (acc d (fr d c) s)

/-- The strip device c completes, in half h: its own sum and the three of its column. -/
def red (h : Fin 2) (c : Dev nD) : Vec F S64x512 .f32 :=
  addf (addf (addf (strip (rz c 0) (acc A h c 3)) (strip (rz c 0) (acc A h (zp 1 c) 3)))
    (strip (rz c 0) (acc A h (zp 2 c) 3))) (strip (rz c 0) (acc A h (zp 3 c) 3))

/-- The device that completes the strip at row i of half h. -/
def owner (h : ℕ) (i : ℕ) : Dev nD :=
  ⟨4 * (i % 256 / 64) + (i / 256 + (if h = 0 then 3 else 1)) % 4, by show _ < 16; omega⟩

/-- The whole sum, as every device ends up holding it. -/
def outAll : Vec F S1024x1024 .f32 := fun i =>
  red A ⟨(i 1).val / 512, by have h : (i 1).val < 1024 := (i 1).isLt; omega⟩ (owner ((i 1).val / 512) (i 0).val)
    (fun | 0 => ⟨(i 0).val % 64, Nat.mod_lt _ (by decide)⟩ | 1 => ⟨(i 1).val % 512, Nat.mod_lt _ (by decide)⟩)

end Values

/-! ## The cells -/

/-- The kernel's semaphores, by what they count: the entry barrier, the exit barrier; for each copy of the ring sums (aS
    sent, aR arrived), of the column's reduction (rS, rR), of the column's gather (gS, gR), of the ring's gather (cS, cR). -/
inductive K
  | bar | fin
  | aS (d : Fin 2) (s : Fin 3) | aR (d : Fin 2) (s : Fin 3)
  | rS (l : Fin 3) (h : Fin 2) | rR (l : Fin 3) (h : Fin 2)
  | gS (l : Fin 3) (h : Fin 2) | gR (l : Fin 3) (h : Fin 2)
  | cS (d : Fin 2) (s : Fin 3) | cR (d : Fin 2) (s : Fin 3)
  | other
  deriving DecidableEq

/-- The pair numbered m. -/
def p23 (m : ℕ) : Fin 2 × Fin 3 := (⟨m / 3 % 2, Nat.mod_lt _ (by decide)⟩, ⟨m % 3, Nat.mod_lt _ (by decide)⟩)
@[inherit_doc p23] def p32 (m : ℕ) : Fin 3 × Fin 2 := (⟨m / 2 % 3, Nat.mod_lt _ (by decide)⟩, ⟨m % 2, Nat.mod_lt _ (by decide)⟩)

def kd (n : ℕ) : K :=
  if n < 6 then .other
  else if n < 12 then .aS (p23 (n - 6)).1 (p23 (n - 6)).2
  else if n < 18 then .aR (p23 (n - 12)).1 (p23 (n - 12)).2
  else if n < 24 then .rS (p32 (n - 18)).1 (p32 (n - 18)).2
  else if n < 30 then .rR (p32 (n - 24)).1 (p32 (n - 24)).2
  else if n < 36 then .gS (p32 (n - 30)).1 (p32 (n - 30)).2
  else if n < 42 then .gR (p32 (n - 36)).1 (p32 (n - 36)).2
  else if n < 48 then .cS (p23 (n - 42)).1 (p23 (n - 42)).2
  else .cR (p23 (n - 48)).1 (p23 (n - 48)).2

/-- What a semaphore counts. -/
def kind : SemLoc sig → K
  | .reg n => if n.val = 0 then .bar else .fin
  | .dma n => kd n.val

/-- A copy's semaphore by number. -/
def dsem (n : ℕ) (h : n < 54 := by decide) : DmaSem sig := ⟨n, h⟩

def sAS (d : Fin 2) (s : Fin 3) : DmaSem sig := ⟨6 + (3 * d.val + s.val), by show _ < 54; omega⟩
def sAR (d : Fin 2) (s : Fin 3) : DmaSem sig := ⟨12 + (3 * d.val + s.val), by show _ < 54; omega⟩
def sRS (l : Fin 3) (h : Fin 2) : DmaSem sig := ⟨18 + (2 * l.val + h.val), by show _ < 54; omega⟩
def sRR (l : Fin 3) (h : Fin 2) : DmaSem sig := ⟨24 + (2 * l.val + h.val), by show _ < 54; omega⟩
def sGS (l : Fin 3) (h : Fin 2) : DmaSem sig := ⟨30 + (2 * l.val + h.val), by show _ < 54; omega⟩
def sGR (l : Fin 3) (h : Fin 2) : DmaSem sig := ⟨36 + (2 * l.val + h.val), by show _ < 54; omega⟩
def sCS (d : Fin 2) (s : Fin 3) : DmaSem sig := ⟨42 + (3 * d.val + s.val), by show _ < 54; omega⟩
def sCR (d : Fin 2) (s : Fin 3) : DmaSem sig := ⟨48 + (3 * d.val + s.val), by show _ < 54; omega⟩
abbrev finS : Sem sig := 1

theorem kind_bar : kind (.reg barrier0) = .bar := rfl
theorem kind_fin : kind (.reg finS) = .fin := rfl
theorem kind_aS : ∀ (d : Fin 2) (s : Fin 3), kind (.dma (sAS d s)) = .aS d s := by decide
theorem kind_aR : ∀ (d : Fin 2) (s : Fin 3), kind (.dma (sAR d s)) = .aR d s := by decide
theorem kind_rS : ∀ (l : Fin 3) (h : Fin 2), kind (.dma (sRS l h)) = .rS l h := by decide
theorem kind_rR : ∀ (l : Fin 3) (h : Fin 2), kind (.dma (sRR l h)) = .rR l h := by decide
theorem kind_gS : ∀ (l : Fin 3) (h : Fin 2), kind (.dma (sGS l h)) = .gS l h := by decide
theorem kind_gR : ∀ (l : Fin 3) (h : Fin 2), kind (.dma (sGR l h)) = .gR l h := by decide
theorem kind_cS : ∀ (d : Fin 2) (s : Fin 3), kind (.dma (sCS d s)) = .cS d s := by decide
theorem kind_cR : ∀ (d : Fin 2) (s : Fin 3), kind (.dma (sCR d s)) = .cR d s := by decide

abbrev barC (c : Dev nD) : GSem nD τ sig := ((c : Thread nD τ), .reg barrier0)
abbrev finC (c : Dev nD) : GSem nD τ sig := ((c : Thread nD τ), .reg finS)
abbrev dC (c : Dev nD) (n : DmaSem sig) : GSem nD τ sig := ((c : Thread nD τ), .dma n)

/-- The five peers, by the number a payer addresses them under; the number under which the peer addresses back. -/
def peer (e : Fin 5) (c : Dev nD) : Dev nD := match e with | 0 => lf c | 1 => rt c | 2 => zp 1 c | 3 => zp 2 c | 4 => zp 3 c
def inv (e : Fin 5) : Fin 5 := match e with | 0 => 1 | 1 => 0 | 2 => 4 | 3 => 3 | 4 => 2
theorem peer_inv : ∀ (e : Fin 5) (c : Dev nD), peer (inv e) (peer e c) = c := by decide +kernel

/-- Direction d's copies address this peer; slot l's copies this one. -/
def eD (d : Fin 2) : Fin 5 := if d = 0 then 1 else 0
def eL (l : Fin 3) : Fin 5 := match l with | 0 => 4 | 1 => 3 | 2 => 2
theorem peer_eD : ∀ (d : Fin 2) (c : Dev nD), peer (eD d) c = to' d c := by decide +kernel
theorem peer_inv_eD : ∀ (d : Fin 2) (c : Dev nD), peer (inv (eD d)) c = fr d c := by decide +kernel

/-- The duties of a cell's one round, named by the payer's number for the cell's device. -/
def dut : K → Finset (Fin 5)
  | .bar | .fin => Finset.univ
  | .aS d _ | .aR d _ | .cS d _ | .cR d _ => {eD d}
  | .rS l _ | .rR l _ | .gS l _ | .gR l _ => {eL l}
  | .other => ∅

/-- A copy's units: of a window, of a strip. -/
abbrev NA : ℕ := (Qm 0 0 : Memref sig .tc .vmem S256x512 .f32).view.dmaCredit
abbrev NB : ℕ := (Sm 0 0 0 : Memref sig .tc .vmem S64x512 .f32).view.dmaCredit
theorem NA_pos : 0 < NA := View.dmaCredit_pos _ (by decide)
theorem NB_pos : 0 < NB := View.dmaCredit_pos _ (by decide)

def amt : K → ℕ
  | .bar | .fin | .other => 1
  | .aS _ _ | .aR _ _ | .cS _ _ | .cR _ _ => NA
  | .rS _ _ | .rR _ _ | .gS _ _ | .gR _ _ => NB
theorem amt_pos (k : K) : 0 < amt k := by cases k <;> first | exact Nat.one_pos | exact NA_pos | exact NB_pos

/-- The share of the own strip that each of the three gather copies reads. -/
def shr (l : Fin 3) : PosShare TreeShare := match l with | 2 => fullShare.left | 1 => fullShare.right.left | 0 => fullShare.right.right

/-- The twenty-four copies a device makes, in the order it starts them: the semaphore counting what was sent, the one
    counting what arrives at the peer, the peer, the step, the units. -/
abbrev Cp : Type := DmaSem sig × DmaSem sig × Fin 5 × ℕ × ℕ
abbrev cA (d : Fin 2) (s : Fin 3) : Cp := (sAS d s, sAR d s, eD d, 2 + s.val, NA)
abbrev cR (l : Fin 3) (h : Fin 2) : Cp := (sRS l h, sRR l h, eL l, 5, NB)
abbrev cG (l : Fin 3) (h : Fin 2) : Cp := (sGS l h, sGR l h, eL l, 6, NB)
abbrev cC (d : Fin 2) (s : Fin 3) : Cp := (sCS d s, sCR d s, eD d, 7 + s.val, NA)
def copyL : List Cp :=
  [cA 0 0, cA 1 0, cA 0 1, cA 1 1, cA 0 2, cA 1 2, cR 2 0, cR 2 1, cR 1 0, cR 1 1, cR 0 0, cR 0 1,
   cG 2 0, cG 2 1, cG 1 0, cG 1 1, cG 0 0, cG 0 1, cC 0 0, cC 1 0, cC 0 1, cC 1 1, cC 0 2, cC 1 2]

/-- The semaphores the kernel has for itself. -/
def dormL : List (SemLoc sig) := SemLoc.reg finS :: copyL.flatMap fun x => [SemLoc.dma x.1, SemLoc.dma x.2.1]
theorem exists_dorm : ∃ s : Finset (SemLoc sig), s = dormL.toFinset := ⟨_, rfl⟩
/-- The same as a set, kept from being computed. -/
def dorm : Finset (SemLoc sig) := Classical.choose exists_dorm
theorem dorm_eq : dorm = dormL.toFinset := Classical.choose_spec exists_dorm
theorem dormL_nodup : dormL.Nodup := by decide +kernel
theorem sep_dorm (Φ : SemLoc sig → sProp 𝕄) : bigSep dorm Φ = bigSepL dormL Φ := bigSep_eq_bigSepL_of_eq dormL dorm_eq dormL_nodup Φ

/-- That device p has opened its cells. -/
def allReached (p : Dev nD) : sProp 𝕄 := bigSep dorm fun sm => reached EM ((p : Thread nD τ), sm) 0
instance allReached_persistent (p : Dev nD) : BI.Persistent (allReached (F := F) p) := by unfold allReached; infer_instance
instance allReached_storable (p : Dev nD) : BI.Storable (upEmb : UEmb _ 𝕄) (allReached (F := F) p) := by unfold allReached; infer_instance
theorem allReached_elim (p : Dev nD) (sm : SemLoc sig) (h : sm ∈ dorm) : (allReached p : sProp 𝕄) ⊢ reached EM ((p : Thread nD τ), sm) 0 :=
  bigSep_elim h

/-- At the entry barrier device p hands its ring neighbour the landing slots of one direction. -/
def barA (d : Fin 2) (p : Dev nD) : sProp 𝕄 := iprop(free (Am d 0) p ∗ free (Am d 1) p ∗ free (Am d 2) p)
/-- And a device of its column the landing slots of one sender. -/
def barB (l : Fin 3) (p : Dev nD) : sProp 𝕄 := iprop(free (Bm l 0) p ∗ free (Bm l 1) p)
def barOf (e : Fin 5) (p : Dev nD) : sProp 𝕄 :=
  match e with | 0 => barA 0 p | 1 => barA 1 p | 2 => barB 0 p | 3 => barB 1 p | 4 => barB 2 p
def barPay (e : Fin 5) (p : Dev nD) : sProp 𝕄 := iprop(barOf e p ∗ allReached p)

/-- The window that device p lends to the far side for the ring's gather, with its copy of step s. -/
def lend (d : Fin 2) (p : Dev nD) (s : ℕ) : sProp 𝕄 := free (Qm (dq (1 - d) p s) (1 - d)) p
def lendA (d : Fin 2) (p : Dev nD) (s : Fin 3) : sProp 𝕄 := if s = 0 then iprop(emp) else lend d p (s.val - 1)
def lendC (d : Fin 2) (p : Dev nD) (s : Fin 3) : sProp 𝕄 := if s = 0 then lend d p 2 else iprop(emp)

variable (A : Dev nD → Vec F S1024x1024 .f32)

/-- What a payment to device c's cell hands over; e is the payer's number for c. -/
def pay (k : K) (c : Dev nD) (e : Fin 5) : sProp 𝕄 :=
  match k with
  | .bar => barPay e (peer (inv e) c)
  | .aS d s => holds (Qm (dq d c s.val) d) c (acc A d c s.val)
  | .aR d s => iprop(holds (Am d s) c (acc A d (fr d c) s.val) ∗ lendA d (fr d c) s)
  | .rR l h => iprop(holds (Bm l h) c (strip (rz c 0) (acc A h (peer (inv (eL l)) c) 3))
      ∗ free (Sm (dq h c 3) (rz c 0) h) (peer (inv (eL l)) c))
  | .gS l h => ptsq (Sm (dq h c 3) (rz c 0) h) c (shr l) (outAll A)
  | .gR l h => pts (Sm (dq h c 3) (rz (peer (inv (eL l)) c) 0) h) c (outAll A)
  | .cS d s => pts (Qm (dq d c (s.val + 3)) d) c (outAll A)
  | .cR d s => iprop(pts (Qm (dq d c s.val) d) c (outAll A) ∗ lendC d (fr d c) s)
  | _ => iprop(emp)

/-- The exchange's schedule: one round per cell. -/
def Rd : Schedule (GSem nD τ sig) (Fin 5) 𝕄 where
  duties g r := if r = 0 ∧ g.1.2 = .tc then dut (kind g.2) else ∅
  unitless _ := False
  amount g _ _ := amt (kind g.2)
  payload g _ e := pay A (kind g.2) g.1.1 e
  amount_pos g _ _ _ := amt_pos _

section Storable
variable {s : Shape} (M : Memref sig .tc .vmem s .f32) (c : Dev nD)
instance ptsq_storable (q : PosShare TreeShare) (f : Buf (Elt F) (M.view.loc (c : Thread nD τ))) : BI.Storable (upEmb : UEmb _ 𝕄) (ptsq M c q f) := by
  unfold ptsq; infer_instance
instance free_storable : BI.Storable (upEmb : UEmb _ 𝕄) (free (F := F) M c) := by unfold free; infer_instance
instance holds_storable (v : Vec F s .f32) : BI.Storable (upEmb : UEmb _ 𝕄) (holds M c v) := by unfold holds; infer_instance
end Storable
instance barOf_storable (e : Fin 5) (p : Dev nD) : BI.Storable (upEmb : UEmb _ 𝕄) (barOf (F := F) e p) := by
  unfold barOf barA barB; split <;> infer_instance
instance barPay_storable (e : Fin 5) (p : Dev nD) : BI.Storable (upEmb : UEmb _ 𝕄) (barPay (F := F) e p) := by
  unfold barPay; infer_instance
instance lendA_storable (d : Fin 2) (p : Dev nD) (s : Fin 3) : BI.Storable (upEmb : UEmb _ 𝕄) (lendA (F := F) d p s) := by
  unfold lendA lend; split <;> infer_instance
instance lendC_storable (d : Fin 2) (p : Dev nD) (s : Fin 3) : BI.Storable (upEmb : UEmb _ 𝕄) (lendC (F := F) d p s) := by
  unfold lendC lend; split <;> infer_instance
instance pay_storable (k : K) (c : Dev nD) (e : Fin 5) : BI.Storable (upEmb : UEmb _ 𝕄) (pay A k c e) := by
  unfold pay; split <;> infer_instance
instance Rd_storable (g : GSem nD τ sig) (r : ℕ) (e : Fin 5) : BI.Storable (upEmb : UEmb _ 𝕄) ((Rd A).payload g r e) :=
  pay_storable A (kind g.2) g.1.1 e

theorem duties_eq (c : Dev nD) (sm : SemLoc sig) : (Rd A).duties ((c : Thread nD τ), sm) 0 = dut (kind sm) := by
  show (if (0 : ℕ) = 0 ∧ (Proc.tc : Proc τ) = .tc then dut (kind sm) else ∅) = _
  exact if_pos ⟨rfl, rfl⟩
theorem duties_later (g : GSem nD τ sig) : ∀ r, 1 ≤ r → (Rd A).duties g r = ∅ := fun r hr => by
  show (if r = 0 ∧ g.1.2 = .tc then dut (kind g.2) else ∅) = _
  exact if_neg fun h => by omega
theorem expect_eq (c : Dev nD) (sm : SemLoc sig) : (Rd A).expect ((c : Thread nD τ), sm) 0 = (dut (kind sm)).card * amt (kind sm) := by
  unfold Schedule.expect Schedule.amountOf
  rw [duties_eq]
  exact (Finset.sum_const_nat fun _ _ => rfl)
theorem rest_eq (c : Dev nD) (sm : SemLoc sig) :
    bigSep ((Rd A).duties ((c : Thread nD τ), sm) 0 \ ∅) (fun e => (Rd A).payload ((c : Thread nD τ), sm) 0 e)
      = bigSep (dut (kind sm)) fun e => pay A (kind sm) c e := by
  rw [Finset.sdiff_empty, duties_eq]; rfl

end Cert.KernelIdeal.Comm

end
-- ==== Proof.KernelIdeal.Ops.lean ====
/-
  ONE OPERATION AT A TIME. What a device owes at each point of its body, and, for each kind of operation of the exchange, the
  rule that steps over it at the schedule's payloads.
-/
module

public import proofs.«01_k».proof.Proof.KernelIdeal.Sched

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

abbrev 𝒱₀ : Variants := Variants.none

/-! ## What a device owes -/

/-- A payment to a peer: the peer, the semaphore, the index, the units. All of them in the order they are made. -/
abbrev Row : Type := Fin 5 × SemLoc sig × ℕ × ℕ
def tbl : List Row :=
  ([0, 1, 2, 3, 4].map fun e => (e, SemLoc.reg barrier0, 1, 1))
    ++ (copyL.map fun x => (x.2.2.1, SemLoc.dma x.2.1, x.2.2.2.1, x.2.2.2.2))
    ++ ([0, 1, 2, 3, 4].map fun e => (e, SemLoc.reg finS, 10, 1))

def pays (c : Dev nD) (r : Row) : Pay nD τ sig := ((((peer r.1 c : Dev nD) : Thread nD τ), r.2.1), r.2.2.1, r.2.2.2)
/-- What is left to pay once the first n payments are made. -/
def dues (c : Dev nD) (n : ℕ) : CellTallies nD τ sig ℕ := tallyL ((tbl.drop n).map (pays c))
theorem dues_step (c : Dev nD) {n : ℕ} {r : Row} (h : tbl[n]? = some r) : dues c n = dues c (n + 1) + (pays c r).tally := by
  obtain ⟨hn, rfl⟩ := List.getElem?_eq_some_iff.mp h
  unfold dues
  rw [List.drop_eq_getElem_cons hn, List.map_cons, tallyL, add_comm]
theorem dues_end (c : Dev nD) : dues c 34 = 0 := rfl

def own (c : Dev nD) (n : ℕ) : sProp 𝕄 := iprop(∃ W, owes (c : Thread nD τ) (dues c n) W)

/-- What is left after n payments stands at indices above i. -/
def Above (n i : ℕ) : Prop := ∀ r ∈ tbl.drop n, i < r.2.2.1 ∧ r.2.2.1 < 11
instance (n i : ℕ) : Decidable (Above n i) := by unfold Above; infer_instance

theorem may (c : Dev nD) (sm : SemLoc sig) {n i : ℕ} (hi : i < 11) (h : Above n i) : (levAts (L 11) lv : sProp 𝕄) ⊢ MayWait (c : Thread nD τ) sm i (dues c n) := by
  refine SiteBlocks.mayWait_of hi c sm _ fun g k hk => ?_
  obtain ⟨x, hx, rfl, rfl⟩ := TalkSites.tallyL_pos hk
  obtain ⟨r, hr, rfl⟩ := List.mem_map.mp hx
  exact ⟨SiteBlocks.mem_L' rfl (h r hr).2, (h r hr).1⟩

/-! ## What a device holds of the protocol -/

/-- The payers' tokens on device c: of its own sends, of what it pays its peers. -/
def tokL (c : Dev nD) : List (GSem nD τ sig × ℕ × Fin 5) :=
  (tbl.map fun r => ((((peer r.1 c : Dev nD) : Thread nD τ), r.2.1), 0, r.1)) ++ copyL.map fun x => (dC c x.1, 0, x.2.2.1)
theorem tokL_nodup : ∀ c : Dev nD, (tokL c).Nodup := by decide +kernel

def tokKey (x : GSem nD τ sig × ℕ × Fin 5) : Dev nD × Fin 1 :=
  (match kind x.1.2 with | .aS _ _ | .rS _ _ | .gS _ _ | .cS _ _ => x.1.1.1 | _ => peer (inv x.2.2) x.1.1.1, 0)

/-- The exchange's cells. -/
def fam : TalkSites.Fam nD τ sig (Fin 5) 1 where
  bar := .reg barrier0
  dorm _ := dorm
  toks c _ := (tokL c).toFinset
  semKey _ := 0
  hsem _ _ _ := Subsingleton.elim _ _
  hbar _ := by rw [dorm_eq]; decide +kernel
  tokKey := tokKey
  htok c j x hx := by
    obtain rfl : j = 0 := Subsingleton.elim _ _
    rw [List.mem_toFinset] at hx
    revert c
    have h : ∀ c : Dev nD, ∀ x ∈ tokL c, tokKey x = (c, 0) := by decide +kernel
    exact fun c hx => h c x hx

variable (A : Dev nD → Vec F S1024x1024 .f32) (κ : GSem nD τ sig → ℕ)

theorem exists_levs : ∃ P : sProp 𝕄, P = levAts (L 11) lv := ⟨_, rfl⟩
/-- The order of the waits, kept from being computed; the cells' invariants likewise. -/
def levs : sProp 𝕄 := Classical.choose exists_levs
theorem levs_eq : (levs : sProp 𝕄) = levAts (L 11) lv := Classical.choose_spec exists_levs
theorem exists_invs : ∃ P : sProp 𝕄, P = fam.cellInvs EM (Rd A) κ := ⟨_, rfl⟩
@[inherit_doc levs] def invs : sProp 𝕄 := Classical.choose (exists_invs A κ)
theorem invs_eq : invs A κ = fam.cellInvs EM (Rd A) κ := Classical.choose_spec (exists_invs A κ)
instance levs_persistent : BI.Persistent (levs : sProp 𝕄) := by rw [levs_eq]; infer_instance
instance invs_persistent : BI.Persistent (invs A κ) := by rw [invs_eq]; infer_instance
theorem levs_may (c : Dev nD) (sm : SemLoc sig) {n i : ℕ} (hi : i < 11) (h : Above n i) : (levs : sProp 𝕄) ⊢ MayWait (c : Thread nD τ) sm i (dues c n) :=
  (Entails.of_eq levs_eq).trans (may c sm hi h)
theorem invs_dorm (c : Dev nD) {sm : SemLoc sig} (h : sm ∈ dorm) : invs A κ ⊢ cellInv EM (Rd A) (κ ((c : Thread nD τ), sm)) ((c : Thread nD τ), sm) :=
  (Entails.of_eq (invs_eq A κ)).trans (fam.cellInvs_dorm EM (Rd A) κ c (j := 0) h)
theorem invs_bar (c : Dev nD) : invs A κ ⊢ cellInv EM (Rd A) (κ (barC c)) (barC c) :=
  (Entails.of_eq (invs_eq A κ)).trans (fam.cellInvs_bar EM (Rd A) κ c)

/-- What every device knows after the entry barrier: the cells' invariants, the order of the waits, that its own cells and its
    peers' are open. -/
def wld (c : Dev nD) : sProp 𝕄 :=
  iprop(invs A κ ∗ levs ∗ allReached c ∗ bigSep Finset.univ fun e : Fin 5 => allReached (peer e c))
instance wld_persistent (c : Dev nD) : BI.Persistent (wld A κ c) := by unfold wld; infer_instance

/-- What is waited with on a copy's semaphore. -/
def wt (c : Dev nD) (sm : DmaSem sig) (l N : ℕ) : sProp 𝕄 := iprop(atPos EM (dC c sm) 0 ∅ 0 ∗ cred (tallyAt (dC c sm) l N))
/-- A cell whose round is over. -/
def dn (c : Dev nD) (sm : SemLoc sig) : sProp 𝕄 := atPos EM ((c : Thread nD τ), sm) 1 ∅ 0
/-- What a copy is started with, and what is held once it is started. -/
def kit (c : Dev nD) (x : Cp) : sProp 𝕄 :=
  iprop(wt c x.2.1 x.2.2.2.1 x.2.2.2.2 ∗ atPos EM (dC c x.1) 0 ∅ 0
    ∗ dutyTok EM (dC c x.1) 0 x.2.2.1 ∗ dutyTok EM (dC (peer x.2.2.1 c) x.2.1) 0 x.2.2.1)
def sent (c : Dev nD) (x : Cp) : sProp 𝕄 :=
  iprop(wt c x.2.1 x.2.2.2.1 x.2.2.2.2 ∗ wt c x.1 x.2.2.2.1 x.2.2.2.2)

/-- Each copy's two cells are the kernel's own, with the one duty and the units the table says. -/
theorem copy_facts : ∀ x ∈ copyL, (SemLoc.dma x.1 ∈ dorm ∧ SemLoc.dma x.2.1 ∈ dorm) ∧ dut (kind (.dma x.1)) = {x.2.2.1} ∧ dut (kind (.dma x.2.1)) = {x.2.2.1} := by
  rw [dorm_eq]; decide +kernel
theorem copy_amt : copyL.Forall fun x => amt (kind (.dma x.1)) = x.2.2.2.2 ∧ amt (kind (.dma x.2.1)) = x.2.2.2.2 := by
  refine ⟨?_, ?_, ?_, ?_, ?_, ?_, ?_, ?_, ?_, ?_, ?_, ?_, ?_, ?_, ?_, ?_, ?_, ?_, ?_, ?_, ?_, ?_, ?_, ?_⟩ <;> exact ⟨rfl, rfl⟩

end Cert.KernelIdeal.Comm

end
-- ==== Proof.KernelIdeal.Rules.lean ====
/-
  THE RULES: a signal, a wait, a copy of each kind, a load and a store, each over the assertions the exchange is stated in.
  A rule takes the operation under the names the program prints, with the equations to the exchange's names.
-/
module

public import proofs.«01_k».proof.Proof.KernelIdeal.Ops

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ)

/-! ## What a window holds -/

section Windows
variable {s : Shape} (M : Memref sig .tc .vmem s .f32) (c : Dev nD)

theorem holds_intro (g : Buf (Elt F) (M.view.loc (c : Thread nD τ))) : (pts M c g : sProp 𝕄) ⊢ holds M c (M.view.read (Elt F) g) := by
  unfold holds
  iintro H; iexists g; isplitl [H]; · iexact H
  ipureintro; rfl
theorem read_eq_on {f g : M.view.ty.Contents (Elt F)} (h : M.view.read (Elt F) f = M.view.read (Elt F) g) : ∀ i ∈ M.view.set, f i = g i := by
  intro i hi
  obtain ⟨y, -, rfl⟩ := Finset.mem_map.mp hi
  have := congrFun h y
  rw [View.read_apply, View.read_apply] at this
  exact (cast_inj _).mp this
/-- Contents a window reads as those of g are g, as far as the window goes. -/
theorem pts_of_read {q : PosShare TreeShare} {f g : Buf (Elt F) (M.view.loc (c : Thread nD τ))} (h : M.view.read (Elt F) f = M.view.read (Elt F) g) :
    (ptsq M c q f : sProp 𝕄) = ptsq M c q g := pointsTo_congr fun i hi => read_eq_on M h i hi
theorem holds_pts (g : Buf (Elt F) (M.view.loc (c : Thread nD τ))) : (holds M c (M.view.read (Elt F) g) : sProp 𝕄) ⊢ pts M c g := by
  unfold holds
  iintro ⟨%f, H, %h⟩
  iapply (Entails.of_eq (pts_of_read M c h)) $$ H
theorem write_holds (fd : Buf (Elt F) (M.view.loc (c : Thread nD τ))) (v : Vec F s .f32) : (pts M c (M.view.write (Elt F) fd v Finset.univ) : sProp 𝕄) ⊢ holds M c v :=
  (holds_intro M c _).trans (Entails.of_eq (by rw [View.read_write_univ]))
end Windows

theorem wld_inv (c c' : Dev nD) {sm : SemLoc sig} (h : sm ∈ dorm) : wld A κ c ⊢ cellInv EM (Rd A) (κ ((c' : Thread nD τ), sm)) ((c' : Thread nD τ), sm) :=
  sep_elim_left.trans (invs_dorm A κ c' h)
theorem wld_may (c : Dev nD) (sm : SemLoc sig) {n i : ℕ} (hi : i < 11) (h : Above n i) : wld A κ c ⊢ MayWait (c : Thread nD τ) sm i (dues c n) :=
  (sep_elim_right.trans sep_elim_left).trans (levs_may c sm hi h)
theorem wld_self (c : Dev nD) (sm : SemLoc sig) (h : sm ∈ dorm) : wld A κ c ⊢ reached EM ((c : Thread nD τ), sm) 0 :=
  (sep_elim_right.trans (sep_elim_right.trans sep_elim_left)).trans (allReached_elim c sm h)
theorem wld_peer (c : Dev nD) (e : Fin 5) (sm : SemLoc sig) (h : sm ∈ dorm) : wld A κ c ⊢ reached EM (((peer e c : Dev nD) : Thread nD τ), sm) 0 :=
  (sep_elim_right.trans (sep_elim_right.trans sep_elim_right)).trans
    ((bigSep_elim (Φ := fun e : Fin 5 => (allReached (peer e c) : sProp 𝕄)) (Finset.mem_univ e)).trans (allReached_elim _ sm h))

/-! ## Signals and waits -/

section Rules
variable {c : Dev nD}

theorem signal {Q : PUnit.{1} → sProp 𝕄} {n : ℕ} {e : Fin 5} {sm : Sem sig} {l : ℕ} {κ₀ : ℕ} (hn : tbl[n]? = some (e, .reg sm, l, 1)) (hd : e ∈ dut (kind (.reg sm))) (ha : amt (kind (.reg sm)) = 1)
    {p : Dev nD} (hp : p = peer e c) {sm0 : Sem sig} (hs : sm0 = sm) :
    iprop(cellInv EM (Rd A) κ₀ (((peer e c : Dev nD) : Thread nD τ), .reg sm) ∗ reached EM (((peer e c : Dev nD) : Thread nD τ), .reg sm) 0
        ∗ dutyTok EM (((peer e c : Dev nD) : Thread nD τ), .reg sm) 0 e ∗ pay A (kind (.reg sm)) (peer e c) e ∗ own c n)
      ⊢ iprop((own c (n + 1) -∗ Q ⟨⟩) -∗ wp frame (wpE (defs₀ (F := F)) 𝒱₀ c none) Set.univ (semSignalWord p sm0 1#32) Q) := by
  subst hp hs
  unfold own
  iintro ⟨HI, Hr, Ht, Hp, ⟨%W, HO⟩⟩ Hk
  unfold semSignalWord
  iapply (Rounds.wp_signal 𝒱₀ EM (Rd A) (c : Thread nD τ) none (dst := ((peer e c : Dev nD) : Thread nD τ)) (sem := sm0) (r := 0) (d := e) (κ := κ₀)
      (by rw [duties_eq]; exact hd) (ha.trans rfl) l (dues c (n + 1)) (dues_step c hn)) $$ [HI Hr Ht Hp HO]
  · isplitl [HI]; · iexact HI
    isplitl [HO]; · iexact HO
    isplitl [Ht]; · iexact Ht
    isplitl [Hp]; · iapply (Entails.of_eq (show pay A (kind (SemLoc.reg sm0)) (peer e c) e = (Rd A).payload (((peer e c : Dev nD) : Thread nD τ), SemLoc.reg sm0) 0 e from rfl)) $$ Hp
    iexact Hr
  iintro HO
  rw [wp_ret]
  imodintro
  iapply Hk
  iexists W; iexact HO

theorem wait_reg {Q : PUnit.{1} → sProp 𝕄} {n : ℕ} {sm : Sem sig} {l : ℕ} {κ₀ : ℕ} (hl : l < 11) (ha : Above n l) (hx : (dut (kind (.reg sm))).card * amt (kind (.reg sm)) = 5) {sm0 : Sem sig} (hs : sm0 = sm) :
    iprop(cellInv EM (Rd A) κ₀ ((c : Thread nD τ), .reg sm) ∗ levs ∗ atPos EM ((c : Thread nD τ), .reg sm) 0 ∅ 0
        ∗ cred (tallyAt ((c : Thread nD τ), .reg sm) l 5) ∗ own c n)
      ⊢ iprop(((own (F := F) c n ∗ dn (F := F) c (.reg sm) ∗ bigSep (dut (kind (.reg sm))) fun e => pay A (kind (.reg sm)) c e) -∗ Q ⟨⟩)
        -∗ wp frame (wpE (defs₀ (F := F)) 𝒱₀ c none) Set.univ (semWaitWord sm0 5#32) Q) := by
  subst hs
  unfold own dn
  iintro ⟨HI, Hlev, Hat, Hc, ⟨%W, HO⟩⟩ Hk
  unfold semWaitWord
  iapply (Rounds.wp_wait_rest_token 𝒱₀ EM (Rd A) (c : Thread nD τ) none (κ := κ₀)
      (wpE_semWait_eq 𝒱₀ (c : Thread nD τ) none Set.univ) (Set.mem_univ _) l (O := dues c n) (W := W) (R := 0) (m := 0) (T := ∅)
      (show 0 + 5 = _ by rw [expect_eq, hx])) $$ [HI Hc HO Hlev Hat]
  · isplitl [HI]; · iexact HI
    isplitl [Hc]; · iexact Hc
    isplitl [HO]; · iexact HO
    isplitl [Hlev]; · iapply (levs_may c _ hl ha) $$ Hlev
    iexact Hat
  iintro ⟨HO, Hat, -, Hp⟩
  rw [wp_ret]
  imodintro
  iapply Hk
  isplitl [HO]; · iexists _; iexact HO
  isplitl [Hat]; · iexact Hat
  iapply (Entails.of_eq (rest_eq A c (.reg sm0))) $$ Hp

theorem wait {Q : PUnit.{1} → sProp 𝕄} {x : Cp} (hx : x ∈ copyL) {n : ℕ} {sm : DmaSem sig} (hsm : sm = x.1 ∨ sm = x.2.1) (hl : x.2.2.2.1 < 11) (ha : Above n x.2.2.2.1)
    {s : Shape} {src dst : Memref sig .tc .vmem s .f32} (hN : dst.view.dmaCredit = x.2.2.2.2) {sm0 : DmaSem sig} (hs : sm0 = sm) {hsrc : src.view.WordExact} {hdst : dst.view.WordExact} :
    iprop(wld A κ c ∗ wt c sm x.2.2.2.1 x.2.2.2.2 ∗ own c n)
      ⊢ iprop(((own (F := F) c n ∗ dn (F := F) c (.dma sm) ∗ pay A (kind (.dma sm)) c x.2.2.1) -∗ Q ⟨⟩)
        -∗ wp frame (wpE (defs₀ (F := F)) 𝒱₀ c none) Set.univ (Prog.lift (.waitDma2 sm0 src dst hsrc hdst)) Q) := by
  subst hs
  obtain ⟨⟨hd₁, hd₂⟩, hdut₁, hdut₂⟩ := copy_facts x hx
  obtain ⟨hamt₁, hamt₂⟩ := List.forall_iff_forall_mem.mp copy_amt x hx
  have hd : SemLoc.dma sm0 ∈ dorm := by rcases hsm with rfl | rfl <;> assumption
  have hdut : dut (kind (.dma sm0)) = {x.2.2.1} := by rcases hsm with rfl | rfl <;> assumption
  have hamt : amt (kind (.dma sm0)) = x.2.2.2.2 := by rcases hsm with rfl | rfl <;> assumption
  unfold wt own dn
  iintro ⟨#Hw, ⟨Hat, Hc⟩, ⟨%W, HO⟩⟩ Hk
  iapply (Rounds.wp_wait_rest_token 𝒱₀ EM (Rd A) (c : Thread nD τ) none (κ := κ (dC c sm0))
      (wpE_waitDma2_eq (src := src) (dst := dst) 𝒱₀ (c : Thread nD τ) none Set.univ) (Set.mem_univ _) x.2.2.2.1 (O := dues c n) (W := W) (R := 0) (m := 0) (T := ∅)
      (show 0 + dst.view.dmaCredit = _ by rw [expect_eq, hdut, hamt, hN]; simp)) $$ [Hc HO Hat]
  · isplitr; · iapply (wld_inv A κ c c hd) $$ Hw
    isplitl [Hc]; · rw [hN]; iexact Hc
    isplitl [HO]; · iexact HO
    isplitr; · iapply (wld_may A κ c _ hl ha) $$ Hw
    iexact Hat
  iintro ⟨HO, Hat, -, Hp⟩
  rw [wp_ret]
  imodintro
  iapply Hk
  isplitl [HO]; · iexists _; iexact HO
  isplitl [Hat]; · iexact Hat
  iapply (Entails.of_eq ((rest_eq A c (.dma sm0)).trans (by rw [hdut, bigSep_singleton]))) $$ Hp

/-! ## Copies -/

/-- The machine's rule for a copy to a peer, at this schedule. -/
theorem snd_op {Q : PUnit.{1} → sProp 𝕄} {n : ℕ} {sS sR : DmaSem sig} {e : Fin 5} {l N : ℕ}
    {s : Shape} {src dst : Memref sig .tc .vmem s .f32} (hN : dst.view.dmaCredit = N)
    {q : PosShare TreeShare} {fs : Buf (Elt F) (src.view.loc (c : Thread nD τ))} {X : sProp 𝕄}
    (ha₁ : (Rd A).amount (dC c sS) 0 e = N) (ha₂ : (Rd A).amount (dC (peer e c) sR) 0 e = N)
    (hu₁ : e ∈ (Rd A).duties (dC c sS) 0) (hu₂ : e ∈ (Rd A).duties (dC (peer e c) sR) 0)
    (hdd : dues c n = dues c (n + 1) + tallyAt (dC (peer e c) sR) l N)
    (h₁ : ptsq src c q fs ⊢ (Rd A).payload (dC c sS) 0 e)
    {W : Waits sig ℕ} {fd : Buf (Elt F) (dst.view.loc ((peer e c : Dev nD) : Thread nD τ))} {κ₁ κ₂ : ℕ}
    (h₂ : iprop(pts dst (peer e c) (dst.view.write (Elt F) fd (src.view.read (Elt F) fs) Finset.univ) ∗ X) ⊢ (Rd A).payload (dC (peer e c) sR) 0 e)
    {hsc} {hsrc : src.view.WordExact} {hdst : dst.view.WordExact} {hsem} :
    iprop(cellInv EM (Rd A) κ₁ (dC c sS) ∗ cellInv EM (Rd A) κ₂ (dC (peer e c) sR)
        ∗ (src.view.loc (c : Thread nD τ) ↦[src.view.set]{q} fs) ∗ ((dst.view.loc ((peer e c : Dev nD) : Thread nD τ) ↦[dst.view.set]{fullShare} fd) ∗ X)
        ∗ owes (c : Thread nD τ) (dues c n) W
        ∗ dutyTok EM (dC c sS) 0 e ∗ reached EM (dC c sS) 0
        ∗ dutyTok EM (dC (peer e c) sR) 0 e ∗ reached EM (dC (peer e c) sR) 0)
      ⊢ iprop(((cred (tallyAt (dC c sS) l N) ∗ owes (c : Thread nD τ) (dues c (n + 1)) W) -∗ wp frame (wpE (defs₀ (F := F)) 𝒱₀ c none) Set.univ (.ret ⟨⟩) Q)
          -∗ wp frame (wpE (defs₀ (F := F)) 𝒱₀ c none) Set.univ (Prog.lift (.enqueueDma src (.remote (Dev.tc (peer e c)) dst (.dma sS) hsc) (.dma sR) hsrc hdst hsem)) Q) :=
  Rounds.wp_send_pointsTo_with 𝒱₀ EM (Rd A) (c : Thread nD τ) none (c' := ((peer e c : Dev nD) : Thread nD τ)) (src := src) (dst := dst)
    (sS := .dma sS) (sem := .dma sR) (q := q) (fs := fs) (fd := fd) (F := X) (κ₁ := κ₁) (κ₂ := κ₂)
    (r₁ := 0) (r₂ := 0) (d₁ := e) (d₂ := e) hu₁ hu₂ l l N hN ha₁ ha₂ (dues c (n + 1)) hdd (W := W) h₁ h₂

/-- And where the source goes along with what arrives. -/
theorem snd_land_op {Q : PUnit.{1} → sProp 𝕄} {n : ℕ} {sS sR : DmaSem sig} {e : Fin 5} {l N : ℕ}
    {s : Shape} {src dst : Memref sig .tc .vmem s .f32} (hN : dst.view.dmaCredit = N)
    {fs : Buf (Elt F) (src.view.loc (c : Thread nD τ))}
    (ha₁ : (Rd A).amount (dC c sS) 0 e = N) (ha₂ : (Rd A).amount (dC (peer e c) sR) 0 e = N)
    (hu₁ : e ∈ (Rd A).duties (dC c sS) 0) (hu₂ : e ∈ (Rd A).duties (dC (peer e c) sR) 0)
    (hdd : dues c n = dues c (n + 1) + tallyAt (dC (peer e c) sR) l N)
    (h₁ : (iprop(emp) : sProp 𝕄) ⊢ (Rd A).payload (dC c sS) 0 e)
    {W : Waits sig ℕ} {fd : Buf (Elt F) (dst.view.loc ((peer e c : Dev nD) : Thread nD τ))} {κ₁ κ₂ : ℕ}
    (h₂ : iprop(pts dst (peer e c) (dst.view.write (Elt F) fd (src.view.read (Elt F) fs) Finset.univ) ∗ pts src c fs) ⊢ (Rd A).payload (dC (peer e c) sR) 0 e)
    {hsc} {hsrc : src.view.WordExact} {hdst : dst.view.WordExact} {hsem} :
    iprop(cellInv EM (Rd A) κ₁ (dC c sS) ∗ cellInv EM (Rd A) κ₂ (dC (peer e c) sR)
        ∗ (src.view.loc (c : Thread nD τ) ↦[src.view.set]{fullShare} fs) ∗ (dst.view.loc ((peer e c : Dev nD) : Thread nD τ) ↦[dst.view.set]{fullShare} fd)
        ∗ owes (c : Thread nD τ) (dues c n) W
        ∗ dutyTok EM (dC c sS) 0 e ∗ reached EM (dC c sS) 0
        ∗ dutyTok EM (dC (peer e c) sR) 0 e ∗ reached EM (dC (peer e c) sR) 0)
      ⊢ iprop(((cred (tallyAt (dC c sS) l N) ∗ owes (c : Thread nD τ) (dues c (n + 1)) W) -∗ wp frame (wpE (defs₀ (F := F)) 𝒱₀ c none) Set.univ (.ret ⟨⟩) Q)
          -∗ wp frame (wpE (defs₀ (F := F)) 𝒱₀ c none) Set.univ (Prog.lift (.enqueueDma src (.remote (Dev.tc (peer e c)) dst (.dma sS) hsc) (.dma sR) hsrc hdst hsem)) Q) :=
  Rounds.wp_send_landing_pointsTo 𝒱₀ EM (Rd A) (c : Thread nD τ) none (c' := ((peer e c : Dev nD) : Thread nD τ)) (src := src) (dst := dst)
    (sS := .dma sS) (sem := .dma sR) (q := fullShare) (fs := fs) (fd := fd) (κ₁ := κ₁) (κ₂ := κ₂)
    (r₁ := 0) (r₂ := 0) (d₁ := e) (d₂ := e) hu₁ hu₂ l l N hN ha₁ ha₂ (dues c (n + 1)) hdd (W := W) h₁ h₂

theorem snd {Q : PUnit.{1} → sProp 𝕄} {x : Cp} (hx : x ∈ copyL) {n : ℕ} (hn : tbl[n]? = some (x.2.2.1, .dma x.2.1, x.2.2.2.1, x.2.2.2.2))
    {s : Shape} {src dst : Memref sig .tc .vmem s .f32} (hN : dst.view.dmaCredit = x.2.2.2.2)
    {q : PosShare TreeShare} {fs : Buf (Elt F) (src.view.loc (c : Thread nD τ))} {X : sProp 𝕄}
    (h₁ : ptsq src c q fs ⊢ pay A (kind (.dma x.1)) c x.2.2.1)
    (h₂ : ∀ fd : Buf (Elt F) (dst.view.loc ((peer x.2.2.1 c : Dev nD) : Thread nD τ)),
      iprop(pts dst (peer x.2.2.1 c) (dst.view.write (Elt F) fd (src.view.read (Elt F) fs) Finset.univ) ∗ X) ⊢ pay A (kind (.dma x.2.1)) (peer x.2.2.1 c) x.2.2.1)
    {p : Dev nD} (hp : p = peer x.2.2.1 c) {src0 dst0 : Memref sig .tc .vmem s .f32} (hs : src0 = src) (hd : dst0 = dst) {sS0 sR0 : DmaSem sig} (hS : sS0 = x.1) (hR : sR0 = x.2.1)
    {hsc} {hsrc : src0.view.WordExact} {hdst : dst0.view.WordExact} {hsem} :
    iprop(wld A κ c ∗ kit c x ∗ ptsq src c q fs ∗ free dst (peer x.2.2.1 c) ∗ X ∗ own c n)
      ⊢ iprop(((own c (n + 1) ∗ sent c x) -∗ Q ⟨⟩)
        -∗ wp frame (wpE (defs₀ (F := F)) 𝒱₀ c none) Set.univ (Prog.lift (.enqueueDma src0 (.remote (Dev.tc p) dst0 (.dma sS0) hsc) (.dma sR0) hsrc hdst hsem)) Q) := by
  subst hp hs hd hS hR
  obtain ⟨⟨hd₁, hd₂⟩, hdut₁, hdut₂⟩ := copy_facts x hx
  obtain ⟨hamt₁, hamt₂⟩ := List.forall_iff_forall_mem.mp copy_amt x hx
  have hu₁ : x.2.2.1 ∈ (Rd A).duties (dC c x.1) 0 := by rw [duties_eq, hdut₁]; exact Finset.mem_singleton_self _
  have hu₂ : x.2.2.1 ∈ (Rd A).duties (dC (peer x.2.2.1 c) x.2.1) 0 := by rw [duties_eq, hdut₂]; exact Finset.mem_singleton_self _
  unfold kit sent wt own free
  iintro ⟨#Hw, ⟨Hwr, Hat, Ht₁, Ht₂⟩, Hsrc, ⟨%fd, Hdst⟩, HX, ⟨%W, HO⟩⟩ Hk
  iapply (snd_op A (κ₁ := κ (dC c x.1)) (κ₂ := κ (dC (peer x.2.2.1 c) x.2.1)) hN hamt₁ hamt₂ hu₁ hu₂ (dues_step c hn) h₁ (h₂ fd)) $$ [Hsrc Hdst HX HO Ht₁ Ht₂]
  · isplitr; · iapply (wld_inv A κ c c hd₁) $$ Hw
    isplitr; · iapply (wld_inv A κ c (peer x.2.2.1 c) hd₂) $$ Hw
    isplitl [Hsrc]; · iexact Hsrc
    isplitl [Hdst HX]; · isplitl [Hdst] <;> iassumption
    isplitl [HO]; · iexact HO
    isplitl [Ht₁]; · iexact Ht₁
    isplitr; · iapply (wld_self A κ c _ hd₁) $$ Hw
    isplitl [Ht₂]; · iexact Ht₂
    iapply (wld_peer A κ c x.2.2.1 _ hd₂) $$ Hw
  iintro ⟨Hcr, HO⟩
  rw [wp_ret]
  imodintro
  iapply Hk
  isplitl [HO]; · iexists W; iexact HO
  isplitl [Hwr]; · iexact Hwr
  isplitl [Hat]; · iexact Hat
  iexact Hcr

/-- A copy whose source the receiver gets with what arrives. -/
theorem snd_land {Q : PUnit.{1} → sProp 𝕄} {x : Cp} (hx : x ∈ copyL) {n : ℕ} (hn : tbl[n]? = some (x.2.2.1, .dma x.2.1, x.2.2.2.1, x.2.2.2.2))
    {s : Shape} {src dst : Memref sig .tc .vmem s .f32} (hN : dst.view.dmaCredit = x.2.2.2.2)
    {fs : Buf (Elt F) (src.view.loc (c : Thread nD τ))}
    (h₁ : (iprop(emp) : sProp 𝕄) ⊢ pay A (kind (.dma x.1)) c x.2.2.1)
    (h₂ : ∀ fd : Buf (Elt F) (dst.view.loc ((peer x.2.2.1 c : Dev nD) : Thread nD τ)),
      iprop(pts dst (peer x.2.2.1 c) (dst.view.write (Elt F) fd (src.view.read (Elt F) fs) Finset.univ) ∗ pts src c fs) ⊢ pay A (kind (.dma x.2.1)) (peer x.2.2.1 c) x.2.2.1)
    {p : Dev nD} (hp : p = peer x.2.2.1 c) {src0 dst0 : Memref sig .tc .vmem s .f32} (hs : src0 = src) (hd : dst0 = dst) {sS0 sR0 : DmaSem sig} (hS : sS0 = x.1) (hR : sR0 = x.2.1)
    {hsc} {hsrc : src0.view.WordExact} {hdst : dst0.view.WordExact} {hsem} :
    iprop(wld A κ c ∗ kit c x ∗ pts src c fs ∗ free dst (peer x.2.2.1 c) ∗ own c n)
      ⊢ iprop(((own c (n + 1) ∗ sent c x) -∗ Q ⟨⟩)
        -∗ wp frame (wpE (defs₀ (F := F)) 𝒱₀ c none) Set.univ (Prog.lift (.enqueueDma src0 (.remote (Dev.tc p) dst0 (.dma sS0) hsc) (.dma sR0) hsrc hdst hsem)) Q) := by
  subst hp hs hd hS hR
  obtain ⟨⟨hd₁, hd₂⟩, hdut₁, hdut₂⟩ := copy_facts x hx
  obtain ⟨hamt₁, hamt₂⟩ := List.forall_iff_forall_mem.mp copy_amt x hx
  have hu₁ : x.2.2.1 ∈ (Rd A).duties (dC c x.1) 0 := by rw [duties_eq, hdut₁]; exact Finset.mem_singleton_self _
  have hu₂ : x.2.2.1 ∈ (Rd A).duties (dC (peer x.2.2.1 c) x.2.1) 0 := by rw [duties_eq, hdut₂]; exact Finset.mem_singleton_self _
  unfold kit sent wt own free
  iintro ⟨#Hw, ⟨Hwr, Hat, Ht₁, Ht₂⟩, Hsrc, ⟨%fd, Hdst⟩, ⟨%W, HO⟩⟩ Hk
  iapply (snd_land_op A (κ₁ := κ (dC c x.1)) (κ₂ := κ (dC (peer x.2.2.1 c) x.2.1)) hN hamt₁ hamt₂ hu₁ hu₂ (dues_step c hn) h₁ (h₂ fd)) $$ [Hsrc Hdst HO Ht₁ Ht₂]
  · isplitr; · iapply (wld_inv A κ c c hd₁) $$ Hw
    isplitr; · iapply (wld_inv A κ c (peer x.2.2.1 c) hd₂) $$ Hw
    isplitl [Hsrc]; · iexact Hsrc
    isplitl [Hdst]; · iexact Hdst
    isplitl [HO]; · iexact HO
    isplitl [Ht₁]; · iexact Ht₁
    isplitr; · iapply (wld_self A κ c _ hd₁) $$ Hw
    isplitl [Ht₂]; · iexact Ht₂
    iapply (wld_peer A κ c x.2.2.1 _ hd₂) $$ Hw
  iintro ⟨Hcr, HO⟩
  rw [wp_ret]
  imodintro
  iapply Hk
  isplitl [HO]; · iexists W; iexact HO
  isplitl [Hwr]; · iexact Hwr
  isplitl [Hat]; · iexact Hat
  iexact Hcr

end Rules

end Cert.KernelIdeal.Comm

end
-- ==== Proof.KernelIdeal.Share.lean ====
/-
  ONE DEVICE'S SHARE. What a device's eight heads add to the result, as a function of the blocks it reads.
-/
module

public import proofs.«01_k».proof.Proof.Gen.KernelIdeal.Skeleton

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Which pairs of positions attend to each other, by the program's integer arithmetic. -/
def mask : IVec S1024x1024 1 :=
  k0_pay8 (k0_pay4 (iota .tc S1024x1024 32 [0] iota_S1024x1024_d0_w32) 64#32 k0_pay2 k0_pay3) k0_pay5
    (k0_pay6 (iota .tc S1024x1024 32 [0] iota_S1024x1024_d0_w32) 64#32 k0_pay2 k0_pay3) k0_pay7

/-- One head: its queries, keys and values. -/
def head (q k v : FVec F S1024x128 .f32) : FVec F S1024x128 .f32 := k0_pay13 mask q k v (constant S1024x1024 .f32 0x00000000#32)

theorem slices_q : ∀ h : Fin 8, S1024x1024.Slices ![0, 128 * h.val] S1024x128 := by decide
/-- Head h's queries. -/
def qs (q : FVec F S1024x1024 .f32) (h : Fin 8) : FVec F S1024x128 .f32 := extractStridedSlice S1024x128 ![0, 128 * h.val] q (slices_q h)
/-- Head h's slab of a block of keys or of values. -/
def slab (K : Vec F S1024x8x128 .f32) (h : Fin 8) : Vec F S1024x1x128 .f32 := fun i => K (fun | 0 => i 0 | 1 => h | 2 => i 2)
def sq (x : Vec F S1024x1x128 .f32) : FVec F S1024x128 .f32 := shapeCast S1024x128 x shapeCasts_S1024x1x128_S1024x128

/-- What head h leaves in its columns of the context. -/
def hd (q : FVec F S1024x1024 .f32) (K V : Vec F S1024x8x128 .f32) (h : Fin 8) : FVec F S1024x128 .f32 := head (qs q h) (sq (slab K h)) (sq (slab V h))
/-- The context: eight heads side by side. -/
def ctx (q : FVec F S1024x1024 .f32) (K V : Vec F S1024x8x128 .f32) : Vec F S1024x1024 .f32 := fun i =>
  hd q K V ⟨(i 1).val / 128, by have h : (i 1).val < 1024 := (i 1).isLt; omega⟩
    (fun | 0 => ⟨(i 0).val, (i 0).isLt⟩ | 1 => ⟨(i 1).val % 128, Nat.mod_lt _ (by decide)⟩)
/-- The device's share of the result. -/
def share (x wq : Vec F S1024x1024 .f32) (K V : Vec F S1024x8x128 .f32) (wo : Vec F S1024x1024 .f32) : FVec F S1024x1024 .f32 :=
  k0_pay27 (ctx (k0_pay1 x wq) K V) wo

/-- The columns of head h. -/
def cols (G : Vec F S1024x1024 .f32) (h : Fin 8) : Vec F S1024x128 .f32 := fun i =>
  G (fun | 0 => ⟨(i 0).val, (i 0).isLt⟩ | 1 => ⟨128 * h.val + (i 1).val, by have h' : (i 1).val < 128 := (i 1).isLt; have := h.isLt; show _ < 1024; omega⟩)
theorem cols_ctx (q : FVec F S1024x1024 .f32) (K V : Vec F S1024x8x128 .f32) (h : Fin 8) : cols (ctx q K V) h = hd q K V h := by
  funext i
  have h' : (i 1).val < 128 := (i 1).isLt
  have key : ∀ (h₂ : Fin 8) (j : S1024x128.Idx), h₂ = h → j = i → hd q K V h₂ j = hd q K V h i := by rintro _ _ rfl rfl; rfl
  refine key _ _ (Fin.ext ?_) (funext fun a => ?_)
  · show (128 * h.val + (i 1).val) / 128 = h.val
    omega
  · match a with
    | 0 => rfl
    | 1 => exact Fin.ext (show (128 * h.val + (i 1).val) % 128 = (i 1).val by omega)

section Payloads
variable (q : FVec F S1024x1024 .f32) (K V : Vec F S1024x8x128 .f32)
theorem head0 : k0_pay9 q (k0_pay4 (iota .tc S1024x1024 32 [0] iota_S1024x1024_d0_w32) 64#32 k0_pay2 k0_pay3) k0_pay5
    (k0_pay6 (iota .tc S1024x1024 32 [0] iota_S1024x1024_d0_w32) 64#32 k0_pay2 k0_pay3) k0_pay7 (slab K 0) (slab V 0) = hd q K V 0 := rfl
theorem head1 : k0_pay13 mask (k0_pay10 q) (k0_pay11 (slab K 1)) (k0_pay12 (slab V 1)) (constant S1024x1024 .f32 0x00000000#32) = hd q K V 1 := rfl
theorem head2 : k0_pay15 (k0_pay14 q mask (slab K 2) (slab V 2)) = hd q K V 2 := rfl
theorem head3 : k0_pay16 q mask (slab K 3) (slab V 3) = hd q K V 3 := rfl
theorem head4 : k0_pay20 mask (k0_pay17 (slab V 4)) (k0_pay18 q (slab K 4)) (k0_pay19 (F := F)) = hd q K V 4 := rfl
theorem head5 : k0_pay21 q mask (slab K 5) (slab V 5) = hd q K V 5 := rfl
theorem head6 : k0_pay23 mask (k0_pay22 q) (slab K 6) (slab V 6) = hd q K V 6 := rfl
theorem head7 : k0_pay26 (k0_pay24 (slab V 7)) (k0_pay25 q mask (slab K 7)) = hd q K V 7 := rfl
end Payloads

end Cert.KernelIdeal.Comm

end
-- ==== Proof.KernelIdeal.Local.lean ====
/-
  THE LOCAL PART. The pieces of the program before the exchange: a device reads its blocks and computes its share.
-/
module

public import proofs.«01_k».proof.Proof.KernelIdeal.Rules
public import proofs.«01_k».proof.Proof.KernelIdeal.Share
public import Idealize.ShloMosaic.Lib.Memref

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable {c : Dev nD}

/-- A block held whole, at its values. -/
abbrev blk {s : Shape} (m : Memref sig .tc .vmem s .f32) (c : Dev nD) (X : Vec F s .f32) : sProp 𝕄 := owns (c : Thread nD τ) m fullShare X

theorem ld_r {s : Shape} {m : Memref sig .tc .vmem s .f32} {X : Vec F s .f32} (r : Rect s) {hl} {Q : Vec F r.shape .f32 → sProp 𝕄} :
    blk m c X ⊢ iprop((blk m c X -∗ Q fun i => X (r.emb i))
      -∗ wp frame (wpE (defs₀ (F := F)) 𝒱₀ c none) Set.univ (Prog.lift (.load m r.toLoadRect hl)) Q) := by
  unfold blk owns
  iintro ⟨%f, %hf, H⟩ Hk
  iapply (wp_load_rect 𝒱₀ (c : Thread nD τ) none Set.univ (m := m) (r := r) (S := m.view.set) (q := fullShare) (f := f) (View.set_slice_subset _ _)) $$ H
  iintro H
  rw [wp_ret]
  imodintro
  have e : ((m.access r).read (Elt F) f) = fun i => X (r.emb i) := by subst hf; rfl
  rw [e]
  iapply Hk
  iexists f; isplitr; · ipureintro; exact hf
  iexact H

theorem ld_kv {m : Memref sig .tc .vmem S1024x8x128 .f32} {X : Vec F S1024x8x128 .f32} (h : Fin 8) {off : Fin 3 → ℕ} (ho : off = ![0, h.val, 0]) {hb hl}
    {Q : Vec F S1024x1x128 .f32 → sProp 𝕄} :
    blk m c X ⊢ iprop((blk m c X -∗ Q (slab X h))
      -∗ wp frame (wpE (defs₀ (F := F)) 𝒱₀ c none) Set.univ (Prog.lift (.load m (Rect.unit (s := S1024x8x128) off S1024x1x128.size hb).toLoadRect hl)) Q) := by
  subst ho
  refine BI.Entails.trans (ld_r (Rect.unit (s := S1024x8x128) ![0, h.val, 0] S1024x1x128.size hb)) (wand_mono_left (wand_mono_right (Entails.of_eq (congrArg Q ?_))))
  funext i
  refine congrArg X (funext fun a => ?_)
  match a with
  | 0 => exact (Fin.ext (by rw [Rect.emb_apply]; show 0 + 1 * (i 0).val = (i 0).val; omega)).symm
  | 1 => exact (Fin.ext (by rw [Rect.emb_apply]; have h' : (i 1).val < 1 := (i 1).isLt; show h.val + 1 * (i 1).val = h.val; omega)).symm
  | 2 => exact (Fin.ext (by rw [Rect.emb_apply]; show 0 + 1 * (i 2).val = (i 2).val; omega)).symm

theorem ld_all {m : Memref sig .tc .vmem S1024x1024 .f32} {X : Vec F S1024x1024 .f32} {hb hl} {Q : Vec F S1024x1024 .f32 → sProp 𝕄} :
    blk m c X ⊢ iprop((blk m c X -∗ Q X)
      -∗ wp frame (wpE (defs₀ (F := F)) 𝒱₀ c none) Set.univ (Prog.lift (.load m (Rect.unit (s := S1024x1024) ![0, 0] S1024x1024.size hb).toLoadRect hl)) Q) := by
  refine BI.Entails.trans (ld_r (Rect.unit (s := S1024x1024) ![0, 0] S1024x1024.size hb)) (wand_mono_left (wand_mono_right (Entails.of_eq (congrArg Q ?_))))
  funext i
  refine congrArg X (funext fun a => ?_)
  match a with
  | 0 => exact (Fin.ext (by rw [Rect.emb_apply]; show 0 + 1 * (i 0).val = (i 0).val; omega)).symm
  | 1 => exact (Fin.ext (by rw [Rect.emb_apply]; show 0 + 1 * (i 1).val = (i 1).val; omega)).symm

/-- The context's buffer, its first n heads at their columns of G. -/
def upTo (m : Memref sig .tc .vmem S1024x1024 .f32) (c : Dev nD) (n : ℕ) (G : Vec F S1024x1024 .f32) : sProp 𝕄 :=
  iprop(∃ X, blk m c X ∗ ⌜∀ i : S1024x1024.Idx, (i 1).val < 128 * n → X i = G i⌝)

theorem ld_ctx {m : Memref sig .tc .vmem S1024x1024 .f32} {n : ℕ} {G : Vec F S1024x1024 .f32} (r : Rect S1024x1024) {hl} {Q : Vec F r.shape .f32 → sProp 𝕄} :
    upTo m c n G ⊢ iprop((∀ w, upTo m c n G -∗ Q w)
      -∗ wp frame (wpE (defs₀ (F := F)) 𝒱₀ c none) Set.univ (Prog.lift (.load m r.toLoadRect hl)) Q) := by
  unfold upTo
  iintro ⟨%X, H, %hX⟩ Hk
  iapply (ld_r r) $$ H
  iintro H
  iapply Hk
  iexists X; isplitl [H]; · iexact H
  ipureintro; exact hX

theorem upTo_intro {m : Memref sig .tc .vmem S1024x1024 .f32} {n : ℕ} {G : Vec F S1024x1024 .f32} {f : Buf (Elt F) (m.view.loc (c : Thread nD τ))}
    (h : ∀ i : S1024x1024.Idx, (i 1).val < 128 * n → m.view.read (Elt F) f i = G i) :
    (m.view.loc (c : Thread nD τ) ↦[m.view.set]{fullShare} f : sProp 𝕄) ⊢ upTo m c n G := by
  unfold upTo blk owns
  iintro H
  iexists (m.view.read (Elt F) f)
  isplitl [H]
  · iexists f; isplitr; · ipureintro; rfl
    iexact H
  ipureintro; exact h

theorem read_rect {sp : Space} {s : Shape} {e : EltTy} {v : View sig .tc sp s e} (r : Rect s) (f : v.ty.Contents (Elt F)) (w : r.shape.Idx → Elt F e) (G : s.Idx → Elt F e)
    (hw : ∀ x, w x = G (r.emb x)) (i : s.Idx) (h : (∃ x, r.emb x = i) ∨ v.read (Elt F) f i = G i) :
    v.read (Elt F) ((v.slice r).write (Elt F) f w Finset.univ) i = G i := by
  by_cases hx : ∃ x, r.emb x = i
  · obtain ⟨x, rfl⟩ := hx
    rw [View.read_slice_write_emb r f w (Finset.mem_univ x), hw]
  · rw [View.read_slice_write_of_not_mem]
    · exact h.resolve_left hx
    · intro hm
      obtain ⟨x, -, h'⟩ := Finset.mem_map.mp hm
      exact hx ⟨x, h'⟩

theorem emb_cols (h : Fin 8) (hb) (i : S1024x1024.Idx) (hi : (i 1).val < 128 * (h.val + 1)) (hc : 128 * h.val ≤ (i 1).val) :
    ∃ x, (Rect.unit (s := S1024x1024) ![0, 128 * h.val] S1024x128.size hb).emb x = i := by
  refine ⟨fun | 0 => ⟨(i 0).val, (i 0).isLt⟩ | 1 => ⟨(i 1).val - 128 * h.val, (by omega : (i 1).val - 128 * h.val < 128)⟩, ?_⟩
  funext a
  match a with
  | 0 => exact Fin.ext (by rw [Rect.emb_apply]; show 0 + 1 * (i 0).val = (i 0).val; omega)
  | 1 => exact Fin.ext (by rw [Rect.emb_apply]; show 128 * h.val + 1 * ((i 1).val - 128 * h.val) = (i 1).val; omega)

theorem cols_emb (h : Fin 8) (hb) (G : Vec F S1024x1024 .f32) (x : S1024x128.Idx) :
    cols G h x = G ((Rect.unit (s := S1024x1024) ![0, 128 * h.val] S1024x128.size hb).emb x) := by
  refine congrArg G (funext fun a => ?_)
  match a with
  | 0 => exact (Fin.ext (by rw [Rect.emb_apply]; show 0 + 1 * (x 0).val = (x 0).val; omega)).symm
  | 1 => exact (Fin.ext (by rw [Rect.emb_apply]; show 128 * h.val + 1 * (x 1).val = 128 * h.val + (x 1).val; omega)).symm

set_option backward.isDefEq.respectTransparency.types false in
theorem st_ctx {m : Memref sig .tc .vmem S1024x1024 .f32} {G : Vec F S1024x1024 .f32} (h : Fin 8) {w : Vec F S1024x128 .f32} (hw : w = cols G h)
    {off : Fin 2 → ℕ} (ho : off = ![0, 128 * h.val]) {n n' : ℕ} (hn : n = h.val) (hn' : n' = h.val + 1) {hb hx hm} {Q : PUnit.{1} → sProp 𝕄} :
    upTo m c n G ⊢ iprop((upTo m c n' G -∗ Q ⟨⟩)
      -∗ wp frame (wpE (defs₀ (F := F)) 𝒱₀ c none) Set.univ (Prog.lift (.store m (Rect.unit (s := S1024x1024) off S1024x128.size hb) w Finset.univ hx hm)) Q) := by
  subst ho hn hn' hw
  rw [show (upTo m c h.val G : sProp 𝕄) = iprop(∃ X, (∃ f, ⌜m.view.read (Elt F) f = X⌝ ∗ (m.view.loc (c : Thread nD τ) ↦[m.view.set]{fullShare} f)) ∗ ⌜∀ i : S1024x1024.Idx, (i 1).val < 128 * h.val → X i = G i⌝) from rfl]
  iintro ⟨%X, ⟨%f, %hf, H⟩, %hX⟩ Hk
  iapply (wp_store 𝒱₀ (c : Thread nD τ) none Set.univ (m := m) (r := Rect.unit (s := S1024x1024) ![0, 128 * h.val] S1024x128.size hb) (w := cols G h) (Mk := Finset.univ)
    (S := m.view.set) (f := f) (View.set_slice_subset _ _)) $$ H
  iintro H
  rw [wp_ret]
  imodintro
  iapply Hk
  subst hf
  iapply (upTo_intro fun i hi => read_rect (v := m.view) (Rect.unit (s := S1024x1024) ![0, 128 * h.val] S1024x128.size hb) f (cols G h) G (cols_emb h hb G) i
    ((Nat.lt_or_ge (i 1).val (128 * h.val)).elim (fun hc => Or.inr (hX i hc)) fun hc => Or.inl (emb_cols h hb i hi hc))) $$ H

theorem ctx_ld {m : Memref sig .tc .vmem S1024x1024 .f32} {G : Vec F S1024x1024 .f32} {hb hl} {Q : Vec F S1024x1024 .f32 → sProp 𝕄} :
    upTo m c 8 G ⊢ iprop((blk m c G -∗ Q G)
      -∗ wp frame (wpE (defs₀ (F := F)) 𝒱₀ c none) Set.univ (Prog.lift (.load m (Rect.unit (s := S1024x1024) ![0, 0] S1024x1024.size hb).toLoadRect hl)) Q) := by
  unfold upTo
  iintro ⟨%X, H, %hX⟩ Hk
  obtain rfl : X = G := funext fun i => hX i (by have h : (i 1).val < 1024 := (i 1).isLt; omega)
  iapply ld_all $$ H
  iintro H
  iapply Hk $$ H

theorem upTo_zero {m : Memref sig .tc .vmem S1024x1024 .f32} (X G : Vec F S1024x1024 .f32) : blk m c X ⊢ upTo m c 0 G := by
  unfold upTo
  iintro H
  iexists X; isplitl [H]; · iexact H
  ipureintro; intro i h; omega

theorem ld_out {r : Rect S1024x1024} {hl} {Q : Vec F r.shape .f32 → sProp 𝕄} :
    (free outM c : sProp 𝕄) ⊢ iprop((∀ w, free outM c -∗ Q w)
      -∗ wp frame (wpE (defs₀ (F := F)) 𝒱₀ c none) Set.univ (Prog.lift (.load outM r.toLoadRect hl)) Q) := by
  unfold free
  iintro ⟨%f, H⟩ Hk
  iapply (wp_load_rect 𝒱₀ (c : Thread nD τ) none Set.univ (m := outM) (r := r) (S := outM.view.set) (q := fullShare) (f := f) (View.set_slice_subset _ _)) $$ H
  iintro H
  rw [wp_ret]
  imodintro
  iapply Hk
  iexists f; iexact H

theorem st_out {w : Vec F S1024x1024 .f32} {hb hx hm} {Q : PUnit.{1} → sProp 𝕄} :
    (free outM c : sProp 𝕄) ⊢ iprop((pts outM c w -∗ Q ⟨⟩)
      -∗ wp frame (wpE (defs₀ (F := F)) 𝒱₀ c none) Set.univ (Prog.lift (.store outM (Rect.unit (s := S1024x1024) ![0, 0] S1024x1024.size hb) w Finset.univ hx hm)) Q) := by
  unfold free
  iintro ⟨%f, H⟩ Hk
  iapply (wp_store 𝒱₀ (c : Thread nD τ) none Set.univ (m := outM) (r := Rect.unit (s := S1024x1024) ![0, 0] S1024x1024.size hb) (w := w) (Mk := Finset.univ)
    (S := outM.view.set) (f := f) (View.set_slice_subset _ _)) $$ H
  rw [show (outM.access (Rect.unit (s := S1024x1024) ![0, 0] S1024x1024.size hb)).write (Elt F) f w Finset.univ = w from
    Memref.write_access_unit_zero_univ (Elt F) cc0_stg5_0 (by decide) hb f w]
  iintro H
  rw [wp_ret]
  imodintro
  iapply Hk $$ H

/-! ## The pieces -/

variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)
variable (q : FVec F S1024x1024 .f32) (K V : Vec F S1024x8x128 .f32) (wo : Vec F S1024x1024 .f32)

theorem part3 {Q : _ → sProp 𝕄} :
    (Q ⟨(k0_pay4 (iota .tc S1024x1024 32 [0] iota_S1024x1024_d0_w32) 64#32 k0_pay2 k0_pay3), k0_pay5, (k0_pay6 (iota .tc S1024x1024 32 [0] iota_S1024x1024_d0_w32) 64#32 k0_pay2 k0_pay3), k0_pay7⟩ : sProp 𝕄)
      ⊢ wp frame (wpE (defs₀ (F := F)) 𝒱₀ c none) Set.univ (k0_part3 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 (iota .tc S1024x1024 32 [0] iota_S1024x1024_d0_w32) 64#32 k0_pay2 k0_pay3) Q := by
  rw [k0_part3_eq_skeleton]; unfold k0_part3_skel
  rw [wp_pure]
  iintro H
  imodintro; iexact H

theorem part4 {Q : _ → sProp 𝕄}  :
    iprop(blk m2 c K ∗ blk m3 c V ∗ upTo m6 c 0 (ctx q K V))
      ⊢ iprop(((blk m2 c K ∗ blk m3 c V ∗ upTo m6 c 1 (ctx q K V)) -∗ Q ⟨mask, k0_pay10 q, k0_pay11 (slab K 1), k0_pay12 (slab V 1), constant S1024x1024 .f32 0x00000000#32⟩)
        -∗ wp frame (wpE (defs₀ (F := F)) 𝒱₀ c none) Set.univ (k0_part4 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 q (k0_pay4 (iota .tc S1024x1024 32 [0] iota_S1024x1024_d0_w32) 64#32 k0_pay2 k0_pay3) k0_pay5 (k0_pay6 (iota .tc S1024x1024 32 [0] iota_S1024x1024_d0_w32) 64#32 k0_pay2 k0_pay3) k0_pay7) Q) := by
  rw [k0_part4_eq_skeleton]; unfold k0_part4_skel; simp only [wp_bind]
  iintro ⟨HK, HV, HC⟩ Hk
  iapply (ld_kv 0 rfl) $$ HK
  iintro HK
  beta_reduce
  iapply (ld_kv 0 rfl) $$ HV
  iintro HV
  beta_reduce
  iapply (ld_ctx _) $$ HC
  iintro %_ HC
  beta_reduce
  iapply (st_ctx (n := 0) (n' := 1) 0 ((head0 q K V).trans (cols_ctx q K V 0).symm) rfl rfl rfl) $$ HC
  iintro HC
  beta_reduce
  iapply (ld_kv 1 rfl) $$ HK
  iintro HK
  beta_reduce
  iapply (ld_kv 1 rfl) $$ HV
  iintro HV
  beta_reduce
  rw [wp_pure]
  imodintro
  rw [show k0_pay8 (k0_pay4 (iota .tc S1024x1024 32 [0] iota_S1024x1024_d0_w32) 64#32 k0_pay2 k0_pay3) k0_pay5 (k0_pay6 (iota .tc S1024x1024 32 [0] iota_S1024x1024_d0_w32) 64#32 k0_pay2 k0_pay3) k0_pay7 = mask from rfl]
  iapply Hk
  isplitl [HK]; · iexact HK
  isplitl [HV]; · iexact HV
  iexact HC

theorem part5 {Q : _ → sProp 𝕄}  :
    iprop(blk m2 c K ∗ blk m3 c V ∗ upTo m6 c 1 (ctx q K V))
      ⊢ iprop(((blk m2 c K ∗ blk m3 c V ∗ upTo m6 c 2 (ctx q K V)) -∗ Q (k0_pay14 q mask (slab K 2) (slab V 2)))
        -∗ wp frame (wpE (defs₀ (F := F)) 𝒱₀ c none) Set.univ (k0_part5 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 q mask (k0_pay10 q) (k0_pay11 (slab K 1)) (k0_pay12 (slab V 1)) (constant S1024x1024 .f32 0x00000000#32)) Q) := by
  rw [k0_part5_eq_skeleton]; unfold k0_part5_skel; simp only [wp_bind]
  iintro ⟨HK, HV, HC⟩ Hk
  iapply (ld_ctx _) $$ HC
  iintro %_ HC
  beta_reduce
  iapply (st_ctx (n := 1) (n' := 2) 1 ((head1 q K V).trans (cols_ctx q K V 1).symm) rfl rfl rfl) $$ HC
  iintro HC
  beta_reduce
  iapply (ld_kv 2 rfl) $$ HK
  iintro HK
  beta_reduce
  iapply (ld_kv 2 rfl) $$ HV
  iintro HV
  beta_reduce
  rw [wp_pure]
  imodintro
  iapply Hk
  isplitl [HK]; · iexact HK
  isplitl [HV]; · iexact HV
  iexact HC

theorem part6 {Q : _ → sProp 𝕄}  :
    iprop(blk m2 c K ∗ blk m3 c V ∗ upTo m6 c 2 (ctx q K V))
      ⊢ iprop(((blk m2 c K ∗ blk m3 c V ∗ upTo m6 c 4 (ctx q K V)) -∗ Q ⟨k0_pay17 (slab V 4), k0_pay18 q (slab K 4), k0_pay19 (F := F)⟩)
        -∗ wp frame (wpE (defs₀ (F := F)) 𝒱₀ c none) Set.univ (k0_part6 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 q mask (k0_pay14 q mask (slab K 2) (slab V 2))) Q) := by
  rw [k0_part6_eq_skeleton]; unfold k0_part6_skel; simp only [wp_bind]
  iintro ⟨HK, HV, HC⟩ Hk
  iapply (ld_ctx _) $$ HC
  iintro %_ HC
  beta_reduce
  iapply (st_ctx (n := 2) (n' := 3) 2 ((head2 q K V).trans (cols_ctx q K V 2).symm) rfl rfl rfl) $$ HC
  iintro HC
  beta_reduce
  iapply (ld_kv 3 rfl) $$ HK
  iintro HK
  beta_reduce
  iapply (ld_kv 3 rfl) $$ HV
  iintro HV
  beta_reduce
  iapply (ld_ctx _) $$ HC
  iintro %_ HC
  beta_reduce
  iapply (st_ctx (n := 3) (n' := 4) 3 ((head3 q K V).trans (cols_ctx q K V 3).symm) rfl rfl rfl) $$ HC
  iintro HC
  beta_reduce
  iapply (ld_kv 4 rfl) $$ HK
  iintro HK
  beta_reduce
  iapply (ld_kv 4 rfl) $$ HV
  iintro HV
  beta_reduce
  rw [wp_pure]
  imodintro
  iapply Hk
  isplitl [HK]; · iexact HK
  isplitl [HV]; · iexact HV
  iexact HC

theorem part7 {Q : _ → sProp 𝕄}  :
    iprop(blk m2 c K ∗ blk m3 c V ∗ upTo m6 c 4 (ctx q K V))
      ⊢ iprop(((blk m2 c K ∗ blk m3 c V ∗ upTo m6 c 6 (ctx q K V)) -∗ Q (k0_pay22 q))
        -∗ wp frame (wpE (defs₀ (F := F)) 𝒱₀ c none) Set.univ (k0_part7 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 q mask (k0_pay17 (slab V 4)) (k0_pay18 q (slab K 4)) (k0_pay19 (F := F))) Q) := by
  rw [k0_part7_eq_skeleton]; unfold k0_part7_skel; simp only [wp_bind]
  iintro ⟨HK, HV, HC⟩ Hk
  iapply (ld_ctx _) $$ HC
  iintro %_ HC
  beta_reduce
  iapply (st_ctx (n := 4) (n' := 5) 4 ((head4 q K V).trans (cols_ctx q K V 4).symm) rfl rfl rfl) $$ HC
  iintro HC
  beta_reduce
  iapply (ld_kv 5 rfl) $$ HK
  iintro HK
  beta_reduce
  iapply (ld_kv 5 rfl) $$ HV
  iintro HV
  beta_reduce
  iapply (ld_ctx _) $$ HC
  iintro %_ HC
  beta_reduce
  iapply (st_ctx (n := 5) (n' := 6) 5 ((head5 q K V).trans (cols_ctx q K V 5).symm) rfl rfl rfl) $$ HC
  iintro HC
  beta_reduce
  rw [wp_pure]
  imodintro
  iapply Hk
  isplitl [HK]; · iexact HK
  isplitl [HV]; · iexact HV
  iexact HC

theorem part8 {Q : _ → sProp 𝕄}  :
    iprop(blk m2 c K ∗ blk m3 c V ∗ upTo m6 c 6 (ctx q K V))
      ⊢ iprop(((blk m2 c K ∗ blk m3 c V ∗ upTo m6 c 7 (ctx q K V)) -∗ Q ⟨k0_pay24 (slab V 7), k0_pay25 q mask (slab K 7)⟩)
        -∗ wp frame (wpE (defs₀ (F := F)) 𝒱₀ c none) Set.univ (k0_part8 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 q mask (k0_pay22 q)) Q) := by
  rw [k0_part8_eq_skeleton]; unfold k0_part8_skel; simp only [wp_bind]
  iintro ⟨HK, HV, HC⟩ Hk
  iapply (ld_kv 6 rfl) $$ HK
  iintro HK
  beta_reduce
  iapply (ld_kv 6 rfl) $$ HV
  iintro HV
  beta_reduce
  iapply (ld_ctx _) $$ HC
  iintro %_ HC
  beta_reduce
  iapply (st_ctx (n := 6) (n' := 7) 6 ((head6 q K V).trans (cols_ctx q K V 6).symm) rfl rfl rfl) $$ HC
  iintro HC
  beta_reduce
  iapply (ld_kv 7 rfl) $$ HK
  iintro HK
  beta_reduce
  iapply (ld_kv 7 rfl) $$ HV
  iintro HV
  beta_reduce
  rw [wp_pure]
  imodintro
  iapply Hk
  isplitl [HK]; · iexact HK
  isplitl [HV]; · iexact HV
  iexact HC

theorem part9 {Q : _ → sProp 𝕄} (v3 : BitVec 32) (v25 : BitVec 32) :
    iprop(upTo m6 c 7 (ctx q K V) ∗ blk m4 c wo ∗ free outM c)
      ⊢ iprop(((blk m6 c (ctx q K V) ∗ blk m4 c wo ∗ pts outM c (k0_pay27 (ctx q K V) wo)) -∗ Q ⟨⟩)
        -∗ wp frame (wpE (defs₀ (F := F)) 𝒱₀ c none) Set.univ (k0_part9 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 v3 v25 (k0_pay24 (slab V 7)) (k0_pay25 q mask (slab K 7))) Q) := by
  rw [k0_part9_eq_skeleton]; unfold k0_part9_skel; simp only [wp_bind]
  iintro ⟨HC, HW, HF⟩ Hk
  iapply (ld_ctx _) $$ HC
  iintro %_ HC
  beta_reduce
  iapply (st_ctx (n := 7) (n' := 8) 7 ((head7 q K V).trans (cols_ctx q K V 7).symm) rfl rfl rfl) $$ HC
  iintro HC
  beta_reduce
  iapply ctx_ld $$ HC
  iintro HC
  beta_reduce
  iapply ld_all $$ HW
  iintro HW
  beta_reduce
  iapply ld_out $$ HF
  iintro %_ HF
  beta_reduce
  iapply st_out $$ HF
  iintro HF
  beta_reduce
  rw [wp_pure]
  imodintro
  iapply Hk
  isplitl [HC]; · iexact HC
  isplitl [HW]; · iexact HW
  iexact HF

end Cert.KernelIdeal.Comm

end
-- ==== Proof.KernelIdeal.Barrier.lean ====
/-
  THE BARRIERS. The pieces of the program at its two ends: where the device learns who it is and meets its peers, and where
  it takes leave of them.
-/
module

public import proofs.«01_k».proof.Proof.KernelIdeal.Local

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ) {c : Dev nD}
variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)

theorem sep_5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What a device comes to the entry barrier with. -/
def meet (c : Dev nD) : sProp 𝕄 :=
  iprop(invs A κ ∗ levs ∗ allReached c ∗ (bigSep Finset.univ fun e : Fin 5 => reached EM (barC (peer e c)) 0) ∗ atPos EM (barC c) 0 ∅ 0
    ∗ cred (tallyAt (barC c) 1 5) ∗ (bigSep Finset.univ fun e : Fin 5 => dutyTok EM (barC (peer e c)) 0 e)
    ∗ (barOf 0 c ∗ barOf 1 c ∗ barOf 2 c ∗ barOf 3 c ∗ barOf 4 c) ∗ own c 0)

/-- What it leaves the barrier with: its peers' landing slots. -/
def met (c : Dev nD) : sProp 𝕄 :=
  iprop((barA 0 (peer (eD 0) c) ∗ barA 1 (peer (eD 1) c) ∗ barB 0 (peer (eL 0) c) ∗ barB 1 (peer (eL 1) c) ∗ barB 2 (peer (eL 2) c))
    ∗ dn c (.reg barrier0) ∗ own c 5)

theorem pay_bar (e : Fin 5) (c : Dev nD) : iprop(barOf e c ∗ allReached c) ⊢ pay A (kind (.reg barrier0)) (peer e c) e := by
  show _ ⊢ (barPay e (peer (inv e) (peer e c)) : sProp 𝕄)
  rw [peer_inv]; unfold barPay; exact .rfl

theorem met_pays (c : Dev nD) : (bigSep (dut (kind (.reg barrier0))) fun e => pay A (kind (.reg barrier0)) c e : sProp 𝕄)
    ⊢ iprop((barA 0 (peer (eD 0) c) ∗ barA 1 (peer (eD 1) c) ∗ barB 0 (peer (eL 0) c) ∗ barB 1 (peer (eL 1) c) ∗ barB 2 (peer (eL 2) c))
      ∗ bigSep Finset.univ fun e : Fin 5 => allReached (peer e c)) := by
  rw [show (bigSep (dut (kind (.reg barrier0))) fun e => pay A (kind (.reg barrier0)) c e : sProp 𝕄) = bigSep Finset.univ fun e : Fin 5 => barPay e (peer (inv e) c) from rfl,
    sep_5, sep_5]
  unfold barPay
  show iprop((barA 0 (peer 1 c) ∗ allReached (peer 1 c)) ∗ (barA 1 (peer 0 c) ∗ allReached (peer 0 c)) ∗ (barB 0 (peer 4 c) ∗ allReached (peer 4 c))
      ∗ (barB 1 (peer 3 c) ∗ allReached (peer 3 c)) ∗ (barB 2 (peer 2 c) ∗ allReached (peer 2 c)))
    ⊢ iprop((barA 0 (peer 1 c) ∗ barA 1 (peer 0 c) ∗ barB 0 (peer 4 c) ∗ barB 1 (peer 3 c) ∗ barB 2 (peer 2 c))
      ∗ (allReached (peer 0 c) ∗ allReached (peer 1 c) ∗ allReached (peer 2 c) ∗ allReached (peer 3 c) ∗ allReached (peer 4 c)))
  iintro ⟨⟨H0, R0⟩, ⟨H1, R1⟩, ⟨H2, R2⟩, ⟨H3, R3⟩, ⟨H4, R4⟩⟩
  isplitl [H0 H1 H2 H3 H4]
  · isplitl [H0]; · iexact H0
    isplitl [H1]; · iexact H1
    isplitl [H2]; · iexact H2
    isplitl [H3]; · iexact H3
    iexact H4
  isplitl [R1]; · iexact R1
  isplitl [R0]; · iexact R0
  isplitl [R4]; · iexact R4
  isplitl [R3]; · iexact R3
  iexact R2

theorem part1 {Q : _ → sProp 𝕄} :
    iprop(∀ w₁ : BitVec 32, ∀ w₂ : BitVec 32, ∀ w₃ : BitVec 32, ∀ w₄ : BitVec 32, ∀ w₅ : BitVec 32, ∀ w₆ : BitVec 32, ∀ w₇ : BitVec 32, Q ⟨c, w₁, w₂, w₃, w₄, w₅, w₆, w₇, 4#32⟩)
      ⊢ wp frame (wpE (defs₀ (F := F)) 𝒱₀ c none) Set.univ (k0_part1 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0) Q := by
  rw [k0_part1_eq_skeleton]; unfold k0_part1_skel; simp only [wp_bind]
  iintro H
  rw [Prog.lift, wp_deviceId, wp_ret]
  imodintro
  rw [wp_pure]
  imodintro
  iapply H

theorem part2 {Q : _ → sProp 𝕄} (v3 : BitVec 32) (v20 : BitVec 32) (v25 : BitVec 32) (v29 : BitVec 32) (v33 : BitVec 32) (v35 : BitVec 32) (c4_i32_17 : BitVec 32) (X W : Vec F S1024x1024 .f32) :
    iprop(meet A κ c ∗ blk m0 c X ∗ blk m1 c W)
      ⊢ iprop((∀ w₁ : BitVec 32, ∀ w₂ : BitVec 32, (wld A κ c ∗ met c ∗ blk m0 c X ∗ blk m1 c W)
            -∗ Q ⟨w₁, w₂, k0_pay1 X W, iota .tc S1024x1024 32 [0] iota_S1024x1024_d0_w32, 64#32, k0_pay2, k0_pay3⟩)
        -∗ wp frame (wpE (defs₀ (F := F)) 𝒱₀ c none) Set.univ (k0_part2 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v25 v29 v33 v35 c4_i32_17) Q) := by
  rw [k0_part2_eq_skeleton]; unfold k0_part2_skel; simp only [wp_bind]
  unfold meet
  rw [sep_5, sep_5]
  iintro ⟨⟨#HI, #HL, #HR, ⟨#R0, #R1, #R2, #R3, #R4⟩, Hat, Hc, ⟨T0, T1, T2, T3, T4⟩, ⟨B0, B1, B2, B3, B4⟩, HO⟩, HX, HW⟩ Hk
  iapply (signal A (c := c) (n := 0) (e := 0) (sm := barrier0) (l := 1) (κ₀ := κ (barC (peer 0 c))) rfl (Finset.mem_univ _) rfl (dev1_eq c) rfl) $$ [T0 B0 HO]
  · isplitr; · iapply (invs_bar A κ (peer 0 c)) $$ HI
    isplitr; · iexact R0
    isplitl [T0]; · iexact T0
    isplitl [B0]
    · iapply (pay_bar A 0 c)
      isplitl [B0]; · iexact B0
      iexact HR
    iexact HO
  iintro HO
  beta_reduce
  iapply (signal A (c := c) (n := 1) (e := 1) (sm := barrier0) (l := 1) (κ₀ := κ (barC (peer 1 c))) rfl (Finset.mem_univ _) rfl (dev2_eq c) rfl) $$ [T1 B1 HO]
  · isplitr; · iapply (invs_bar A κ (peer 1 c)) $$ HI
    isplitr; · iexact R1
    isplitl [T1]; · iexact T1
    isplitl [B1]
    · iapply (pay_bar A 1 c)
      isplitl [B1]; · iexact B1
      iexact HR
    iexact HO
  iintro HO
  beta_reduce
  iapply (signal A (c := c) (n := 2) (e := 2) (sm := barrier0) (l := 1) (κ₀ := κ (barC (peer 2 c))) rfl (Finset.mem_univ _) rfl (dev3_eq c) rfl) $$ [T2 B2 HO]
  · isplitr; · iapply (invs_bar A κ (peer 2 c)) $$ HI
    isplitr; · iexact R2
    isplitl [T2]; · iexact T2
    isplitl [B2]
    · iapply (pay_bar A 2 c)
      isplitl [B2]; · iexact B2
      iexact HR
    iexact HO
  iintro HO
  beta_reduce
  iapply (signal A (c := c) (n := 3) (e := 3) (sm := barrier0) (l := 1) (κ₀ := κ (barC (peer 3 c))) rfl (Finset.mem_univ _) rfl (dev4_eq c) rfl) $$ [T3 B3 HO]
  · isplitr; · iapply (invs_bar A κ (peer 3 c)) $$ HI
    isplitr; · iexact R3
    isplitl [T3]; · iexact T3
    isplitl [B3]
    · iapply (pay_bar A 3 c)
      isplitl [B3]; · iexact B3
      iexact HR
    iexact HO
  iintro HO
  beta_reduce
  iapply (signal A (c := c) (n := 4) (e := 4) (sm := barrier0) (l := 1) (κ₀ := κ (barC (peer 4 c))) rfl (Finset.mem_univ _) rfl (dev5_eq c) rfl) $$ [T4 B4 HO]
  · isplitr; · iapply (invs_bar A κ (peer 4 c)) $$ HI
    isplitr; · iexact R4
    isplitl [T4]; · iexact T4
    isplitl [B4]
    · iapply (pay_bar A 4 c)
      isplitl [B4]; · iexact B4
      iexact HR
    iexact HO
  iintro HO
  beta_reduce
  iapply (wait_reg A (c := c) (n := 5) (sm := barrier0) (l := 1) (κ₀ := κ (barC c)) (by decide) (by decide +kernel) rfl rfl) $$ [Hat Hc HO]
  · isplitr; · iapply (invs_bar A κ c) $$ HI
    isplitr; · iexact HL
    isplitl [Hat]; · iexact Hat
    isplitl [Hc]; · iexact Hc
    iexact HO
  iintro ⟨HO, Hd, Hp⟩
  beta_reduce
  ihave Hp := (met_pays A c) $$ Hp
  icases Hp with ⟨Hm, HP⟩
  iapply ld_all $$ HX
  iintro HX
  beta_reduce
  iapply ld_all $$ HW
  iintro HW
  beta_reduce
  rw [wp_pure]
  imodintro
  iapply Hk
  isplitl [HP]
  · unfold wld
    isplitr; · iexact HI
    isplitr; · iexact HL
    isplitr; · iexact HR
    iexact HP
  isplitl [Hm Hd HO]
  · unfold met
    isplitl [Hm]; · iexact Hm
    isplitl [Hd]; · iexact Hd
    iexact HO
  isplitl [HX]; · iexact HX
  iexact HW

/-- A signal of the exit barrier. -/
theorem bye {Q : PUnit.{1} → sProp 𝕄} {n : ℕ} {e : Fin 5} (hn : tbl[n]? = some (e, .reg finS, 10, 1)) {p : Dev nD} (hp : p = peer e c) {sm0 : Sem sig} (hs : sm0 = finS) :
    iprop(wld A κ c ∗ dutyTok EM (finC (peer e c)) 0 e ∗ own c n)
      ⊢ iprop((own c (n + 1) -∗ Q ⟨⟩) -∗ wp frame (wpE (defs₀ (F := F)) 𝒱₀ c none) Set.univ (semSignalWord p sm0 1#32) Q) := by
  iintro ⟨#Hw, Ht, HO⟩
  have hd : SemLoc.reg finS ∈ dorm := by rw [dorm_eq]; decide +kernel
  iapply (signal A (c := c) (n := n) (e := e) (sm := finS) (l := 10) (κ₀ := κ (finC (peer e c))) hn (Finset.mem_univ _) rfl hp hs)
  isplitr; · iapply (wld_inv A κ c (peer e c) hd) $$ Hw
  isplitr; · iapply (wld_peer A κ c e _ hd) $$ Hw
  isplitl [Ht]; · iexact Ht
  isplitr
  · iapply (show (BI.emp : sProp 𝕄) ⊢ pay A (kind (.reg finS)) (peer e c) e from .rfl); iempintro
  iexact HO

/-- Its wait. -/
theorem bye_wait {Q : PUnit.{1} → sProp 𝕄} {sm0 : Sem sig} (hs : sm0 = finS) :
    iprop(wld A κ c ∗ atPos EM (finC c) 0 ∅ 0 ∗ cred (tallyAt (finC c) 10 5) ∗ own c 34)
      ⊢ iprop(((own (F := F) c 34 ∗ dn (F := F) c (.reg finS)) -∗ Q ⟨⟩) -∗ wp frame (wpE (defs₀ (F := F)) 𝒱₀ c none) Set.univ (semWaitWord sm0 5#32) Q) := by
  iintro ⟨#Hw, Hat, Hc, HO⟩ Hk
  have hd : SemLoc.reg finS ∈ dorm := by rw [dorm_eq]; decide +kernel
  iapply (wait_reg A (c := c) (n := 34) (sm := finS) (l := 10) (κ₀ := κ (finC c)) (by decide) (by decide +kernel) rfl hs) $$ [Hat Hc HO]
  · isplitr; · iapply (wld_inv A κ c c hd) $$ Hw
    isplitr; · unfold wld; icases Hw with ⟨-, HL, -⟩; iexact HL
    isplitl [Hat]; · iexact Hat
    isplitl [Hc]; · iexact Hc
    iexact HO
  iintro ⟨HO, Hd, -⟩
  iapply Hk
  isplitl [HO]; · iexact HO
  iexact Hd

end Cert.KernelIdeal.Comm

end
-- ==== Proof.KernelIdeal.Windows.lean ====
/-
  WINDOWS AND THEIR VALUES: a load and a store at a window of the result block or a landing slot; strips of windows; the
  sum's strip that each device completes.
-/
module

public import proofs.«01_k».proof.Proof.KernelIdeal.Rules

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

section Windows
variable {c : Dev nD}

theorem q_eq {j : Fin 4} {h : Fin 2} {off : Fin 2 → ℕ} {hb} (ho : off = ![256 * j.val, 512 * h.val]) :
    (outM.slice (Rect.unit (s := S1024x1024) off S256x512.size hb) (fun _ => rfl) : Memref sig .tc .vmem S256x512 .f32) = Qm j h := by subst ho; rfl
theorem s_eq {j r : Fin 4} {h : Fin 2} {off : Fin 2 → ℕ} {hb} (ho : off = ![256 * j.val + 64 * r.val, 512 * h.val]) :
    (outM.slice (Rect.unit (s := S1024x1024) off S64x512.size hb) (fun _ => rfl) : Memref sig .tc .vmem S64x512 .f32) = Sm j r h := by subst ho; rfl

/-! ## Loads and stores -/

theorem ld_q {Q : Vec F S256x512 .f32 → sProp 𝕄} (j : Fin 4) (h : Fin 2) {v : Vec F S256x512 .f32} {off : Fin 2 → ℕ} (ho : off = ![256 * j.val, 512 * h.val]) {hb hl} :
    holds (Qm j h) c v ⊢ iprop((holds (Qm j h) c v -∗ Q v)
      -∗ wp frame (wpE (defs₀ (F := F)) 𝒱₀ c none) Set.univ (Prog.lift (.load outM (Rect.unit (s := S1024x1024) off S256x512.size hb).toLoadRect hl)) Q) := by
  subst ho
  unfold holds
  iintro ⟨%f, H, %hv⟩ Hk
  iapply (wp_load_rect 𝒱₀ (c : Thread nD τ) none Set.univ (m := outM) (r := qR j h) (S := (Qm j h).view.set) (q := fullShare) (f := f) (Finset.Subset.refl _)) $$ H
  iintro H
  rw [wp_ret]
  imodintro
  have e : ((outM.access (qR j h)).read (Elt F) f) = v := hv
  rw [e]
  iapply Hk
  iexists f; isplitl [H]; · iexact H
  ipureintro; exact hv

theorem st_q {Q : PUnit.{1} → sProp 𝕄} (j : Fin 4) (h : Fin 2) {v w : Vec F S256x512 .f32} {off : Fin 2 → ℕ} (ho : off = ![256 * j.val, 512 * h.val]) {hb hx hm} :
    holds (Qm j h) c v ⊢ iprop((holds (Qm j h) c w -∗ Q ⟨⟩)
      -∗ wp frame (wpE (defs₀ (F := F)) 𝒱₀ c none) Set.univ (Prog.lift (.store outM (Rect.unit (s := S1024x1024) off S256x512.size hb) w Finset.univ hx hm)) Q) := by
  subst ho
  unfold holds
  iintro ⟨%f, H, %hv⟩ Hk
  iapply (wp_store 𝒱₀ (c : Thread nD τ) none Set.univ (m := outM) (r := qR j h) (w := w) (Mk := Finset.univ) (S := (Qm j h).view.set) (f := f) (Finset.Subset.refl _)) $$ H
  iintro H
  rw [wp_ret]
  imodintro
  iapply Hk
  iapply ((write_holds (Qm j h) c f w).trans (Entails.of_eq (by unfold holds; rfl))) $$ H

theorem ld_s {Q : Vec F S64x512 .f32 → sProp 𝕄} (j r : Fin 4) (h : Fin 2) {v : Vec F S64x512 .f32} {off : Fin 2 → ℕ} (ho : off = ![256 * j.val + 64 * r.val, 512 * h.val]) {hb hl} :
    holds (Sm j r h) c v ⊢ iprop((holds (Sm j r h) c v -∗ Q v)
      -∗ wp frame (wpE (defs₀ (F := F)) 𝒱₀ c none) Set.univ (Prog.lift (.load outM (Rect.unit (s := S1024x1024) off S64x512.size hb).toLoadRect hl)) Q) := by
  subst ho
  unfold holds
  iintro ⟨%f, H, %hv⟩ Hk
  iapply (wp_load_rect 𝒱₀ (c : Thread nD τ) none Set.univ (m := outM) (r := sR j r h) (S := (Sm j r h).view.set) (q := fullShare) (f := f) (Finset.Subset.refl _)) $$ H
  iintro H
  rw [wp_ret]
  imodintro
  have e : ((outM.access (sR j r h)).read (Elt F) f) = v := hv
  rw [e]
  iapply Hk
  iexists f; isplitl [H]; · iexact H
  ipureintro; exact hv

theorem st_s {Q : PUnit.{1} → sProp 𝕄} (j r : Fin 4) (h : Fin 2) {v w : Vec F S64x512 .f32} {off : Fin 2 → ℕ} (ho : off = ![256 * j.val + 64 * r.val, 512 * h.val]) {hb hx hm} :
    holds (Sm j r h) c v ⊢ iprop((holds (Sm j r h) c w -∗ Q ⟨⟩)
      -∗ wp frame (wpE (defs₀ (F := F)) 𝒱₀ c none) Set.univ (Prog.lift (.store outM (Rect.unit (s := S1024x1024) off S64x512.size hb) w Finset.univ hx hm)) Q) := by
  subst ho
  unfold holds
  iintro ⟨%f, H, %hv⟩ Hk
  iapply (wp_store 𝒱₀ (c : Thread nD τ) none Set.univ (m := outM) (r := sR j r h) (w := w) (Mk := Finset.univ) (S := (Sm j r h).view.set) (f := f) (Finset.Subset.refl _)) $$ H
  iintro H
  rw [wp_ret]
  imodintro
  iapply Hk
  iapply ((write_holds (Sm j r h) c f w).trans (Entails.of_eq (by unfold holds; rfl))) $$ H

/-- A load at a landing slot gives the slot's value, shape-cast. -/
theorem ld_a {Q : Vec F S1x1x256x512 .f32 → sProp 𝕄} (d : Fin 2) (s : Fin 3) {v : Vec F S256x512 .f32} {hl} :
    holds (Am d s) c v ⊢ iprop((∀ w : Vec F S1x1x256x512 .f32, ⌜shapeCast S256x512 w shapeCasts_S1x1x256x512_S256x512 = v⌝ -∗ holds (Am d s) c v -∗ Q w)
      -∗ wp frame (wpE (defs₀ (F := F)) 𝒱₀ c none) Set.univ (Prog.lift (.load aM (aR d s).toLoadRect hl)) Q) := by
  unfold holds
  iintro ⟨%f, H, %hv⟩ Hk
  iapply (wp_load_rect 𝒱₀ (c : Thread nD τ) none Set.univ (m := aM) (r := aR d s) (S := (Am d s).view.set) (q := fullShare) (f := f)
    (by rw [a_set, View.set_slice_whole])) $$ H
  iintro H
  rw [wp_ret]
  imodintro
  ispecialize Hk $$ %((aM.access (aR d s)).read (Elt F) f) %(hv)
  iapply Hk
  iexists f; isplitl [H]; · iexact H
  ipureintro; exact hv

theorem ld_b {Q : Vec F S1x1x64x512 .f32 → sProp 𝕄} (l : Fin 3) (h : Fin 2) {v : Vec F S64x512 .f32} {hl} :
    holds (Bm l h) c v ⊢ iprop((∀ w : Vec F S1x1x64x512 .f32, ⌜shapeCast S64x512 w shapeCasts_S1x1x64x512_S64x512 = v⌝ -∗ holds (Bm l h) c v -∗ Q w)
      -∗ wp frame (wpE (defs₀ (F := F)) 𝒱₀ c none) Set.univ (Prog.lift (.load bM (bR l h).toLoadRect hl)) Q) := by
  unfold holds
  iintro ⟨%f, H, %hv⟩ Hk
  iapply (wp_load_rect 𝒱₀ (c : Thread nD τ) none Set.univ (m := bM) (r := bR l h) (S := (Bm l h).view.set) (q := fullShare) (f := f)
    (by rw [b_set, View.set_slice_whole])) $$ H
  iintro H
  rw [wp_ret]
  imodintro
  ispecialize Hk $$ %((bM.access (bR l h)).read (Elt F) f) %(hv)
  iapply Hk
  iexists f; isplitl [H]; · iexact H
  ipureintro; exact hv

end Windows

/-! ## Strips -/

theorem strip_read (j r : Fin 4) (h : Fin 2) (f : Vec F S1024x1024 .f32) :
    (Sm j r h).view.read (Elt F) f = strip r ((Qm j h).view.read (Elt F) f) := by
  funext i
  unfold strip
  show f _ = f _
  refine congrArg f (funext fun a => Fin.ext ?_)
  match a with
  | 0 => show 256 * j.val + 64 * r.val + 1 * (i 0).val = 256 * j.val + 1 * (64 * r.val + (i 0).val); omega
  | 1 => rfl

/-- A window as its strips. -/
theorem holds_strips (c : Dev nD) (j : Fin 4) (h : Fin 2) (v : Vec F S256x512 .f32) :
    (holds (Qm j h) c v : sProp 𝕄) ⊢ iprop(holds (Sm j (rz c 0) h) c (strip (rz c 0) v) ∗ holds (Sm j (rz c 1) h) c (strip (rz c 1) v)
      ∗ holds (Sm j (rz c 2) h) c (strip (rz c 2) v) ∗ holds (Sm j (rz c 3) h) c (strip (rz c 3) v)) := by
  have key : ∀ (f : Buf (Elt F) ((Qm j h).view.loc (c : Thread nD τ))) (k : Fin 4), (Qm j h).view.read (Elt F) f = v →
      (pts (Sm j (rz c k.val) h) c f : sProp 𝕄) ⊢ holds (Sm j (rz c k.val) h) c (strip (rz c k.val) v) := fun f k hv => by
    refine (holds_intro (Sm j (rz c k.val) h) c f).trans (Entails.of_eq ?_)
    rw [strip_read, hv]
  show iprop(∃ f, pts (Qm j h) c f ∗ ⌜(Qm j h).view.read (Elt F) f = v⌝) ⊢ _
  iintro ⟨%f, H, %hv⟩
  ihave H' := (Entails.of_eq ((q_split c j h f).trans (sep_s _))) $$ H
  icases H' with ⟨H0, H1, H2, H3⟩
  isplitl [H0]; · iapply (key f 0 hv) $$ H0
  isplitl [H1]; · iapply (key f 1 hv) $$ H1
  isplitl [H2]; · iapply (key f 2 hv) $$ H2
  iapply (key f 3 hv) $$ H3

section Values
variable (A : Dev nD → Vec F S1024x1024 .f32)

/-- The strip a device completes is the whole sum there. -/
theorem read_outAll (c : Dev nD) (h : Fin 2) : (Sm (dq h c 3) (rz c 0) h).view.read (Elt F) (outAll A) = red A h c := by
  funext i
  have h0 : (i 0).val < 64 := (i 0).isLt
  have h1 : (i 1).val < 512 := (i 1).isLt
  show outAll A _ = _
  unfold outAll
  have e0 : (256 * (dq h c 3).val + 64 * (rz c 0).val + 1 * (i 0).val) % 64 = (i 0).val := by omega
  have e1 : (512 * h.val + 1 * (i 1).val) % 512 = (i 1).val := by omega
  have e2 : (512 * h.val + 1 * (i 1).val) / 512 = h.val := by omega
  have e3 : owner h.val (256 * (dq h c 3).val + 64 * (rz c 0).val + 1 * (i 0).val) = c := by
    have a : (256 * (dq h c 3).val + 64 * (rz c 0).val + 1 * (i 0).val) % 256 / 64 = (rz c 0).val := by have := (rz c 0).isLt; omega
    have b : (256 * (dq h c 3).val + 64 * (rz c 0).val + 1 * (i 0).val) / 256 = (dq h c 3).val := by have := (rz c 0).isLt; omega
    unfold owner
    refine Fin.ext ?_
    show 4 * ((256 * (dq h c 3).val + 64 * (rz c 0).val + 1 * (i 0).val) % 256 / 64) + ((256 * (dq h c 3).val + 64 * (rz c 0).val + 1 * (i 0).val) / 256 + _) % 4 = c.val
    rw [a, b]
    clear a b e0 e1 e2 h0 h1 i
    revert h c; decide +kernel
  refine congr (congr (congrArg (red A) (Fin.ext e2)) ?_) ?_
  · exact (congrArg (fun x => owner x _) e2).trans e3
  · funext a
    match a with
    | 0 => exact Fin.ext e0
    | 1 => exact Fin.ext e1

end Values

end Cert.KernelIdeal.Comm

end
-- ==== Proof.KernelIdeal.Copies.lean ====
/-
  THE COPIES, phase by phase: what each is started with, and what waiting for it gives.
-/
module

public import proofs.«01_k».proof.Proof.KernelIdeal.Windows

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ)

theorem mem_cA : ∀ (d : Fin 2) (s : Fin 3), cA d s ∈ copyL := by decide +kernel
theorem mem_cR : ∀ (l : Fin 3) (h : Fin 2), cR l h ∈ copyL := by decide +kernel
theorem mem_cG : ∀ (l : Fin 3) (h : Fin 2), cG l h ∈ copyL := by decide +kernel
theorem mem_cC : ∀ (d : Fin 2) (s : Fin 3), cC d s ∈ copyL := by decide +kernel

theorem fr_peer : ∀ (d : Fin 2) (c : Dev nD), fr d (peer (eD d) c) = c := by decide +kernel
theorem peer_inv_peer : ∀ (e : Fin 5) (c : Dev nD), peer (inv e) (peer e c) = c := by decide +kernel
/-- The number of the slot of the device that a slot's device addresses. -/
def rev (l : Fin 3) : Fin 3 := 2 - l
theorem inv_eL : ∀ l : Fin 3, inv (eL l) = eL (rev l) := by decide
theorem col_dq : ∀ (l : Fin 3) (h : Fin 2) (c : Dev nD), dq h (peer (eL l) c) 3 = dq h c 3 := by decide +kernel
theorem col_rz : ∀ (l : Fin 3) (c : Dev nD), rz (peer (eL l) c) 0 = rz c (3 - l.val) := by decide +kernel
theorem ring_dq : ∀ (d : Fin 2) (s : Fin 3) (c : Dev nD), dq d (peer (eD d) c) s.val = dq d c (s.val + 3) := by decide +kernel

/-- The landing windows of the gathers, in the order they are used. -/
def slotG (l : Fin 3) (h : Fin 2) (c : Dev nD) : sProp 𝕄 := free (Sm (dq h c 3) (rz c 0) h) (peer (eL l) c)
def slotC (d : Fin 2) (s : Fin 3) (c : Dev nD) : sProp 𝕄 := free (Qm (dq d c (s.val + 3)) d) (peer (eD d) c)

theorem dq_four : ∀ (d : Fin 2) (s : Fin 3) (c : Dev nD), dq d c s.val = dq d c (s.val + 4) := by decide +kernel
theorem rz_inv : ∀ (l : Fin 3) (c : Dev nD), rz (peer (inv (eL l)) c) 0 = rz c (l.val + 1) := by decide +kernel
theorem lend_dq : ∀ (d : Fin 2) (s : Fin 2) (c : Dev nD), dq (1 - d) (fr d c) s.val = dq (1 - d) c (s.val + 3) := by decide +kernel
theorem lend_dq' : ∀ (d : Fin 2) (c : Dev nD), dq (1 - d) (fr d c) 2 = dq (1 - d) c (2 + 3) := by decide +kernel
theorem fr_eD : ∀ (d : Fin 2) (c : Dev nD), fr d c = peer (eD (1 - d)) c := by decide +kernel
theorem lendA_slot : ∀ (d : Fin 2) (s : Fin 2) (c : Dev nD), (lendA d (fr d c) s.succ : sProp 𝕄) = slotC (1 - d) s.castSucc c := by
  intro d s c
  have e := lend_dq d s c
  have e' := fr_eD d c
  have hs : ¬ (s.succ = 0) := Fin.succ_ne_zero s
  unfold lendA
  rw [if_neg hs]
  show (lend d (fr d c) (s.val + 1 - 1) : sProp 𝕄) = free (Qm (dq (1 - d) c (s.val + 3)) (1 - d)) (peer (eD (1 - d)) c)
  unfold lend
  rw [Nat.add_sub_cancel, e, e']
theorem lendC_slot (d : Fin 2) (c : Dev nD) : (lendC d (fr d c) 0 : sProp 𝕄) = slotC (1 - d) 2 c := by
  have e := lend_dq' d c
  have e' := fr_eD d c
  show (lend d (fr d c) 2 : sProp 𝕄) = free (Qm (dq (1 - d) c (2 + 3)) (1 - d)) (peer (eD (1 - d)) c)
  unfold lend
  rw [e, e']

theorem lendA_intro (d : Fin 2) (s : Fin 2) (c : Dev nD) (v : Vec F S256x512 .f32) :
    (holds (Qm (dq (1 - d) c s.val) (1 - d)) c v : sProp 𝕄) ⊢ lendA d c s.succ := by
  refine (holds_free _ _ _).trans (Entails.of_eq ?_)
  unfold lendA
  rw [if_neg (Fin.succ_ne_zero s)]
  rfl
theorem lendA_zero (d : Fin 2) (c : Dev nD) : (iprop(emp) : sProp 𝕄) ⊢ lendA d c 0 := Entails.of_eq (by unfold lendA; rw [if_pos rfl])
theorem lendC_intro (d : Fin 2) (c : Dev nD) (v : Vec F S256x512 .f32) :
    (holds (Qm (dq (1 - d) c 2) (1 - d)) c v : sProp 𝕄) ⊢ lendC d c 0 := by
  refine (holds_free _ _ _).trans (Entails.of_eq ?_)
  unfold lendC
  rw [if_pos rfl]
  rfl
theorem lendC_succ (d : Fin 2) (s : Fin 2) (c : Dev nD) : (iprop(emp) : sProp 𝕄) ⊢ lendC d c s.succ :=
  Entails.of_eq (by unfold lendC; rw [if_neg (Fin.succ_ne_zero s)])

/-- The strip a device completes, shared among the three copies that read it. -/
theorem own_strip (h : Fin 2) (c : Dev nD) : (holds (Sm (dq h c 3) (rz c 0) h) c (red A h c) : sProp 𝕄)
    ⊢ iprop(ptsq (Sm (dq h c 3) (rz c 0) h) c (shr 2) (outAll A) ∗ ptsq (Sm (dq h c 3) (rz c 0) h) c (shr 1) (outAll A) ∗ ptsq (Sm (dq h c 3) (rz c 0) h) c (shr 0) (outAll A)) := by
  refine (Entails.of_eq (by rw [read_outAll])).trans ((holds_pts (Sm (dq h c 3) (rz c 0) h) c (outAll A)).trans ?_)
  refine (pointsTo_share (PosShare.mem_left_op_right fullShare)).1.trans ?_
  exact sep_mono_right (pointsTo_share (PosShare.mem_left_op_right fullShare.right)).1
theorem strip_own (h : Fin 2) (c : Dev nD) :
    iprop(ptsq (Sm (dq h c 3) (rz c 0) h) c (shr 2) (outAll A) ∗ ptsq (Sm (dq h c 3) (rz c 0) h) c (shr 1) (outAll A) ∗ ptsq (Sm (dq h c 3) (rz c 0) h) c (shr 0) (outAll A))
      ⊢ (pts (Sm (dq h c 3) (rz c 0) h) c (outAll A) : sProp 𝕄) := by
  refine (sep_mono_right (pointsTo_share (PosShare.mem_left_op_right fullShare.right)).2).trans ?_
  exact (pointsTo_share (PosShare.mem_left_op_right fullShare)).2
/-- The four strips joined. -/
theorem strips_q (h : Fin 2) (c : Dev nD) :
    iprop(pts (Sm (dq h c 3) (rz c 0) h) c (outAll A) ∗ pts (Sm (dq h c 3) (rz c 1) h) c (outAll A) ∗ pts (Sm (dq h c 3) (rz c 2) h) c (outAll A) ∗ pts (Sm (dq h c 3) (rz c 3) h) c (outAll A))
      ⊢ (pts (Qm (dq h c 3) h) c (outAll A) : sProp 𝕄) :=
  Entails.of_eq ((q_split c (dq h c 3) h (outAll A)).trans (sep_s _)).symm

section Copies
variable {c : Dev nD} {Q : PUnit.{1} → sProp 𝕄} {n : ℕ}

/-! ## Starting them -/

theorem sendA {Q : PUnit.{1} → sProp 𝕄} (d : Fin 2) (s : Fin 3) (hn : tbl[n]? = some ((cA d s).2.2.1, .dma (cA d s).2.1, (cA d s).2.2.2.1, (cA d s).2.2.2.2))
    {p : Dev nD} (hp : p = peer (eD d) c) {off : Fin 2 → ℕ} (ho : off = ![256 * (dq d c s.val).val, 512 * d.val]) {hb}
    {dst0 : Memref sig .tc .vmem S256x512 .f32} (hd : dst0 = Am d s) {sS0 sR0 : DmaSem sig} (hS : sS0 = sAS d s) (hR : sR0 = sAR d s) {hsc hsrc hdst hsem} :
    iprop(wld A κ c ∗ kit c (cA d s) ∗ holds (Qm (dq d c s.val) d) c (acc A d c s.val) ∗ free (Am d s) (peer (eD d) c) ∗ lendA d c s ∗ own c n)
      ⊢ iprop(((own c (n + 1) ∗ wt c (sAR d s) (2 + s.val) NA ∗ wt c (sAS d s) (2 + s.val) NA) -∗ Q ⟨⟩)
        -∗ wp frame (wpE (defs₀ (F := F)) 𝒱₀ c none) Set.univ
          (Prog.lift (.enqueueDma (outM.slice (Rect.unit (s := S1024x1024) off S256x512.size hb) (fun _ => rfl)) (.remote (Dev.tc p) dst0 (.dma sS0) hsc) (.dma sR0) hsrc hdst hsem)) Q) := by
  show iprop(wld A κ c ∗ kit c (cA d s) ∗ (∃ f, pts (Qm (dq d c s.val) d) c f ∗ ⌜(Qm (dq d c s.val) d).view.read (Elt F) f = acc A d c s.val⌝) ∗ free (Am d s) (peer (eD d) c) ∗ lendA d c s ∗ own c n) ⊢ _
  iintro ⟨Hw, Hk, ⟨%f, Hs, %hf⟩, Hd, HX, HO⟩ HQ
  iapply (snd A κ (mem_cA d s) (n := n) hn (src := Qm (dq d c s.val) d) (dst := Am d s) rfl (q := fullShare) (fs := f) (X := lendA d c s)
    (by rw [kind_aS]; exact (holds_intro _ c f).trans (Entails.of_eq (by rw [hf]; rfl)))
    (fun fd => by
      rw [kind_aR]
      show _ ⊢ iprop(holds (Am d s) (peer (eD d) c) (acc A d (fr d (peer (eD d) c)) s.val) ∗ lendA d (fr d (peer (eD d) c)) s)
      rw [fr_peer, ← hf]
      exact sep_mono_left (write_holds _ _ fd _))
    hp (q_eq ho) hd hS hR) $$ [Hw Hk Hs Hd HX HO]
  · isplitl [Hw]; · iexact Hw
    isplitl [Hk]; · iexact Hk
    isplitl [Hs]; · iexact Hs
    isplitl [Hd]; · iexact Hd
    isplitl [HX]; · iexact HX
    iexact HO
  iexact HQ

theorem sendR {Q : PUnit.{1} → sProp 𝕄} (l : Fin 3) (h : Fin 2) (hn : tbl[n]? = some ((cR l h).2.2.1, .dma (cR l h).2.1, (cR l h).2.2.2.1, (cR l h).2.2.2.2))
    {p : Dev nD} (hp : p = peer (eL l) c) {off : Fin 2 → ℕ} (ho : off = ![256 * (dq h c 3).val + 64 * (rz c (3 - l.val)).val, 512 * h.val]) {hb}
    {dst0 : Memref sig .tc .vmem S64x512 .f32} (hd : dst0 = Bm l h) {sS0 sR0 : DmaSem sig} (hS : sS0 = sRS l h) (hR : sR0 = sRR l h) {hsc hsrc hdst hsem} :
    iprop(wld A κ c ∗ kit c (cR l h) ∗ holds (Sm (dq h c 3) (rz c (3 - l.val)) h) c (strip (rz c (3 - l.val)) (acc A h c 3)) ∗ free (Bm l h) (peer (eL l) c) ∗ own c n)
      ⊢ iprop(((own c (n + 1) ∗ wt c (sRR l h) 5 NB ∗ wt c (sRS l h) 5 NB) -∗ Q ⟨⟩)
        -∗ wp frame (wpE (defs₀ (F := F)) 𝒱₀ c none) Set.univ
          (Prog.lift (.enqueueDma (outM.slice (Rect.unit (s := S1024x1024) off S64x512.size hb) (fun _ => rfl)) (.remote (Dev.tc p) dst0 (.dma sS0) hsc) (.dma sR0) hsrc hdst hsem)) Q) := by
  show iprop(wld A κ c ∗ kit c (cR l h) ∗ (∃ f, pts (Sm (dq h c 3) (rz c (3 - l.val)) h) c f ∗ ⌜(Sm (dq h c 3) (rz c (3 - l.val)) h).view.read (Elt F) f = strip (rz c (3 - l.val)) (acc A h c 3)⌝) ∗ free (Bm l h) (peer (eL l) c) ∗ own c n) ⊢ _
  iintro ⟨Hw, Hk, ⟨%f, Hs, %hf⟩, Hd, HO⟩ HQ
  iapply (snd_land A κ (mem_cR l h) (n := n) hn (src := Sm (dq h c 3) (rz c (3 - l.val)) h) (dst := Bm l h) rfl (fs := f)
    (by rw [kind_rS]; exact Entails.of_eq rfl)
    (fun fd => by
      rw [kind_rR]
      show _ ⊢ iprop(holds (Bm l h) (peer (eL l) c) (strip (rz (peer (eL l) c) 0) (acc A h (peer (inv (eL l)) (peer (eL l) c)) 3))
        ∗ free (Sm (dq h (peer (eL l) c) 3) (rz (peer (eL l) c) 0) h) (peer (inv (eL l)) (peer (eL l) c)))
      rw [peer_inv_peer, col_rz, col_dq, ← hf]
      exact (sep_mono_left (write_holds _ _ fd _)).trans (sep_mono_right (pts_free _ _ f)))
    hp (s_eq ho) hd hS hR) $$ [Hw Hk Hs Hd HO]
  · isplitl [Hw]; · iexact Hw
    isplitl [Hk]; · iexact Hk
    isplitl [Hs]; · iexact Hs
    isplitl [Hd]; · iexact Hd
    iexact HO
  iexact HQ

theorem sendG {Q : PUnit.{1} → sProp 𝕄} (l : Fin 3) (h : Fin 2) (hn : tbl[n]? = some ((cG l h).2.2.1, .dma (cG l h).2.1, (cG l h).2.2.2.1, (cG l h).2.2.2.2))
    {p : Dev nD} (hp : p = peer (eL l) c) {off : Fin 2 → ℕ} (ho : off = ![256 * (dq h c 3).val + 64 * (rz c 0).val, 512 * h.val]) {hb hb'}
    {sS0 sR0 : DmaSem sig} (hS : sS0 = sGS l h) (hR : sR0 = sGR l h) {hsc hsrc hdst hsem} :
    iprop(wld A κ c ∗ kit c (cG l h) ∗ ptsq (Sm (dq h c 3) (rz c 0) h) c (shr l) (outAll A) ∗ slotG l h c ∗ own c n)
      ⊢ iprop(((own c (n + 1) ∗ wt c (sGR l h) 6 NB ∗ wt c (sGS l h) 6 NB) -∗ Q ⟨⟩)
        -∗ wp frame (wpE (defs₀ (F := F)) 𝒱₀ c none) Set.univ
          (Prog.lift (.enqueueDma (outM.slice (Rect.unit (s := S1024x1024) off S64x512.size hb) (fun _ => rfl)) (.remote (Dev.tc p) (outM.slice (Rect.unit (s := S1024x1024) off S64x512.size hb') (fun _ => rfl)) (.dma sS0) hsc) (.dma sR0) hsrc hdst hsem)) Q) := by
  unfold slotG
  iintro ⟨Hw, Hk, Hs, Hd, HO⟩ HQ
  iapply (snd A κ (mem_cG l h) (n := n) hn (src := Sm (dq h c 3) (rz c 0) h) (dst := Sm (dq h c 3) (rz c 0) h) rfl (q := shr l) (fs := outAll A) (X := iprop(emp))
    (by rw [kind_gS]; exact Entails.of_eq rfl)
    (fun fd => by
      rw [kind_gR]
      show _ ⊢ pts (Sm (dq h (peer (eL l) c) 3) (rz (peer (inv (eL l)) (peer (eL l) c)) 0) h) (peer (eL l) c) (outAll A)
      rw [peer_inv_peer, col_dq]
      exact (sep_emp (PROP := sProp 𝕄)).1.trans ((write_holds (Sm (dq h c 3) (rz c 0) h) _ fd _).trans (holds_pts (Sm (dq h c 3) (rz c 0) h) _ (outAll A))))
    hp (s_eq ho) (s_eq ho) hS hR) $$ [Hw Hk Hs Hd HO]
  · isplitl [Hw]; · iexact Hw
    isplitl [Hk]; · iexact Hk
    isplitl [Hs]; · iexact Hs
    isplitl [Hd]; · iexact Hd
    isplitr; · iempintro
    iexact HO
  iexact HQ

theorem sendC {Q : PUnit.{1} → sProp 𝕄} (d : Fin 2) (s : Fin 3) (hn : tbl[n]? = some ((cC d s).2.2.1, .dma (cC d s).2.1, (cC d s).2.2.2.1, (cC d s).2.2.2.2))
    {p : Dev nD} (hp : p = peer (eD d) c) {off : Fin 2 → ℕ} (ho : off = ![256 * (dq d c (s.val + 3)).val, 512 * d.val]) {hb hb'}
    {sS0 sR0 : DmaSem sig} (hS : sS0 = sCS d s) (hR : sR0 = sCR d s) {hsc hsrc hdst hsem} :
    iprop(wld A κ c ∗ kit c (cC d s) ∗ pts (Qm (dq d c (s.val + 3)) d) c (outAll A) ∗ slotC d s c ∗ lendC d c s ∗ own c n)
      ⊢ iprop(((own c (n + 1) ∗ wt c (sCR d s) (7 + s.val) NA ∗ wt c (sCS d s) (7 + s.val) NA) -∗ Q ⟨⟩)
        -∗ wp frame (wpE (defs₀ (F := F)) 𝒱₀ c none) Set.univ
          (Prog.lift (.enqueueDma (outM.slice (Rect.unit (s := S1024x1024) off S256x512.size hb) (fun _ => rfl)) (.remote (Dev.tc p) (outM.slice (Rect.unit (s := S1024x1024) off S256x512.size hb') (fun _ => rfl)) (.dma sS0) hsc) (.dma sR0) hsrc hdst hsem)) Q) := by
  unfold slotC
  iintro ⟨Hw, Hk, Hs, Hd, HX, HO⟩ HQ
  iapply (snd A κ (mem_cC d s) (n := n) hn (src := Qm (dq d c (s.val + 3)) d) (dst := Qm (dq d c (s.val + 3)) d) rfl (q := fullShare) (fs := outAll A) (X := lendC d c s)
    (by rw [kind_cS]; exact Entails.of_eq rfl)
    (fun fd => by
      rw [kind_cR]
      show _ ⊢ iprop(pts (Qm (dq d (peer (eD d) c) s.val) d) (peer (eD d) c) (outAll A) ∗ lendC d (fr d (peer (eD d) c)) s)
      rw [ring_dq, fr_peer]
      exact sep_mono_left ((write_holds (Qm (dq d c (s.val + 3)) d) _ fd _).trans (holds_pts (Qm (dq d c (s.val + 3)) d) _ (outAll A))))
    hp (q_eq ho) (q_eq ho) hS hR) $$ [Hw Hk Hs Hd HX HO]
  · isplitl [Hw]; · iexact Hw
    isplitl [Hk]; · iexact Hk
    isplitl [Hs]; · iexact Hs
    isplitl [Hd]; · iexact Hd
    isplitl [HX]; · iexact HX
    iexact HO
  iexact HQ

/-! ## Waiting for them -/

theorem waitAS {Q : PUnit.{1} → sProp 𝕄} (d : Fin 2) (s : Fin 3) (ha : Above n (2 + s.val)) {src dst : Memref sig .tc .vmem S256x512 .f32} {sm0 : DmaSem sig} (hs : sm0 = sAS d s) {hsrc hdst} :
    iprop(wld A κ c ∗ wt c (sAS d s) (2 + s.val) NA ∗ own c n)
      ⊢ iprop(((own (F := F) c n ∗ dn (F := F) c (.dma (sAS d s)) ∗ holds (Qm (dq d c s.val) d) c (acc A d c s.val)) -∗ Q ⟨⟩)
        -∗ wp frame (wpE (defs₀ (F := F)) 𝒱₀ c none) Set.univ (Prog.lift (.waitDma2 sm0 src dst hsrc hdst)) Q) := by
  refine (wait A κ (mem_cA d s) (sm := sAS d s) (.inl rfl) (show 2 + s.val < 11 by omega) ha (dst := dst) rfl hs).trans (wand_mono_left (wand_mono_left ?_))
  refine sep_mono_right (sep_mono_right ?_)
  rw [kind_aS]
  exact Entails.of_eq rfl
theorem waitAR {Q : PUnit.{1} → sProp 𝕄} (d : Fin 2) (s : Fin 3) (ha : Above n (2 + s.val)) {src dst : Memref sig .tc .vmem S256x512 .f32} {sm0 : DmaSem sig} (hs : sm0 = sAR d s) {hsrc hdst} :
    iprop(wld A κ c ∗ wt c (sAR d s) (2 + s.val) NA ∗ own c n)
      ⊢ iprop(((own (F := F) c n ∗ dn (F := F) c (.dma (sAR d s)) ∗ holds (Am d s) c (acc A d (fr d c) s.val) ∗ lendA d (fr d c) s) -∗ Q ⟨⟩)
        -∗ wp frame (wpE (defs₀ (F := F)) 𝒱₀ c none) Set.univ (Prog.lift (.waitDma2 sm0 src dst hsrc hdst)) Q) := by
  refine (wait A κ (mem_cA d s) (sm := sAR d s) (.inr rfl) (show 2 + s.val < 11 by omega) ha (dst := dst) rfl hs).trans (wand_mono_left (wand_mono_left ?_))
  refine sep_mono_right (sep_mono_right ?_)
  rw [kind_aR]
  exact Entails.of_eq rfl
theorem waitRS {Q : PUnit.{1} → sProp 𝕄} (l : Fin 3) (h : Fin 2) (ha : Above n (5)) {src dst : Memref sig .tc .vmem S64x512 .f32} {sm0 : DmaSem sig} (hs : sm0 = sRS l h) {hsrc hdst} :
    iprop(wld A κ c ∗ wt c (sRS l h) (5) NB ∗ own c n)
      ⊢ iprop(((own (F := F) c n ∗ dn (F := F) c (.dma (sRS l h)) ∗ emp) -∗ Q ⟨⟩)
        -∗ wp frame (wpE (defs₀ (F := F)) 𝒱₀ c none) Set.univ (Prog.lift (.waitDma2 sm0 src dst hsrc hdst)) Q) := by
  refine (wait A κ (mem_cR l h) (sm := sRS l h) (.inl rfl) (show 5 < 11 by omega) ha (dst := dst) rfl hs).trans (wand_mono_left (wand_mono_left ?_))
  refine sep_mono_right (sep_mono_right ?_)
  rw [kind_rS]
  exact Entails.of_eq rfl
theorem waitRR {Q : PUnit.{1} → sProp 𝕄} (l : Fin 3) (h : Fin 2) (ha : Above n (5)) {src dst : Memref sig .tc .vmem S64x512 .f32} {sm0 : DmaSem sig} (hs : sm0 = sRR l h) {hsrc hdst} :
    iprop(wld A κ c ∗ wt c (sRR l h) (5) NB ∗ own c n)
      ⊢ iprop(((own (F := F) c n ∗ dn (F := F) c (.dma (sRR l h)) ∗ holds (Bm l h) c (strip (rz c 0) (acc A h (peer (eL (rev l)) c) 3)) ∗ slotG (rev l) h c) -∗ Q ⟨⟩)
        -∗ wp frame (wpE (defs₀ (F := F)) 𝒱₀ c none) Set.univ (Prog.lift (.waitDma2 sm0 src dst hsrc hdst)) Q) := by
  refine (wait A κ (mem_cR l h) (sm := sRR l h) (.inr rfl) (show 5 < 11 by omega) ha (dst := dst) rfl hs).trans (wand_mono_left (wand_mono_left ?_))
  refine sep_mono_right (sep_mono_right ?_)
  rw [kind_rR]
  rw [← inv_eL]
  unfold slotG
  rw [← inv_eL]
  show iprop(holds (Bm l h) c (strip (rz c 0) (acc A h (peer (inv (eL l)) c) 3)) ∗ free (Sm (dq h c 3) (rz c 0) h) (peer (inv (eL l)) c)) ⊢ _
  exact Entails.of_eq rfl
theorem waitGS {Q : PUnit.{1} → sProp 𝕄} (l : Fin 3) (h : Fin 2) (ha : Above n (6)) {src dst : Memref sig .tc .vmem S64x512 .f32} {sm0 : DmaSem sig} (hs : sm0 = sGS l h) {hsrc hdst} :
    iprop(wld A κ c ∗ wt c (sGS l h) (6) NB ∗ own c n)
      ⊢ iprop(((own (F := F) c n ∗ dn (F := F) c (.dma (sGS l h)) ∗ ptsq (Sm (dq h c 3) (rz c 0) h) c (shr l) (outAll A)) -∗ Q ⟨⟩)
        -∗ wp frame (wpE (defs₀ (F := F)) 𝒱₀ c none) Set.univ (Prog.lift (.waitDma2 sm0 src dst hsrc hdst)) Q) := by
  refine (wait A κ (mem_cG l h) (sm := sGS l h) (.inl rfl) (show 6 < 11 by omega) ha (dst := dst) rfl hs).trans (wand_mono_left (wand_mono_left ?_))
  refine sep_mono_right (sep_mono_right ?_)
  rw [kind_gS]
  exact Entails.of_eq rfl
theorem waitGR {Q : PUnit.{1} → sProp 𝕄} (l : Fin 3) (h : Fin 2) (ha : Above n (6)) {src dst : Memref sig .tc .vmem S64x512 .f32} {sm0 : DmaSem sig} (hs : sm0 = sGR l h) {hsrc hdst} :
    iprop(wld A κ c ∗ wt c (sGR l h) (6) NB ∗ own c n)
      ⊢ iprop(((own (F := F) c n ∗ dn (F := F) c (.dma (sGR l h)) ∗ pts (Sm (dq h c 3) (rz c (l.val + 1)) h) c (outAll A)) -∗ Q ⟨⟩)
        -∗ wp frame (wpE (defs₀ (F := F)) 𝒱₀ c none) Set.univ (Prog.lift (.waitDma2 sm0 src dst hsrc hdst)) Q) := by
  refine (wait A κ (mem_cG l h) (sm := sGR l h) (.inr rfl) (show 6 < 11 by omega) ha (dst := dst) rfl hs).trans (wand_mono_left (wand_mono_left ?_))
  refine sep_mono_right (sep_mono_right ?_)
  rw [kind_gR]
  rw [← rz_inv]
  exact Entails.of_eq rfl
theorem waitCS {Q : PUnit.{1} → sProp 𝕄} (d : Fin 2) (s : Fin 3) (ha : Above n (7 + s.val)) {src dst : Memref sig .tc .vmem S256x512 .f32} {sm0 : DmaSem sig} (hs : sm0 = sCS d s) {hsrc hdst} :
    iprop(wld A κ c ∗ wt c (sCS d s) (7 + s.val) NA ∗ own c n)
      ⊢ iprop(((own (F := F) c n ∗ dn (F := F) c (.dma (sCS d s)) ∗ pts (Qm (dq d c (s.val + 3)) d) c (outAll A)) -∗ Q ⟨⟩)
        -∗ wp frame (wpE (defs₀ (F := F)) 𝒱₀ c none) Set.univ (Prog.lift (.waitDma2 sm0 src dst hsrc hdst)) Q) := by
  refine (wait A κ (mem_cC d s) (sm := sCS d s) (.inl rfl) (show 7 + s.val < 11 by omega) ha (dst := dst) rfl hs).trans (wand_mono_left (wand_mono_left ?_))
  refine sep_mono_right (sep_mono_right ?_)
  rw [kind_cS]
  exact Entails.of_eq rfl
theorem waitCR {Q : PUnit.{1} → sProp 𝕄} (d : Fin 2) (s : Fin 3) (ha : Above n (7 + s.val)) {src dst : Memref sig .tc .vmem S256x512 .f32} {sm0 : DmaSem sig} (hs : sm0 = sCR d s) {hsrc hdst} :
    iprop(wld A κ c ∗ wt c (sCR d s) (7 + s.val) NA ∗ own c n)
      ⊢ iprop(((own (F := F) c n ∗ dn (F := F) c (.dma (sCR d s)) ∗ pts (Qm (dq d c (s.val + 4)) d) c (outAll A) ∗ lendC d (fr d c) s) -∗ Q ⟨⟩)
        -∗ wp frame (wpE (defs₀ (F := F)) 𝒱₀ c none) Set.univ (Prog.lift (.waitDma2 sm0 src dst hsrc hdst)) Q) := by
  refine (wait A κ (mem_cC d s) (sm := sCR d s) (.inr rfl) (show 7 + s.val < 11 by omega) ha (dst := dst) rfl hs).trans (wand_mono_left (wand_mono_left ?_))
  refine sep_mono_right (sep_mono_right ?_)
  rw [kind_cR]
  rw [← dq_four]
  exact Entails.of_eq rfl
end Copies

end Cert.KernelIdeal.Comm

end
-- ==== Proof.KernelIdeal.RingSum.lean ====
/-
  THE RING SUMS: the pieces of the program that pass the running sums along the rows.
-/
module

public import proofs.«01_k».proof.Proof.KernelIdeal.Copies
public import proofs.«01_k».proof.Proof.Gen.KernelIdeal.Skeleton
public import Idealize.ShloMosaic.Lib.Pipeline.Value

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ) {c : Dev nD}
variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)

theorem sum_val (d : Fin 2) (c : Dev nD) (s : ℕ) {w : Vec F S1x1x256x512 .f32} (h : shapeCast S256x512 w shapeCasts_S1x1x256x512_S256x512 = acc A d (fr d c) s) :
    addf (tile (dq d c (s + 1)) d (A c)) (shapeCast S256x512 w shapeCasts_S1x1x256x512_S256x512) = acc A d c (s + 1) := by rw [h]; rfl
theorem sum_val' (d : Fin 2) (c : Dev nD) (s : ℕ) {w : Vec F S1x1x256x512 .f32} (h : shapeCast S256x512 w shapeCasts_S1x1x256x512_S256x512 = acc A d (fr d c) s) :
    addf (shapeCast S256x512 (tile (dq d c (s + 1)) d (A c)) shapeCasts_S256x512_S256x512) (shapeCast S256x512 w shapeCasts_S1x1x256x512_S256x512) = acc A d c (s + 1) := by
  rw [h, shapeCast_self]; rfl

theorem part10 {Q : _ → sProp 𝕄} (v25 : BitVec 32) (v29 : BitVec 32) :
    iprop(wld A κ c ∗ kit c (cA 0 0) ∗ holds (Qm (dq 0 c 0) 0) c (acc A 0 c 0) ∗ free (Am 0 0) (peer (eD 0) c) ∗ kit c (cA 1 0) ∗ holds (Qm (dq 1 c 0) 1) c (acc A 1 c 0) ∗ free (Am 1 0) (peer (eD 1) c) ∗ own c 5)
      ⊢ iprop(((holds (Am 0 0) c (acc A 0 (fr 0 c) 0) ∗ holds (Qm (dq 0 c 0) 0) c (acc A 0 c 0) ∗ dn c (.dma (sAR 0 0)) ∗ dn c (.dma (sAS 0 0)) ∗ wt c (sAR 1 0) (2 + ((0 : Fin 3)).val) NA ∗ wt c (sAS 1 0) (2 + ((0 : Fin 3)).val) NA ∗ own c 7) -∗ Q ⟨⟩)
        -∗ wp frame (wpE (defs₀ (F := F)) 𝒱₀ c none) Set.univ (k0_part10 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29) Q) := by
  rw [k0_part10_eq_skeleton]; unfold k0_part10_skel; simp only [wp_bind]
  iintro ⟨#Hw, HkA_0_0, HQ_0_0, HFA_0_0, HkA_1_0, HQ_1_0, HFA_1_0, HO⟩ Hk
  iapply (sendA A κ 0 0 (n := 5) rfl (dev6_eq c) (off1_eq c 0) rfl rfl rfl) $$ [HkA_0_0 HQ_0_0 HFA_0_0 HO]
  · isplitr; · iexact Hw
    isplitl [HkA_0_0]; · iexact HkA_0_0
    isplitl [HQ_0_0]; · iexact HQ_0_0
    isplitl [HFA_0_0]; · iexact HFA_0_0
    isplitr; · iapply (lendA_zero 0 c); iempintro
    iexact HO
  iintro ⟨HO, HwAR_0_0, HwAS_0_0⟩
  beta_reduce
  iapply (sendA A κ 1 0 (n := 6) rfl (dev7_eq c) (off2_eq c 0) rfl rfl rfl) $$ [HkA_1_0 HQ_1_0 HFA_1_0 HO]
  · isplitr; · iexact Hw
    isplitl [HkA_1_0]; · iexact HkA_1_0
    isplitl [HQ_1_0]; · iexact HQ_1_0
    isplitl [HFA_1_0]; · iexact HFA_1_0
    isplitr; · iapply (lendA_zero 1 c); iempintro
    iexact HO
  iintro ⟨HO, HwAR_1_0, HwAS_1_0⟩
  beta_reduce
  iapply (waitAS A κ 0 0 (n := 7) (by decide +kernel) rfl) $$ [HwAS_0_0 HO]
  · isplitr; · iexact Hw
    isplitl [HwAS_0_0]; · iexact HwAS_0_0
    iexact HO
  iintro ⟨HO, HnAS_0_0, HQ_0_0⟩
  beta_reduce
  iapply (waitAR A κ 0 0 (n := 7) (by decide +kernel) rfl) $$ [HwAR_0_0 HO]
  · isplitr; · iexact Hw
    isplitl [HwAR_0_0]; · iexact HwAR_0_0
    iexact HO
  iintro ⟨HO, HnAR_0_0, HLA_0_0, -⟩
  beta_reduce
  rw [wp_pure]
  imodintro
  iapply Hk
  isplitl [HLA_0_0]; · iexact HLA_0_0
  isplitl [HQ_0_0]; · iexact HQ_0_0
  isplitl [HnAR_0_0]; · iexact HnAR_0_0
  isplitl [HnAS_0_0]; · iexact HnAS_0_0
  isplitl [HwAR_1_0]; · iexact HwAR_1_0
  isplitl [HwAS_1_0]; · iexact HwAS_1_0
  iexact HO

theorem part11 {Q : _ → sProp 𝕄} (v3 : BitVec 32) (v29 : BitVec 32) :
    iprop(wld A κ c ∗ wt c (sAS 1 0) (2 + ((0 : Fin 3)).val) NA ∗ wt c (sAR 1 0) (2 + ((0 : Fin 3)).val) NA ∗ holds (Qm (dq 0 c 1) 0) c (tile (dq 0 c 1) 0 (A c)) ∗ own c 7)
      ⊢ iprop((∀ w₁ : BitVec 32, ∀ w₂ : BitVec 32, (holds (Am 1 0) c (acc A 1 (fr 1 c) 0) ∗ holds (Qm (dq 1 c 0) 1) c (acc A 1 c 0) ∗ holds (Qm (dq 0 c 1) 0) c (tile (dq 0 c 1) 0 (A c)) ∗ dn c (.dma (sAR 1 0)) ∗ dn c (.dma (sAS 1 0)) ∗ own c 7) -∗ Q ⟨w₁, w₂, tile (dq 0 c 1) 0 (A c)⟩)
        -∗ wp frame (wpE (defs₀ (F := F)) 𝒱₀ c none) Set.univ (k0_part11 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v29) Q) := by
  rw [k0_part11_eq_skeleton]; unfold k0_part11_skel; simp only [wp_bind]
  iintro ⟨#Hw, HwAS_1_0, HwAR_1_0, HT_0_1, HO⟩ Hk
  iapply (waitAS A κ 1 0 (n := 7) (by decide +kernel) rfl) $$ [HwAS_1_0 HO]
  · isplitr; · iexact Hw
    isplitl [HwAS_1_0]; · iexact HwAS_1_0
    iexact HO
  iintro ⟨HO, HnAS_1_0, HQ_1_0⟩
  beta_reduce
  iapply (waitAR A κ 1 0 (n := 7) (by decide +kernel) rfl) $$ [HwAR_1_0 HO]
  · isplitr; · iexact Hw
    isplitl [HwAR_1_0]; · iexact HwAR_1_0
    iexact HO
  iintro ⟨HO, HnAR_1_0, HLA_1_0, -⟩
  beta_reduce
  iapply (ld_q (dq 0 c 1) 0 (off3_eq c 0)) $$ HT_0_1
  iintro HT_0_1
  beta_reduce
  rw [wp_pure]
  imodintro
  rw [show k0_pay28 (tile (dq 0 c 1) 0 (A c)) = tile (dq 0 c 1) 0 (A c) from shapeCast_self _ _]
  iapply Hk
  isplitl [HLA_1_0]; · iexact HLA_1_0
  isplitl [HQ_1_0]; · iexact HQ_1_0
  isplitl [HT_0_1]; · iexact HT_0_1
  isplitl [HnAR_1_0]; · iexact HnAR_1_0
  isplitl [HnAS_1_0]; · iexact HnAS_1_0
  iexact HO

theorem part12 {Q : _ → sProp 𝕄} (v3 : BitVec 32) (v25 : BitVec 32) (v365 : BitVec 32) (v366 : BitVec 32) :
    iprop(wld A κ c ∗ holds (Am 0 0) c (acc A 0 (fr 0 c) 0) ∗ holds (Qm (dq 0 c 1) 0) c (tile (dq 0 c 1) 0 (A c)) ∗ holds (Qm (dq 1 c 1) 1) c (tile (dq 1 c 1) 1 (A c)) ∗ holds (Am 1 0) c (acc A 1 (fr 1 c) 0) ∗ own c 7)
      ⊢ iprop(((holds (Am 0 0) c (acc A 0 (fr 0 c) 0) ∗ holds (Am 1 0) c (acc A 1 (fr 1 c) 0) ∗ holds (Qm (dq 0 c 1) 0) c (acc A 0 c 1) ∗ holds (Qm (dq 1 c 1) 1) c (acc A 1 c 1) ∗ own c 7) -∗ Q ⟨⟩)
        -∗ wp frame (wpE (defs₀ (F := F)) 𝒱₀ c none) Set.univ (k0_part12 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v25 v365 v366 (tile (dq 0 c 1) 0 (A c))) Q) := by
  rw [k0_part12_eq_skeleton]; unfold k0_part12_skel; simp only [wp_bind]
  iintro ⟨#Hw, HLA_0_0, HT_0_1, HT_1_1, HLA_1_0, HO⟩ Hk
  iapply (ld_a 0 0) $$ HLA_0_0
  iintro %w %hw HLA_0_0
  beta_reduce
  iapply (ld_q (dq 0 c 1) 0 (off3_eq c 0)) $$ HT_0_1
  iintro HT_0_1
  beta_reduce
  iapply (st_q (dq 0 c 1) 0 (off3_eq c 0)) $$ HT_0_1
  iintro H
  beta_reduce
  ihave HQ_0_1 := (Entails.of_eq (congrArg (holds (Qm (dq 0 c 1) 0) c) (show k0_pay29 (tile (dq 0 c 1) 0 (A c)) w = acc A 0 c 1 from sum_val A 0 c 0 hw))) $$ H
  iapply (ld_q (dq 1 c 1) 1 (off4_eq c 0)) $$ HT_1_1
  iintro HT_1_1
  beta_reduce
  iapply (ld_a 1 0) $$ HLA_1_0
  iintro %u %hu HLA_1_0
  beta_reduce
  iapply (ld_q (dq 1 c 1) 1 (off4_eq c 0)) $$ HT_1_1
  iintro HT_1_1
  beta_reduce
  iapply (st_q (dq 1 c 1) 1 (off4_eq c 0)) $$ HT_1_1
  iintro H
  beta_reduce
  ihave HQ_1_1 := (Entails.of_eq (congrArg (holds (Qm (dq 1 c 1) 1) c) (show k0_pay30 (tile (dq 1 c 1) 1 (A c)) u = acc A 1 c 1 from sum_val' A 1 c 0 hu))) $$ H
  rw [wp_pure]
  imodintro
  iapply Hk
  isplitl [HLA_0_0]; · iexact HLA_0_0
  isplitl [HLA_1_0]; · iexact HLA_1_0
  isplitl [HQ_0_1]; · iexact HQ_0_1
  isplitl [HQ_1_1]; · iexact HQ_1_1
  iexact HO

theorem part13 {Q : _ → sProp 𝕄} (v25 : BitVec 32) (v29 : BitVec 32) :
    iprop(wld A κ c ∗ kit c (cA 0 1) ∗ holds (Qm (dq 0 c 1) 0) c (acc A 0 c 1) ∗ free (Am 0 1) (peer (eD 0) c) ∗ holds (Qm (dq 1 c 0) 1) c (acc A 1 c 0) ∗ kit c (cA 1 1) ∗ holds (Qm (dq 1 c 1) 1) c (acc A 1 c 1) ∗ free (Am 1 1) (peer (eD 1) c) ∗ holds (Qm (dq 0 c 0) 0) c (acc A 0 c 0) ∗ own c 7)
      ⊢ iprop(((holds (Am 0 1) c (acc A 0 (fr 0 c) 1) ∗ holds (Qm (dq 0 c 1) 0) c (acc A 0 c 1) ∗ slotC 1 0 c ∗ dn c (.dma (sAR 0 1)) ∗ dn c (.dma (sAS 0 1)) ∗ wt c (sAR 1 1) (2 + ((1 : Fin 3)).val) NA ∗ wt c (sAS 1 1) (2 + ((1 : Fin 3)).val) NA ∗ own c 9) -∗ Q ⟨⟩)
        -∗ wp frame (wpE (defs₀ (F := F)) 𝒱₀ c none) Set.univ (k0_part13 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29) Q) := by
  rw [k0_part13_eq_skeleton]; unfold k0_part13_skel; simp only [wp_bind]
  iintro ⟨#Hw, HkA_0_1, HQ_0_1, HFA_0_1, HQ_1_0, HkA_1_1, HQ_1_1, HFA_1_1, HQ_0_0, HO⟩ Hk
  iapply (sendA A κ 0 1 (n := 7) rfl (dev8_eq c) (off1_eq c 1) rfl rfl rfl) $$ [HkA_0_1 HQ_0_1 HFA_0_1 HQ_1_0 HO]
  · isplitr; · iexact Hw
    isplitl [HkA_0_1]; · iexact HkA_0_1
    isplitl [HQ_0_1]; · iexact HQ_0_1
    isplitl [HFA_0_1]; · iexact HFA_0_1
    isplitl [HQ_1_0]; · iapply (show holds (Qm (dq 1 c 0) 1) c (acc A 1 c 0) ⊢ lendA 0 c 1 from lendA_intro 0 0 c _) $$ HQ_1_0
    iexact HO
  iintro ⟨HO, HwAR_0_1, HwAS_0_1⟩
  beta_reduce
  iapply (sendA A κ 1 1 (n := 8) rfl (dev9_eq c) (off2_eq c 1) rfl rfl rfl) $$ [HkA_1_1 HQ_1_1 HFA_1_1 HQ_0_0 HO]
  · isplitr; · iexact Hw
    isplitl [HkA_1_1]; · iexact HkA_1_1
    isplitl [HQ_1_1]; · iexact HQ_1_1
    isplitl [HFA_1_1]; · iexact HFA_1_1
    isplitl [HQ_0_0]; · iapply (show holds (Qm (dq 0 c 0) 0) c (acc A 0 c 0) ⊢ lendA 1 c 1 from lendA_intro 1 0 c _) $$ HQ_0_0
    iexact HO
  iintro ⟨HO, HwAR_1_1, HwAS_1_1⟩
  beta_reduce
  iapply (waitAS A κ 0 1 (n := 9) (by decide +kernel) rfl) $$ [HwAS_0_1 HO]
  · isplitr; · iexact Hw
    isplitl [HwAS_0_1]; · iexact HwAS_0_1
    iexact HO
  iintro ⟨HO, HnAS_0_1, HQ_0_1⟩
  beta_reduce
  iapply (waitAR A κ 0 1 (n := 9) (by decide +kernel) rfl) $$ [HwAR_0_1 HO]
  · isplitr; · iexact Hw
    isplitl [HwAR_0_1]; · iexact HwAR_0_1
    iexact HO
  iintro ⟨HO, HnAR_0_1, HLA_0_1, HX⟩
  beta_reduce
  ihave HXC_1_0 := (show lendA 0 (fr 0 c) 1 ⊢ slotC 1 0 c from Entails.of_eq (lendA_slot 0 0 c)) $$ HX
  rw [wp_pure]
  imodintro
  iapply Hk
  isplitl [HLA_0_1]; · iexact HLA_0_1
  isplitl [HQ_0_1]; · iexact HQ_0_1
  isplitl [HXC_1_0]; · iexact HXC_1_0
  isplitl [HnAR_0_1]; · iexact HnAR_0_1
  isplitl [HnAS_0_1]; · iexact HnAS_0_1
  isplitl [HwAR_1_1]; · iexact HwAR_1_1
  isplitl [HwAS_1_1]; · iexact HwAS_1_1
  iexact HO

theorem part14 {Q : _ → sProp 𝕄} (v3 : BitVec 32) (v29 : BitVec 32) :
    iprop(wld A κ c ∗ wt c (sAS 1 1) (2 + ((1 : Fin 3)).val) NA ∗ wt c (sAR 1 1) (2 + ((1 : Fin 3)).val) NA ∗ holds (Qm (dq 0 c 2) 0) c (tile (dq 0 c 2) 0 (A c)) ∗ own c 9)
      ⊢ iprop((∀ w₁ : BitVec 32, ∀ w₂ : BitVec 32, (holds (Am 1 1) c (acc A 1 (fr 1 c) 1) ∗ holds (Qm (dq 1 c 1) 1) c (acc A 1 c 1) ∗ holds (Qm (dq 0 c 2) 0) c (tile (dq 0 c 2) 0 (A c)) ∗ slotC 0 0 c ∗ dn c (.dma (sAR 1 1)) ∗ dn c (.dma (sAS 1 1)) ∗ own c 9) -∗ Q ⟨w₁, w₂, tile (dq 0 c 2) 0 (A c)⟩)
        -∗ wp frame (wpE (defs₀ (F := F)) 𝒱₀ c none) Set.univ (k0_part14 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v29) Q) := by
  rw [k0_part14_eq_skeleton]; unfold k0_part14_skel; simp only [wp_bind]
  iintro ⟨#Hw, HwAS_1_1, HwAR_1_1, HT_0_2, HO⟩ Hk
  iapply (waitAS A κ 1 1 (n := 9) (by decide +kernel) rfl) $$ [HwAS_1_1 HO]
  · isplitr; · iexact Hw
    isplitl [HwAS_1_1]; · iexact HwAS_1_1
    iexact HO
  iintro ⟨HO, HnAS_1_1, HQ_1_1⟩
  beta_reduce
  iapply (waitAR A κ 1 1 (n := 9) (by decide +kernel) rfl) $$ [HwAR_1_1 HO]
  · isplitr; · iexact Hw
    isplitl [HwAR_1_1]; · iexact HwAR_1_1
    iexact HO
  iintro ⟨HO, HnAR_1_1, HLA_1_1, HX⟩
  beta_reduce
  ihave HXC_0_0 := (show lendA 1 (fr 1 c) 1 ⊢ slotC 0 0 c from Entails.of_eq (lendA_slot 1 0 c)) $$ HX
  iapply (ld_q (dq 0 c 2) 0 (off3_eq c 1)) $$ HT_0_2
  iintro HT_0_2
  beta_reduce
  rw [wp_pure]
  imodintro
  rw [show k0_pay31 (tile (dq 0 c 2) 0 (A c)) = tile (dq 0 c 2) 0 (A c) from shapeCast_self _ _]
  iapply Hk
  isplitl [HLA_1_1]; · iexact HLA_1_1
  isplitl [HQ_1_1]; · iexact HQ_1_1
  isplitl [HT_0_2]; · iexact HT_0_2
  isplitl [HXC_0_0]; · iexact HXC_0_0
  isplitl [HnAR_1_1]; · iexact HnAR_1_1
  isplitl [HnAS_1_1]; · iexact HnAS_1_1
  iexact HO

theorem part15 {Q : _ → sProp 𝕄} (v3 : BitVec 32) (v25 : BitVec 32) (v441 : BitVec 32) (v442 : BitVec 32) :
    iprop(wld A κ c ∗ holds (Am 0 1) c (acc A 0 (fr 0 c) 1) ∗ holds (Qm (dq 0 c 2) 0) c (tile (dq 0 c 2) 0 (A c)) ∗ holds (Qm (dq 1 c 2) 1) c (tile (dq 1 c 2) 1 (A c)) ∗ holds (Am 1 1) c (acc A 1 (fr 1 c) 1) ∗ kit c (cA 0 2) ∗ free (Am 0 2) (peer (eD 0) c) ∗ holds (Qm (dq 1 c 1) 1) c (acc A 1 c 1) ∗ own c 9)
      ⊢ iprop(((holds (Am 0 1) c (acc A 0 (fr 0 c) 1) ∗ holds (Am 1 1) c (acc A 1 (fr 1 c) 1) ∗ holds (Qm (dq 1 c 2) 1) c (acc A 1 c 2) ∗ wt c (sAR 0 2) (2 + ((2 : Fin 3)).val) NA ∗ wt c (sAS 0 2) (2 + ((2 : Fin 3)).val) NA ∗ own c 10) -∗ Q ⟨⟩)
        -∗ wp frame (wpE (defs₀ (F := F)) 𝒱₀ c none) Set.univ (k0_part15 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v25 v441 v442 (tile (dq 0 c 2) 0 (A c))) Q) := by
  rw [k0_part15_eq_skeleton]; unfold k0_part15_skel; simp only [wp_bind]
  iintro ⟨#Hw, HLA_0_1, HT_0_2, HT_1_2, HLA_1_1, HkA_0_2, HFA_0_2, HQ_1_1, HO⟩ Hk
  iapply (ld_a 0 1) $$ HLA_0_1
  iintro %w %hw HLA_0_1
  beta_reduce
  iapply (ld_q (dq 0 c 2) 0 (off3_eq c 1)) $$ HT_0_2
  iintro HT_0_2
  beta_reduce
  iapply (st_q (dq 0 c 2) 0 (off3_eq c 1)) $$ HT_0_2
  iintro H
  beta_reduce
  ihave HQ_0_2 := (Entails.of_eq (congrArg (holds (Qm (dq 0 c 2) 0) c) (show k0_pay32 (tile (dq 0 c 2) 0 (A c)) w = acc A 0 c 2 from sum_val A 0 c 1 hw))) $$ H
  iapply (ld_q (dq 1 c 2) 1 (off4_eq c 1)) $$ HT_1_2
  iintro HT_1_2
  beta_reduce
  iapply (ld_a 1 1) $$ HLA_1_1
  iintro %u %hu HLA_1_1
  beta_reduce
  iapply (ld_q (dq 1 c 2) 1 (off4_eq c 1)) $$ HT_1_2
  iintro HT_1_2
  beta_reduce
  iapply (st_q (dq 1 c 2) 1 (off4_eq c 1)) $$ HT_1_2
  iintro H
  beta_reduce
  ihave HQ_1_2 := (Entails.of_eq (congrArg (holds (Qm (dq 1 c 2) 1) c) (show k0_pay33 (tile (dq 1 c 2) 1 (A c)) u = acc A 1 c 2 from sum_val' A 1 c 1 hu))) $$ H
  iapply (sendA A κ 0 2 (n := 9) rfl (dev10_eq c) (off1_eq c 2) rfl rfl rfl) $$ [HkA_0_2 HQ_0_2 HFA_0_2 HQ_1_1 HO]
  · isplitr; · iexact Hw
    isplitl [HkA_0_2]; · iexact HkA_0_2
    isplitl [HQ_0_2]; · iexact HQ_0_2
    isplitl [HFA_0_2]; · iexact HFA_0_2
    isplitl [HQ_1_1]; · iapply (show holds (Qm (dq 1 c 1) 1) c (acc A 1 c 1) ⊢ lendA 0 c 2 from lendA_intro 0 1 c _) $$ HQ_1_1
    iexact HO
  iintro ⟨HO, HwAR_0_2, HwAS_0_2⟩
  beta_reduce
  rw [wp_pure]
  imodintro
  iapply Hk
  isplitl [HLA_0_1]; · iexact HLA_0_1
  isplitl [HLA_1_1]; · iexact HLA_1_1
  isplitl [HQ_1_2]; · iexact HQ_1_2
  isplitl [HwAR_0_2]; · iexact HwAR_0_2
  isplitl [HwAS_0_2]; · iexact HwAS_0_2
  iexact HO

theorem part16 {Q : _ → sProp 𝕄} (v25 : BitVec 32) (v29 : BitVec 32) :
    iprop(wld A κ c ∗ kit c (cA 1 2) ∗ holds (Qm (dq 1 c 2) 1) c (acc A 1 c 2) ∗ free (Am 1 2) (peer (eD 1) c) ∗ holds (Qm (dq 0 c 1) 0) c (acc A 0 c 1) ∗ wt c (sAS 0 2) (2 + ((2 : Fin 3)).val) NA ∗ wt c (sAR 0 2) (2 + ((2 : Fin 3)).val) NA ∗ own c 10)
      ⊢ iprop(((holds (Am 0 2) c (acc A 0 (fr 0 c) 2) ∗ holds (Qm (dq 0 c 2) 0) c (acc A 0 c 2) ∗ slotC 1 1 c ∗ dn c (.dma (sAR 0 2)) ∗ dn c (.dma (sAS 0 2)) ∗ wt c (sAR 1 2) (2 + ((2 : Fin 3)).val) NA ∗ wt c (sAS 1 2) (2 + ((2 : Fin 3)).val) NA ∗ own c 11) -∗ Q ⟨⟩)
        -∗ wp frame (wpE (defs₀ (F := F)) 𝒱₀ c none) Set.univ (k0_part16 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29) Q) := by
  rw [k0_part16_eq_skeleton]; unfold k0_part16_skel; simp only [wp_bind]
  iintro ⟨#Hw, HkA_1_2, HQ_1_2, HFA_1_2, HQ_0_1, HwAS_0_2, HwAR_0_2, HO⟩ Hk
  iapply (sendA A κ 1 2 (n := 10) rfl (dev11_eq c) (off2_eq c 2) rfl rfl rfl) $$ [HkA_1_2 HQ_1_2 HFA_1_2 HQ_0_1 HO]
  · isplitr; · iexact Hw
    isplitl [HkA_1_2]; · iexact HkA_1_2
    isplitl [HQ_1_2]; · iexact HQ_1_2
    isplitl [HFA_1_2]; · iexact HFA_1_2
    isplitl [HQ_0_1]; · iapply (show holds (Qm (dq 0 c 1) 0) c (acc A 0 c 1) ⊢ lendA 1 c 2 from lendA_intro 1 1 c _) $$ HQ_0_1
    iexact HO
  iintro ⟨HO, HwAR_1_2, HwAS_1_2⟩
  beta_reduce
  iapply (waitAS A κ 0 2 (n := 11) (by decide +kernel) rfl) $$ [HwAS_0_2 HO]
  · isplitr; · iexact Hw
    isplitl [HwAS_0_2]; · iexact HwAS_0_2
    iexact HO
  iintro ⟨HO, HnAS_0_2, HQ_0_2⟩
  beta_reduce
  iapply (waitAR A κ 0 2 (n := 11) (by decide +kernel) rfl) $$ [HwAR_0_2 HO]
  · isplitr; · iexact Hw
    isplitl [HwAR_0_2]; · iexact HwAR_0_2
    iexact HO
  iintro ⟨HO, HnAR_0_2, HLA_0_2, HX⟩
  beta_reduce
  ihave HXC_1_1 := (show lendA 0 (fr 0 c) 2 ⊢ slotC 1 1 c from Entails.of_eq (lendA_slot 0 1 c)) $$ HX
  rw [wp_pure]
  imodintro
  iapply Hk
  isplitl [HLA_0_2]; · iexact HLA_0_2
  isplitl [HQ_0_2]; · iexact HQ_0_2
  isplitl [HXC_1_1]; · iexact HXC_1_1
  isplitl [HnAR_0_2]; · iexact HnAR_0_2
  isplitl [HnAS_0_2]; · iexact HnAS_0_2
  isplitl [HwAR_1_2]; · iexact HwAR_1_2
  isplitl [HwAS_1_2]; · iexact HwAS_1_2
  iexact HO

theorem part17 {Q : _ → sProp 𝕄} (v3 : BitVec 32) (v29 : BitVec 32) :
    iprop(wld A κ c ∗ wt c (sAS 1 2) (2 + ((2 : Fin 3)).val) NA ∗ wt c (sAR 1 2) (2 + ((2 : Fin 3)).val) NA ∗ holds (Qm (dq 0 c 3) 0) c (tile (dq 0 c 3) 0 (A c)) ∗ holds (Am 0 2) c (acc A 0 (fr 0 c) 2) ∗ own c 11)
      ⊢ iprop((∀ w₁ : BitVec 32, ∀ w₂ : BitVec 32, ∀ w : Vec F S1x1x256x512 .f32, ⌜shapeCast S256x512 w shapeCasts_S1x1x256x512_S256x512 = acc A 0 (fr 0 c) 2⌝ -∗ (holds (Am 0 2) c (acc A 0 (fr 0 c) 2) ∗ holds (Am 1 2) c (acc A 1 (fr 1 c) 2) ∗ holds (Qm (dq 1 c 2) 1) c (acc A 1 c 2) ∗ holds (Qm (dq 0 c 3) 0) c (tile (dq 0 c 3) 0 (A c)) ∗ slotC 0 1 c ∗ dn c (.dma (sAR 1 2)) ∗ dn c (.dma (sAS 1 2)) ∗ own c 11) -∗ Q ⟨w₁, w₂, tile (dq 0 c 3) 0 (A c), w⟩)
        -∗ wp frame (wpE (defs₀ (F := F)) 𝒱₀ c none) Set.univ (k0_part17 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v29) Q) := by
  rw [k0_part17_eq_skeleton]; unfold k0_part17_skel; simp only [wp_bind]
  iintro ⟨#Hw, HwAS_1_2, HwAR_1_2, HT_0_3, HLA_0_2, HO⟩ Hk
  iapply (waitAS A κ 1 2 (n := 11) (by decide +kernel) rfl) $$ [HwAS_1_2 HO]
  · isplitr; · iexact Hw
    isplitl [HwAS_1_2]; · iexact HwAS_1_2
    iexact HO
  iintro ⟨HO, HnAS_1_2, HQ_1_2⟩
  beta_reduce
  iapply (waitAR A κ 1 2 (n := 11) (by decide +kernel) rfl) $$ [HwAR_1_2 HO]
  · isplitr; · iexact Hw
    isplitl [HwAR_1_2]; · iexact HwAR_1_2
    iexact HO
  iintro ⟨HO, HnAR_1_2, HLA_1_2, HX⟩
  beta_reduce
  ihave HXC_0_1 := (show lendA 1 (fr 1 c) 2 ⊢ slotC 0 1 c from Entails.of_eq (lendA_slot 1 1 c)) $$ HX
  iapply (ld_q (dq 0 c 3) 0 (off3_eq c 2)) $$ HT_0_3
  iintro HT_0_3
  beta_reduce
  iapply (ld_a 0 2) $$ HLA_0_2
  iintro %w %hw HLA_0_2
  beta_reduce
  rw [wp_pure]
  imodintro
  rw [show k0_pay34 (tile (dq 0 c 3) 0 (A c)) = tile (dq 0 c 3) 0 (A c) from shapeCast_self _ _]
  ispecialize Hk $$ %_ %_ %w %hw
  iapply Hk
  isplitl [HLA_0_2]; · iexact HLA_0_2
  isplitl [HLA_1_2]; · iexact HLA_1_2
  isplitl [HQ_1_2]; · iexact HQ_1_2
  isplitl [HT_0_3]; · iexact HT_0_3
  isplitl [HXC_0_1]; · iexact HXC_0_1
  isplitl [HnAR_1_2]; · iexact HnAR_1_2
  isplitl [HnAS_1_2]; · iexact HnAS_1_2
  iexact HO

theorem part18 {Q : _ → sProp 𝕄} (v3 : BitVec 32) (v20 : BitVec 32) (v517 : BitVec 32) (v518 : BitVec 32) (v522 : Vec F S1x1x256x512 .f32) (hw : shapeCast S256x512 v522 shapeCasts_S1x1x256x512_S256x512 = acc A 0 (fr 0 c) 2) :
    iprop(wld A κ c ∗ holds (Qm (dq 0 c 3) 0) c (tile (dq 0 c 3) 0 (A c)) ∗ holds (Qm (dq 1 c 3) 1) c (tile (dq 1 c 3) 1 (A c)) ∗ holds (Am 1 2) c (acc A 1 (fr 1 c) 2) ∗ own c 11)
      ⊢ iprop((∀ w₁ : BitVec 32, ∀ w₂ : BitVec 32, ∀ w₃ : BitVec 32, ∀ w₄ : BitVec 32, (holds (Am 1 2) c (acc A 1 (fr 1 c) 2) ∗ holds (Qm (dq 0 c 3) 0) c (acc A 0 c 3) ∗ holds (Qm (dq 1 c 3) 1) c (acc A 1 c 3) ∗ own c 11) -∗ Q ⟨w₁, w₂, w₃, w₄⟩)
        -∗ wp frame (wpE (defs₀ (F := F)) 𝒱₀ c none) Set.univ (k0_part18 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v517 v518 (tile (dq 0 c 3) 0 (A c)) v522) Q) := by
  rw [k0_part18_eq_skeleton]; unfold k0_part18_skel; simp only [wp_bind]
  iintro ⟨#Hw, HT_0_3, HT_1_3, HLA_1_2, HO⟩ Hk
  iapply (ld_q (dq 0 c 3) 0 (off3_eq c 2)) $$ HT_0_3
  iintro HT_0_3
  beta_reduce
  iapply (st_q (dq 0 c 3) 0 (off3_eq c 2)) $$ HT_0_3
  iintro H
  beta_reduce
  ihave HQ_0_3 := (Entails.of_eq (congrArg (holds (Qm (dq 0 c 3) 0) c) (show k0_pay35 (tile (dq 0 c 3) 0 (A c)) v522 = acc A 0 c 3 from sum_val A 0 c 2 hw))) $$ H
  iapply (ld_q (dq 1 c 3) 1 (off4_eq c 2)) $$ HT_1_3
  iintro HT_1_3
  beta_reduce
  iapply (ld_a 1 2) $$ HLA_1_2
  iintro %u %hu HLA_1_2
  beta_reduce
  iapply (ld_q (dq 1 c 3) 1 (off4_eq c 2)) $$ HT_1_3
  iintro HT_1_3
  beta_reduce
  iapply (st_q (dq 1 c 3) 1 (off4_eq c 2)) $$ HT_1_3
  iintro H
  beta_reduce
  ihave HQ_1_3 := (Entails.of_eq (congrArg (holds (Qm (dq 1 c 3) 1) c) (show k0_pay36 (tile (dq 1 c 3) 1 (A c)) u = acc A 1 c 3 from sum_val' A 1 c 2 hu))) $$ H
  rw [wp_pure]
  imodintro
  iapply Hk
  isplitl [HLA_1_2]; · iexact HLA_1_2
  isplitl [HQ_0_3]; · iexact HQ_0_3
  isplitl [HQ_1_3]; · iexact HQ_1_3
  iexact HO

end Cert.KernelIdeal.Comm

end
-- ==== Proof.KernelIdeal.Column.lean ====
/-
  THE COLUMN: the pieces that complete each strip and spread it over the column.
-/
module

public import proofs.«01_k».proof.Proof.KernelIdeal.Copies
public import proofs.«01_k».proof.Proof.Gen.KernelIdeal.Skeleton
public import Idealize.ShloMosaic.Lib.Pipeline.Value

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ) {c : Dev nD}
variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)

theorem red_val (h : Fin 2) (c : Dev nD) {a b d : Vec F S1x1x64x512 .f32} (ha : shapeCast S64x512 a shapeCasts_S1x1x64x512_S64x512 = strip (rz c 0) (acc A h (zp 1 c) 3))
    (hb : shapeCast S64x512 b shapeCasts_S1x1x64x512_S64x512 = strip (rz c 0) (acc A h (zp 2 c) 3)) (hd : shapeCast S64x512 d shapeCasts_S1x1x64x512_S64x512 = strip (rz c 0) (acc A h (zp 3 c) 3)) :
    k0_pay37 (strip (rz c 0) (acc A h c 3)) a b d = red A h c := by
  unfold k0_pay37
  simp only [ha, hb, hd, shapeCast_self]
  rfl
theorem red_val' (h : Fin 2) (c : Dev nD) {a b d : Vec F S1x1x64x512 .f32} (ha : shapeCast S64x512 a shapeCasts_S1x1x64x512_S64x512 = strip (rz c 0) (acc A h (zp 1 c) 3))
    (hb : shapeCast S64x512 b shapeCasts_S1x1x64x512_S64x512 = strip (rz c 0) (acc A h (zp 2 c) 3)) (hd : shapeCast S64x512 d shapeCasts_S1x1x64x512_S64x512 = strip (rz c 0) (acc A h (zp 3 c) 3)) :
    k0_pay38 (strip (rz c 0) (acc A h c 3)) a b d = red A h c := by
  unfold k0_pay38
  simp only [ha, hb, hd, shapeCast_self]
  rfl

theorem part19 {Q : _ → sProp 𝕄} (v3 : BitVec 32) (v20 : BitVec 32) (v537 : BitVec 32) (v540 : BitVec 32) (v542 : BitVec 32) (v544 : BitVec 32) :
    iprop(wld A κ c ∗ kit c (cR 2 0) ∗ holds (Sm (dq 0 c 3) (rz c 1) 0) c (strip (rz c 1) (acc A 0 c 3)) ∗ free (Bm 2 0) (peer (eL 2) c) ∗ kit c (cR 2 1) ∗ holds (Sm (dq 1 c 3) (rz c 1) 1) c (strip (rz c 1) (acc A 1 c 3)) ∗ free (Bm 2 1) (peer (eL 2) c) ∗ own c 11)
      ⊢ iprop((∀ w₁ : BitVec 32, ∀ w₂ : BitVec 32, (wt c (sRR 2 0) 5 NB ∗ wt c (sRR 2 1) 5 NB ∗ wt c (sRS 2 0) 5 NB ∗ wt c (sRS 2 1) 5 NB ∗ own c 13) -∗ Q ⟨w₁, w₂⟩)
        -∗ wp frame (wpE (defs₀ (F := F)) 𝒱₀ c none) Set.univ (k0_part19 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v537 v540 v542 v544) Q) := by
  rw [k0_part19_eq_skeleton]; unfold k0_part19_skel; simp only [wp_bind]
  iintro ⟨#Hw, HkR_2_0, HST_0_1, HFB_2_0, HkR_2_1, HST_1_1, HFB_2_1, HO⟩ Hk
  iapply (sendR A κ 2 0 (n := 11) rfl (dev12_eq c) (off5_eq c 0) rfl rfl rfl) $$ [HkR_2_0 HST_0_1 HFB_2_0 HO]
  · isplitr; · iexact Hw
    isplitl [HkR_2_0]; · iexact HkR_2_0
    isplitl [HST_0_1]; · iexact HST_0_1
    isplitl [HFB_2_0]; · iexact HFB_2_0
    iexact HO
  iintro ⟨HO, HwRR_2_0, HwRS_2_0⟩
  beta_reduce
  iapply (sendR A κ 2 1 (n := 12) rfl (dev13_eq c) (off6_eq c 0) rfl rfl rfl) $$ [HkR_2_1 HST_1_1 HFB_2_1 HO]
  · isplitr; · iexact Hw
    isplitl [HkR_2_1]; · iexact HkR_2_1
    isplitl [HST_1_1]; · iexact HST_1_1
    isplitl [HFB_2_1]; · iexact HFB_2_1
    iexact HO
  iintro ⟨HO, HwRR_2_1, HwRS_2_1⟩
  beta_reduce
  rw [wp_pure]
  imodintro
  iapply Hk
  isplitl [HwRR_2_0]; · iexact HwRR_2_0
  isplitl [HwRR_2_1]; · iexact HwRR_2_1
  isplitl [HwRS_2_0]; · iexact HwRS_2_0
  isplitl [HwRS_2_1]; · iexact HwRS_2_1
  iexact HO

theorem part20 {Q : _ → sProp 𝕄} (v3 : BitVec 32) (v20 : BitVec 32) (v537 : BitVec 32) (v540 : BitVec 32) (v570 : BitVec 32) (v572 : BitVec 32) :
    iprop(wld A κ c ∗ kit c (cR 1 0) ∗ holds (Sm (dq 0 c 3) (rz c 2) 0) c (strip (rz c 2) (acc A 0 c 3)) ∗ free (Bm 1 0) (peer (eL 1) c) ∗ kit c (cR 1 1) ∗ holds (Sm (dq 1 c 3) (rz c 2) 1) c (strip (rz c 2) (acc A 1 c 3)) ∗ free (Bm 1 1) (peer (eL 1) c) ∗ own c 13)
      ⊢ iprop((∀ w₁ : BitVec 32, ∀ w₂ : BitVec 32, (wt c (sRR 1 0) 5 NB ∗ wt c (sRR 1 1) 5 NB ∗ wt c (sRS 1 0) 5 NB ∗ wt c (sRS 1 1) 5 NB ∗ own c 15) -∗ Q ⟨w₁, w₂⟩)
        -∗ wp frame (wpE (defs₀ (F := F)) 𝒱₀ c none) Set.univ (k0_part20 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v537 v540 v570 v572) Q) := by
  rw [k0_part20_eq_skeleton]; unfold k0_part20_skel; simp only [wp_bind]
  iintro ⟨#Hw, HkR_1_0, HST_0_2, HFB_1_0, HkR_1_1, HST_1_2, HFB_1_1, HO⟩ Hk
  iapply (sendR A κ 1 0 (n := 13) rfl (dev14_eq c) (off5_eq c 1) rfl rfl rfl) $$ [HkR_1_0 HST_0_2 HFB_1_0 HO]
  · isplitr; · iexact Hw
    isplitl [HkR_1_0]; · iexact HkR_1_0
    isplitl [HST_0_2]; · iexact HST_0_2
    isplitl [HFB_1_0]; · iexact HFB_1_0
    iexact HO
  iintro ⟨HO, HwRR_1_0, HwRS_1_0⟩
  beta_reduce
  iapply (sendR A κ 1 1 (n := 14) rfl (dev15_eq c) (off6_eq c 1) rfl rfl rfl) $$ [HkR_1_1 HST_1_2 HFB_1_1 HO]
  · isplitr; · iexact Hw
    isplitl [HkR_1_1]; · iexact HkR_1_1
    isplitl [HST_1_2]; · iexact HST_1_2
    isplitl [HFB_1_1]; · iexact HFB_1_1
    iexact HO
  iintro ⟨HO, HwRR_1_1, HwRS_1_1⟩
  beta_reduce
  rw [wp_pure]
  imodintro
  iapply Hk
  isplitl [HwRR_1_0]; · iexact HwRR_1_0
  isplitl [HwRR_1_1]; · iexact HwRR_1_1
  isplitl [HwRS_1_0]; · iexact HwRS_1_0
  isplitl [HwRS_1_1]; · iexact HwRS_1_1
  iexact HO

theorem part21 {Q : _ → sProp 𝕄} (v2 : BitVec 32) (v540 : BitVec 32) (v598 : BitVec 32) (v600 : BitVec 32) :
    iprop(wld A κ c ∗ kit c (cR 0 0) ∗ holds (Sm (dq 0 c 3) (rz c 3) 0) c (strip (rz c 3) (acc A 0 c 3)) ∗ free (Bm 0 0) (peer (eL 0) c) ∗ kit c (cR 0 1) ∗ holds (Sm (dq 1 c 3) (rz c 3) 1) c (strip (rz c 3) (acc A 1 c 3)) ∗ free (Bm 0 1) (peer (eL 0) c) ∗ own c 15)
      ⊢ iprop(((holds (Bm 0 0) c (strip (rz c 0) (acc A 0 (zp 1 c) 3)) ∗ slotG 2 0 c ∗ dn c (.dma (sRR 0 0)) ∗ wt c (sRR 0 1) 5 NB ∗ wt c (sRS 0 0) 5 NB ∗ wt c (sRS 0 1) 5 NB ∗ own c 17) -∗ Q ⟨⟩)
        -∗ wp frame (wpE (defs₀ (F := F)) 𝒱₀ c none) Set.univ (k0_part21 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v2 v540 v598 v600) Q) := by
  rw [k0_part21_eq_skeleton]; unfold k0_part21_skel; simp only [wp_bind]
  iintro ⟨#Hw, HkR_0_0, HST_0_3, HFB_0_0, HkR_0_1, HST_1_3, HFB_0_1, HO⟩ Hk
  iapply (sendR A κ 0 0 (n := 15) rfl (dev16_eq c) (off5_eq c 2) rfl rfl rfl) $$ [HkR_0_0 HST_0_3 HFB_0_0 HO]
  · isplitr; · iexact Hw
    isplitl [HkR_0_0]; · iexact HkR_0_0
    isplitl [HST_0_3]; · iexact HST_0_3
    isplitl [HFB_0_0]; · iexact HFB_0_0
    iexact HO
  iintro ⟨HO, HwRR_0_0, HwRS_0_0⟩
  beta_reduce
  iapply (sendR A κ 0 1 (n := 16) rfl (dev17_eq c) (off6_eq c 2) rfl rfl rfl) $$ [HkR_0_1 HST_1_3 HFB_0_1 HO]
  · isplitr; · iexact Hw
    isplitl [HkR_0_1]; · iexact HkR_0_1
    isplitl [HST_1_3]; · iexact HST_1_3
    isplitl [HFB_0_1]; · iexact HFB_0_1
    iexact HO
  iintro ⟨HO, HwRR_0_1, HwRS_0_1⟩
  beta_reduce
  iapply (waitRR A κ 0 0 (n := 17) (by decide +kernel) rfl) $$ [HwRR_0_0 HO]
  · isplitr; · iexact Hw
    isplitl [HwRR_0_0]; · iexact HwRR_0_0
    iexact HO
  iintro ⟨HO, HnRR_0_0, HLB_0_0, HXG_2_0⟩
  beta_reduce
  rw [wp_pure]
  imodintro
  iapply Hk
  isplitl [HLB_0_0]; · iexact HLB_0_0
  isplitl [HXG_2_0]; · iexact HXG_2_0
  isplitl [HnRR_0_0]; · iexact HnRR_0_0
  isplitl [HwRR_0_1]; · iexact HwRR_0_1
  isplitl [HwRS_0_0]; · iexact HwRS_0_0
  isplitl [HwRS_0_1]; · iexact HwRS_0_1
  iexact HO

theorem part22 {Q : _ → sProp 𝕄} (v2 : BitVec 32) :
    iprop(wld A κ c ∗ wt c (sRR 0 1) 5 NB ∗ wt c (sRR 1 0) 5 NB ∗ own c 17)
      ⊢ iprop(((holds (Bm 0 1) c (strip (rz c 0) (acc A 1 (zp 1 c) 3)) ∗ holds (Bm 1 0) c (strip (rz c 0) (acc A 0 (zp 2 c) 3)) ∗ slotG 1 0 c ∗ slotG 2 1 c ∗ dn c (.dma (sRR 0 1)) ∗ dn c (.dma (sRR 1 0)) ∗ own c 17) -∗ Q ⟨⟩)
        -∗ wp frame (wpE (defs₀ (F := F)) 𝒱₀ c none) Set.univ (k0_part22 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 v2) Q) := by
  rw [k0_part22_eq_skeleton]; unfold k0_part22_skel; simp only [wp_bind]
  iintro ⟨#Hw, HwRR_0_1, HwRR_1_0, HO⟩ Hk
  iapply (waitRR A κ 0 1 (n := 17) (by decide +kernel) rfl) $$ [HwRR_0_1 HO]
  · isplitr; · iexact Hw
    isplitl [HwRR_0_1]; · iexact HwRR_0_1
    iexact HO
  iintro ⟨HO, HnRR_0_1, HLB_0_1, HXG_2_1⟩
  beta_reduce
  iapply (waitRR A κ 1 0 (n := 17) (by decide +kernel) rfl) $$ [HwRR_1_0 HO]
  · isplitr; · iexact Hw
    isplitl [HwRR_1_0]; · iexact HwRR_1_0
    iexact HO
  iintro ⟨HO, HnRR_1_0, HLB_1_0, HXG_1_0⟩
  beta_reduce
  rw [wp_pure]
  imodintro
  iapply Hk
  isplitl [HLB_0_1]; · iexact HLB_0_1
  isplitl [HLB_1_0]; · iexact HLB_1_0
  isplitl [HXG_1_0]; · iexact HXG_1_0
  isplitl [HXG_2_1]; · iexact HXG_2_1
  isplitl [HnRR_0_1]; · iexact HnRR_0_1
  isplitl [HnRR_1_0]; · iexact HnRR_1_0
  iexact HO

theorem part23 {Q : _ → sProp 𝕄} (v2 : BitVec 32) :
    iprop(wld A κ c ∗ wt c (sRR 1 1) 5 NB ∗ wt c (sRR 2 0) 5 NB ∗ wt c (sRR 2 1) 5 NB ∗ own c 17)
      ⊢ iprop(((holds (Bm 1 1) c (strip (rz c 0) (acc A 1 (zp 2 c) 3)) ∗ holds (Bm 2 0) c (strip (rz c 0) (acc A 0 (zp 3 c) 3)) ∗ holds (Bm 2 1) c (strip (rz c 0) (acc A 1 (zp 3 c) 3)) ∗ slotG 0 0 c ∗ slotG 0 1 c ∗ slotG 1 1 c ∗ dn c (.dma (sRR 1 1)) ∗ dn c (.dma (sRR 2 0)) ∗ dn c (.dma (sRR 2 1)) ∗ own c 17) -∗ Q ⟨⟩)
        -∗ wp frame (wpE (defs₀ (F := F)) 𝒱₀ c none) Set.univ (k0_part23 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v2) Q) := by
  rw [k0_part23_eq_skeleton]; unfold k0_part23_skel; simp only [wp_bind]
  iintro ⟨#Hw, HwRR_1_1, HwRR_2_0, HwRR_2_1, HO⟩ Hk
  iapply (waitRR A κ 1 1 (n := 17) (by decide +kernel) rfl) $$ [HwRR_1_1 HO]
  · isplitr; · iexact Hw
    isplitl [HwRR_1_1]; · iexact HwRR_1_1
    iexact HO
  iintro ⟨HO, HnRR_1_1, HLB_1_1, HXG_1_1⟩
  beta_reduce
  iapply (waitRR A κ 2 0 (n := 17) (by decide +kernel) rfl) $$ [HwRR_2_0 HO]
  · isplitr; · iexact Hw
    isplitl [HwRR_2_0]; · iexact HwRR_2_0
    iexact HO
  iintro ⟨HO, HnRR_2_0, HLB_2_0, HXG_0_0⟩
  beta_reduce
  iapply (waitRR A κ 2 1 (n := 17) (by decide +kernel) rfl) $$ [HwRR_2_1 HO]
  · isplitr; · iexact Hw
    isplitl [HwRR_2_1]; · iexact HwRR_2_1
    iexact HO
  iintro ⟨HO, HnRR_2_1, HLB_2_1, HXG_0_1⟩
  beta_reduce
  rw [wp_pure]
  imodintro
  iapply Hk
  isplitl [HLB_1_1]; · iexact HLB_1_1
  isplitl [HLB_2_0]; · iexact HLB_2_0
  isplitl [HLB_2_1]; · iexact HLB_2_1
  isplitl [HXG_0_0]; · iexact HXG_0_0
  isplitl [HXG_0_1]; · iexact HXG_0_1
  isplitl [HXG_1_1]; · iexact HXG_1_1
  isplitl [HnRR_1_1]; · iexact HnRR_1_1
  isplitl [HnRR_2_0]; · iexact HnRR_2_0
  isplitl [HnRR_2_1]; · iexact HnRR_2_1
  iexact HO

theorem part24 {Q : _ → sProp 𝕄}  :
    iprop(wld A κ c ∗ wt c (sRS 2 0) 5 NB ∗ wt c (sRS 2 1) 5 NB ∗ wt c (sRS 1 0) 5 NB ∗ wt c (sRS 1 1) 5 NB ∗ own c 17)
      ⊢ iprop(((dn c (.dma (sRS 1 0)) ∗ dn c (.dma (sRS 1 1)) ∗ dn c (.dma (sRS 2 0)) ∗ dn c (.dma (sRS 2 1)) ∗ own c 17) -∗ Q ⟨⟩)
        -∗ wp frame (wpE (defs₀ (F := F)) 𝒱₀ c none) Set.univ (k0_part24 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c) Q) := by
  rw [k0_part24_eq_skeleton]; unfold k0_part24_skel; simp only [wp_bind]
  iintro ⟨#Hw, HwRS_2_0, HwRS_2_1, HwRS_1_0, HwRS_1_1, HO⟩ Hk
  iapply (waitRS A κ 2 0 (n := 17) (by decide +kernel) rfl) $$ [HwRS_2_0 HO]
  · isplitr; · iexact Hw
    isplitl [HwRS_2_0]; · iexact HwRS_2_0
    iexact HO
  iintro ⟨HO, HnRS_2_0, -⟩
  beta_reduce
  iapply (waitRS A κ 2 1 (n := 17) (by decide +kernel) rfl) $$ [HwRS_2_1 HO]
  · isplitr; · iexact Hw
    isplitl [HwRS_2_1]; · iexact HwRS_2_1
    iexact HO
  iintro ⟨HO, HnRS_2_1, -⟩
  beta_reduce
  iapply (waitRS A κ 1 0 (n := 17) (by decide +kernel) rfl) $$ [HwRS_1_0 HO]
  · isplitr; · iexact Hw
    isplitl [HwRS_1_0]; · iexact HwRS_1_0
    iexact HO
  iintro ⟨HO, HnRS_1_0, -⟩
  beta_reduce
  iapply (waitRS A κ 1 1 (n := 17) (by decide +kernel) rfl) $$ [HwRS_1_1 HO]
  · isplitr; · iexact Hw
    isplitl [HwRS_1_1]; · iexact HwRS_1_1
    iexact HO
  iintro ⟨HO, HnRS_1_1, -⟩
  beta_reduce
  rw [wp_pure]
  imodintro
  iapply Hk
  isplitl [HnRS_1_0]; · iexact HnRS_1_0
  isplitl [HnRS_1_1]; · iexact HnRS_1_1
  isplitl [HnRS_2_0]; · iexact HnRS_2_0
  isplitl [HnRS_2_1]; · iexact HnRS_2_1
  iexact HO

theorem part25 {Q : _ → sProp 𝕄} (v20 : BitVec 32) (v537 : BitVec 32) (v540 : BitVec 32) :
    iprop(wld A κ c ∗ wt c (sRS 0 0) 5 NB ∗ wt c (sRS 0 1) 5 NB ∗ holds (Sm (dq 0 c 3) (rz c 0) 0) c (strip (rz c 0) (acc A 0 c 3)) ∗ holds (Bm 0 0) c (strip (rz c 0) (acc A 0 (zp 1 c) 3)) ∗ holds (Bm 1 0) c (strip (rz c 0) (acc A 0 (zp 2 c) 3)) ∗ holds (Bm 2 0) c (strip (rz c 0) (acc A 0 (zp 3 c) 3)) ∗ own c 17)
      ⊢ iprop((∀ w₁ : BitVec 32, (holds (Bm 0 0) c (strip (rz c 0) (acc A 0 (zp 1 c) 3)) ∗ holds (Bm 1 0) c (strip (rz c 0) (acc A 0 (zp 2 c) 3)) ∗ holds (Bm 2 0) c (strip (rz c 0) (acc A 0 (zp 3 c) 3)) ∗ holds (Sm (dq 0 c 3) (rz c 0) 0) c (strip (rz c 0) (acc A 0 c 3)) ∗ dn c (.dma (sRS 0 0)) ∗ dn c (.dma (sRS 0 1)) ∗ own c 17) -∗ Q ⟨w₁, red A 0 c⟩)
        -∗ wp frame (wpE (defs₀ (F := F)) 𝒱₀ c none) Set.univ (k0_part25 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v20 v537 v540) Q) := by
  rw [k0_part25_eq_skeleton]; unfold k0_part25_skel; simp only [wp_bind]
  iintro ⟨#Hw, HwRS_0_0, HwRS_0_1, HST_0_0, HLB_0_0, HLB_1_0, HLB_2_0, HO⟩ Hk
  iapply (waitRS A κ 0 0 (n := 17) (by decide +kernel) rfl) $$ [HwRS_0_0 HO]
  · isplitr; · iexact Hw
    isplitl [HwRS_0_0]; · iexact HwRS_0_0
    iexact HO
  iintro ⟨HO, HnRS_0_0, -⟩
  beta_reduce
  iapply (waitRS A κ 0 1 (n := 17) (by decide +kernel) rfl) $$ [HwRS_0_1 HO]
  · isplitr; · iexact Hw
    isplitl [HwRS_0_1]; · iexact HwRS_0_1
    iexact HO
  iintro ⟨HO, HnRS_0_1, -⟩
  beta_reduce
  iapply (ld_s (dq 0 c 3) (rz c 0) 0 (off7_eq c)) $$ HST_0_0
  iintro HST_0_0
  beta_reduce
  iapply (ld_b 0 0) $$ HLB_0_0
  iintro %a %ha HLB_0_0
  beta_reduce
  iapply (ld_b 1 0) $$ HLB_1_0
  iintro %b %hb HLB_1_0
  beta_reduce
  iapply (ld_b 2 0) $$ HLB_2_0
  iintro %d %hd HLB_2_0
  beta_reduce
  rw [wp_pure]
  imodintro
  rw [red_val A 0 c ha hb hd]
  iapply Hk
  isplitl [HLB_0_0]; · iexact HLB_0_0
  isplitl [HLB_1_0]; · iexact HLB_1_0
  isplitl [HLB_2_0]; · iexact HLB_2_0
  isplitl [HST_0_0]; · iexact HST_0_0
  isplitl [HnRS_0_0]; · iexact HnRS_0_0
  isplitl [HnRS_0_1]; · iexact HnRS_0_1
  iexact HO

theorem part26 {Q : _ → sProp 𝕄} (v3 : BitVec 32) (v20 : BitVec 32) (v537 : BitVec 32) (v708 : BitVec 32) :
    iprop(wld A κ c ∗ holds (Sm (dq 0 c 3) (rz c 0) 0) c (strip (rz c 0) (acc A 0 c 3)) ∗ holds (Sm (dq 1 c 3) (rz c 0) 1) c (strip (rz c 0) (acc A 1 c 3)) ∗ holds (Bm 0 1) c (strip (rz c 0) (acc A 1 (zp 1 c) 3)) ∗ holds (Bm 1 1) c (strip (rz c 0) (acc A 1 (zp 2 c) 3)) ∗ holds (Bm 2 1) c (strip (rz c 0) (acc A 1 (zp 3 c) 3)) ∗ own c 17)
      ⊢ iprop((∀ w₁ : BitVec 32, (holds (Bm 0 1) c (strip (rz c 0) (acc A 1 (zp 1 c) 3)) ∗ holds (Bm 1 1) c (strip (rz c 0) (acc A 1 (zp 2 c) 3)) ∗ holds (Bm 2 1) c (strip (rz c 0) (acc A 1 (zp 3 c) 3)) ∗ holds (Sm (dq 0 c 3) (rz c 0) 0) c (red A 0 c) ∗ holds (Sm (dq 1 c 3) (rz c 0) 1) c (red A 1 c) ∗ own c 17) -∗ Q w₁)
        -∗ wp frame (wpE (defs₀ (F := F)) 𝒱₀ c none) Set.univ (k0_part26 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v537 v708 (red A 0 c)) Q) := by
  rw [k0_part26_eq_skeleton]; unfold k0_part26_skel; simp only [wp_bind]
  iintro ⟨#Hw, HST_0_0, HST_1_0, HLB_0_1, HLB_1_1, HLB_2_1, HO⟩ Hk
  iapply (ld_s (dq 0 c 3) (rz c 0) 0 (off7_eq c)) $$ HST_0_0
  iintro HST_0_0
  beta_reduce
  iapply (st_s (dq 0 c 3) (rz c 0) 0 (off7_eq c)) $$ HST_0_0
  iintro H
  beta_reduce
  ihave HRD_0 := (Entails.of_eq (congrArg (holds (Sm (dq 0 c 3) (rz c 0) 0) c) rfl)) $$ H
  iapply (ld_s (dq 1 c 3) (rz c 0) 1 (off8_eq c)) $$ HST_1_0
  iintro HST_1_0
  beta_reduce
  iapply (ld_b 0 1) $$ HLB_0_1
  iintro %a %ha HLB_0_1
  beta_reduce
  iapply (ld_b 1 1) $$ HLB_1_1
  iintro %b %hb HLB_1_1
  beta_reduce
  iapply (ld_b 2 1) $$ HLB_2_1
  iintro %d %hd HLB_2_1
  beta_reduce
  iapply (ld_s (dq 1 c 3) (rz c 0) 1 (off8_eq c)) $$ HST_1_0
  iintro HST_1_0
  beta_reduce
  iapply (st_s (dq 1 c 3) (rz c 0) 1 (off8_eq c)) $$ HST_1_0
  iintro H
  beta_reduce
  ihave HRD_1 := (Entails.of_eq (congrArg (holds (Sm (dq 1 c 3) (rz c 0) 1) c) (red_val' A 1 c ha hb hd))) $$ H
  rw [wp_pure]
  imodintro
  iapply Hk
  isplitl [HLB_0_1]; · iexact HLB_0_1
  isplitl [HLB_1_1]; · iexact HLB_1_1
  isplitl [HLB_2_1]; · iexact HLB_2_1
  isplitl [HRD_0]; · iexact HRD_0
  isplitl [HRD_1]; · iexact HRD_1
  iexact HO

theorem part27 {Q : _ → sProp 𝕄} (v3 : BitVec 32) (v20 : BitVec 32) (v537 : BitVec 32) (v540 : BitVec 32) (v740 : BitVec 32) :
    iprop(wld A κ c ∗ kit c (cG 2 0) ∗ ptsq (Sm (dq 0 c 3) (rz c 0) 0) c (shr 2) (outAll A) ∗ slotG 2 0 c ∗ kit c (cG 2 1) ∗ ptsq (Sm (dq 1 c 3) (rz c 0) 1) c (shr 2) (outAll A) ∗ slotG 2 1 c ∗ kit c (cG 1 0) ∗ ptsq (Sm (dq 0 c 3) (rz c 0) 0) c (shr 1) (outAll A) ∗ slotG 1 0 c ∗ own c 17)
      ⊢ iprop((∀ w₁ : BitVec 32, (wt c (sGR 1 0) 6 NB ∗ wt c (sGR 2 0) 6 NB ∗ wt c (sGR 2 1) 6 NB ∗ wt c (sGS 1 0) 6 NB ∗ wt c (sGS 2 0) 6 NB ∗ wt c (sGS 2 1) 6 NB ∗ own c 20) -∗ Q w₁)
        -∗ wp frame (wpE (defs₀ (F := F)) 𝒱₀ c none) Set.univ (k0_part27 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v537 v540 v740) Q) := by
  rw [k0_part27_eq_skeleton]; unfold k0_part27_skel; simp only [wp_bind]
  iintro ⟨#Hw, HkG_2_0, HGS_2_0, HXG_2_0, HkG_2_1, HGS_2_1, HXG_2_1, HkG_1_0, HGS_1_0, HXG_1_0, HO⟩ Hk
  iapply (sendG A κ 2 0 (n := 17) rfl (dev18_eq c) (off9_eq c) rfl rfl) $$ [HkG_2_0 HGS_2_0 HXG_2_0 HO]
  · isplitr; · iexact Hw
    isplitl [HkG_2_0]; · iexact HkG_2_0
    isplitl [HGS_2_0]; · iexact HGS_2_0
    isplitl [HXG_2_0]; · iexact HXG_2_0
    iexact HO
  iintro ⟨HO, HwGR_2_0, HwGS_2_0⟩
  beta_reduce
  iapply (sendG A κ 2 1 (n := 18) rfl (dev19_eq c) (off10_eq c) rfl rfl) $$ [HkG_2_1 HGS_2_1 HXG_2_1 HO]
  · isplitr; · iexact Hw
    isplitl [HkG_2_1]; · iexact HkG_2_1
    isplitl [HGS_2_1]; · iexact HGS_2_1
    isplitl [HXG_2_1]; · iexact HXG_2_1
    iexact HO
  iintro ⟨HO, HwGR_2_1, HwGS_2_1⟩
  beta_reduce
  iapply (sendG A κ 1 0 (n := 19) rfl (dev20_eq c) (off9_eq c) rfl rfl) $$ [HkG_1_0 HGS_1_0 HXG_1_0 HO]
  · isplitr; · iexact Hw
    isplitl [HkG_1_0]; · iexact HkG_1_0
    isplitl [HGS_1_0]; · iexact HGS_1_0
    isplitl [HXG_1_0]; · iexact HXG_1_0
    iexact HO
  iintro ⟨HO, HwGR_1_0, HwGS_1_0⟩
  beta_reduce
  rw [wp_pure]
  imodintro
  iapply Hk
  isplitl [HwGR_1_0]; · iexact HwGR_1_0
  isplitl [HwGR_2_0]; · iexact HwGR_2_0
  isplitl [HwGR_2_1]; · iexact HwGR_2_1
  isplitl [HwGS_1_0]; · iexact HwGS_1_0
  isplitl [HwGS_2_0]; · iexact HwGS_2_0
  isplitl [HwGS_2_1]; · iexact HwGS_2_1
  iexact HO

theorem part28 {Q : _ → sProp 𝕄} (v3 : BitVec 32) (v20 : BitVec 32) (v537 : BitVec 32) (v540 : BitVec 32) (v766 : BitVec 32) :
    iprop(wld A κ c ∗ kit c (cG 1 1) ∗ ptsq (Sm (dq 1 c 3) (rz c 0) 1) c (shr 1) (outAll A) ∗ slotG 1 1 c ∗ kit c (cG 0 0) ∗ ptsq (Sm (dq 0 c 3) (rz c 0) 0) c (shr 0) (outAll A) ∗ slotG 0 0 c ∗ own c 20)
      ⊢ iprop(((wt c (sGR 0 0) 6 NB ∗ wt c (sGR 1 1) 6 NB ∗ wt c (sGS 0 0) 6 NB ∗ wt c (sGS 1 1) 6 NB ∗ own c 22) -∗ Q ⟨⟩)
        -∗ wp frame (wpE (defs₀ (F := F)) 𝒱₀ c none) Set.univ (k0_part28 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v20 v537 v540 v766) Q) := by
  rw [k0_part28_eq_skeleton]; unfold k0_part28_skel; simp only [wp_bind]
  iintro ⟨#Hw, HkG_1_1, HGS_1_1, HXG_1_1, HkG_0_0, HGS_0_0, HXG_0_0, HO⟩ Hk
  iapply (sendG A κ 1 1 (n := 20) rfl (dev21_eq c) (off10_eq c) rfl rfl) $$ [HkG_1_1 HGS_1_1 HXG_1_1 HO]
  · isplitr; · iexact Hw
    isplitl [HkG_1_1]; · iexact HkG_1_1
    isplitl [HGS_1_1]; · iexact HGS_1_1
    isplitl [HXG_1_1]; · iexact HXG_1_1
    iexact HO
  iintro ⟨HO, HwGR_1_1, HwGS_1_1⟩
  beta_reduce
  iapply (sendG A κ 0 0 (n := 21) rfl (dev22_eq c) (off9_eq c) rfl rfl) $$ [HkG_0_0 HGS_0_0 HXG_0_0 HO]
  · isplitr; · iexact Hw
    isplitl [HkG_0_0]; · iexact HkG_0_0
    isplitl [HGS_0_0]; · iexact HGS_0_0
    isplitl [HXG_0_0]; · iexact HXG_0_0
    iexact HO
  iintro ⟨HO, HwGR_0_0, HwGS_0_0⟩
  beta_reduce
  rw [wp_pure]
  imodintro
  iapply Hk
  isplitl [HwGR_0_0]; · iexact HwGR_0_0
  isplitl [HwGR_1_1]; · iexact HwGR_1_1
  isplitl [HwGS_0_0]; · iexact HwGS_0_0
  isplitl [HwGS_1_1]; · iexact HwGS_1_1
  iexact HO

theorem part29 {Q : _ → sProp 𝕄} (v2 : BitVec 32) (v20 : BitVec 32) (v537 : BitVec 32) (v540 : BitVec 32) :
    iprop(wld A κ c ∗ kit c (cG 0 1) ∗ ptsq (Sm (dq 1 c 3) (rz c 0) 1) c (shr 0) (outAll A) ∗ slotG 0 1 c ∗ wt c (sGR 0 0) 6 NB ∗ own c 22)
      ⊢ iprop(((pts (Sm (dq 0 c 3) (rz c 1) 0) c (outAll A) ∗ pts (Sm (dq 1 c 3) (rz c 1) 1) c (outAll A) ∗ dn c (.dma (sGR 0 0)) ∗ dn c (.dma (sGR 0 1)) ∗ wt c (sGS 0 1) 6 NB ∗ own c 23) -∗ Q ⟨⟩)
        -∗ wp frame (wpE (defs₀ (F := F)) 𝒱₀ c none) Set.univ (k0_part29 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v2 v20 v537 v540) Q) := by
  rw [k0_part29_eq_skeleton]; unfold k0_part29_skel; simp only [wp_bind]
  iintro ⟨#Hw, HkG_0_1, HGS_0_1, HXG_0_1, HwGR_0_0, HO⟩ Hk
  iapply (sendG A κ 0 1 (n := 22) rfl (dev23_eq c) (off10_eq c) rfl rfl) $$ [HkG_0_1 HGS_0_1 HXG_0_1 HO]
  · isplitr; · iexact Hw
    isplitl [HkG_0_1]; · iexact HkG_0_1
    isplitl [HGS_0_1]; · iexact HGS_0_1
    isplitl [HXG_0_1]; · iexact HXG_0_1
    iexact HO
  iintro ⟨HO, HwGR_0_1, HwGS_0_1⟩
  beta_reduce
  iapply (waitGR A κ 0 0 (n := 23) (by decide +kernel) rfl) $$ [HwGR_0_0 HO]
  · isplitr; · iexact Hw
    isplitl [HwGR_0_0]; · iexact HwGR_0_0
    iexact HO
  iintro ⟨HO, HnGR_0_0, HGP_0_0⟩
  beta_reduce
  iapply (waitGR A κ 0 1 (n := 23) (by decide +kernel) rfl) $$ [HwGR_0_1 HO]
  · isplitr; · iexact Hw
    isplitl [HwGR_0_1]; · iexact HwGR_0_1
    iexact HO
  iintro ⟨HO, HnGR_0_1, HGP_0_1⟩
  beta_reduce
  rw [wp_pure]
  imodintro
  iapply Hk
  isplitl [HGP_0_0]; · iexact HGP_0_0
  isplitl [HGP_0_1]; · iexact HGP_0_1
  isplitl [HnGR_0_0]; · iexact HnGR_0_0
  isplitl [HnGR_0_1]; · iexact HnGR_0_1
  isplitl [HwGS_0_1]; · iexact HwGS_0_1
  iexact HO

theorem part30 {Q : _ → sProp 𝕄} (v2 : BitVec 32) (v20 : BitVec 32) (v537 : BitVec 32) (v540 : BitVec 32) :
    iprop(wld A κ c ∗ wt c (sGR 1 0) 6 NB ∗ wt c (sGR 1 1) 6 NB ∗ own c 23)
      ⊢ iprop((∀ w₁ : BitVec 32, (pts (Sm (dq 0 c 3) (rz c 2) 0) c (outAll A) ∗ pts (Sm (dq 1 c 3) (rz c 2) 1) c (outAll A) ∗ dn c (.dma (sGR 1 0)) ∗ dn c (.dma (sGR 1 1)) ∗ own c 23) -∗ Q w₁)
        -∗ wp frame (wpE (defs₀ (F := F)) 𝒱₀ c none) Set.univ (k0_part30 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v2 v20 v537 v540) Q) := by
  rw [k0_part30_eq_skeleton]; unfold k0_part30_skel; simp only [wp_bind]
  iintro ⟨#Hw, HwGR_1_0, HwGR_1_1, HO⟩ Hk
  iapply (waitGR A κ 1 0 (n := 23) (by decide +kernel) rfl) $$ [HwGR_1_0 HO]
  · isplitr; · iexact Hw
    isplitl [HwGR_1_0]; · iexact HwGR_1_0
    iexact HO
  iintro ⟨HO, HnGR_1_0, HGP_1_0⟩
  beta_reduce
  iapply (waitGR A κ 1 1 (n := 23) (by decide +kernel) rfl) $$ [HwGR_1_1 HO]
  · isplitr; · iexact Hw
    isplitl [HwGR_1_1]; · iexact HwGR_1_1
    iexact HO
  iintro ⟨HO, HnGR_1_1, HGP_1_1⟩
  beta_reduce
  rw [wp_pure]
  imodintro
  iapply Hk
  isplitl [HGP_1_0]; · iexact HGP_1_0
  isplitl [HGP_1_1]; · iexact HGP_1_1
  isplitl [HnGR_1_0]; · iexact HnGR_1_0
  isplitl [HnGR_1_1]; · iexact HnGR_1_1
  iexact HO

theorem part31 {Q : _ → sProp 𝕄} (v2 : BitVec 32) (v20 : BitVec 32) (v540 : BitVec 32) (c1_i32_833 : BitVec 32) :
    iprop(wld A κ c ∗ wt c (sGR 2 0) 6 NB ∗ wt c (sGR 2 1) 6 NB ∗ wt c (sGS 2 0) 6 NB ∗ wt c (sGS 2 1) 6 NB ∗ own c 23)
      ⊢ iprop(((pts (Sm (dq 0 c 3) (rz c 3) 0) c (outAll A) ∗ pts (Sm (dq 1 c 3) (rz c 3) 1) c (outAll A) ∗ ptsq (Sm (dq 0 c 3) (rz c 0) 0) c (shr 2) (outAll A) ∗ ptsq (Sm (dq 1 c 3) (rz c 0) 1) c (shr 2) (outAll A) ∗ dn c (.dma (sGR 2 0)) ∗ dn c (.dma (sGR 2 1)) ∗ dn c (.dma (sGS 2 0)) ∗ dn c (.dma (sGS 2 1)) ∗ own c 23) -∗ Q ⟨⟩)
        -∗ wp frame (wpE (defs₀ (F := F)) 𝒱₀ c none) Set.univ (k0_part31 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v2 v20 v540 c1_i32_833) Q) := by
  rw [k0_part31_eq_skeleton]; unfold k0_part31_skel; simp only [wp_bind]
  iintro ⟨#Hw, HwGR_2_0, HwGR_2_1, HwGS_2_0, HwGS_2_1, HO⟩ Hk
  iapply (waitGR A κ 2 0 (n := 23) (by decide +kernel) rfl) $$ [HwGR_2_0 HO]
  · isplitr; · iexact Hw
    isplitl [HwGR_2_0]; · iexact HwGR_2_0
    iexact HO
  iintro ⟨HO, HnGR_2_0, HGP_2_0⟩
  beta_reduce
  iapply (waitGR A κ 2 1 (n := 23) (by decide +kernel) rfl) $$ [HwGR_2_1 HO]
  · isplitr; · iexact Hw
    isplitl [HwGR_2_1]; · iexact HwGR_2_1
    iexact HO
  iintro ⟨HO, HnGR_2_1, HGP_2_1⟩
  beta_reduce
  iapply (waitGS A κ 2 0 (n := 23) (by decide +kernel) rfl) $$ [HwGS_2_0 HO]
  · isplitr; · iexact Hw
    isplitl [HwGS_2_0]; · iexact HwGS_2_0
    iexact HO
  iintro ⟨HO, HnGS_2_0, HGS_2_0⟩
  beta_reduce
  iapply (waitGS A κ 2 1 (n := 23) (by decide +kernel) rfl) $$ [HwGS_2_1 HO]
  · isplitr; · iexact Hw
    isplitl [HwGS_2_1]; · iexact HwGS_2_1
    iexact HO
  iintro ⟨HO, HnGS_2_1, HGS_2_1⟩
  beta_reduce
  rw [wp_pure]
  imodintro
  iapply Hk
  isplitl [HGP_2_0]; · iexact HGP_2_0
  isplitl [HGP_2_1]; · iexact HGP_2_1
  isplitl [HGS_2_0]; · iexact HGS_2_0
  isplitl [HGS_2_1]; · iexact HGS_2_1
  isplitl [HnGR_2_0]; · iexact HnGR_2_0
  isplitl [HnGR_2_1]; · iexact HnGR_2_1
  isplitl [HnGS_2_0]; · iexact HnGS_2_0
  isplitl [HnGS_2_1]; · iexact HnGS_2_1
  iexact HO

theorem part32 {Q : _ → sProp 𝕄} (v3 : BitVec 32) :
    iprop(wld A κ c ∗ wt c (sGS 1 0) 6 NB ∗ wt c (sGS 1 1) 6 NB ∗ wt c (sGS 0 0) 6 NB ∗ wt c (sGS 0 1) 6 NB ∗ own c 23)
      ⊢ iprop((∀ w₁ : BitVec 32, ∀ w₂ : BitVec 32, ∀ w₃ : BitVec 32, (ptsq (Sm (dq 0 c 3) (rz c 0) 0) c (shr 0) (outAll A) ∗ ptsq (Sm (dq 1 c 3) (rz c 0) 1) c (shr 0) (outAll A) ∗ ptsq (Sm (dq 0 c 3) (rz c 0) 0) c (shr 1) (outAll A) ∗ ptsq (Sm (dq 1 c 3) (rz c 0) 1) c (shr 1) (outAll A) ∗ dn c (.dma (sGS 0 0)) ∗ dn c (.dma (sGS 0 1)) ∗ dn c (.dma (sGS 1 0)) ∗ dn c (.dma (sGS 1 1)) ∗ own c 23) -∗ Q ⟨w₁, w₂, w₃⟩)
        -∗ wp frame (wpE (defs₀ (F := F)) 𝒱₀ c none) Set.univ (k0_part32 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3) Q) := by
  rw [k0_part32_eq_skeleton]; unfold k0_part32_skel; simp only [wp_bind]
  iintro ⟨#Hw, HwGS_1_0, HwGS_1_1, HwGS_0_0, HwGS_0_1, HO⟩ Hk
  iapply (waitGS A κ 1 0 (n := 23) (by decide +kernel) rfl) $$ [HwGS_1_0 HO]
  · isplitr; · iexact Hw
    isplitl [HwGS_1_0]; · iexact HwGS_1_0
    iexact HO
  iintro ⟨HO, HnGS_1_0, HGS_1_0⟩
  beta_reduce
  iapply (waitGS A κ 1 1 (n := 23) (by decide +kernel) rfl) $$ [HwGS_1_1 HO]
  · isplitr; · iexact Hw
    isplitl [HwGS_1_1]; · iexact HwGS_1_1
    iexact HO
  iintro ⟨HO, HnGS_1_1, HGS_1_1⟩
  beta_reduce
  iapply (waitGS A κ 0 0 (n := 23) (by decide +kernel) rfl) $$ [HwGS_0_0 HO]
  · isplitr; · iexact Hw
    isplitl [HwGS_0_0]; · iexact HwGS_0_0
    iexact HO
  iintro ⟨HO, HnGS_0_0, HGS_0_0⟩
  beta_reduce
  iapply (waitGS A κ 0 1 (n := 23) (by decide +kernel) rfl) $$ [HwGS_0_1 HO]
  · isplitr; · iexact Hw
    isplitl [HwGS_0_1]; · iexact HwGS_0_1
    iexact HO
  iintro ⟨HO, HnGS_0_1, HGS_0_1⟩
  beta_reduce
  rw [wp_pure]
  imodintro
  iapply Hk
  isplitl [HGS_0_0]; · iexact HGS_0_0
  isplitl [HGS_0_1]; · iexact HGS_0_1
  isplitl [HGS_1_0]; · iexact HGS_1_0
  isplitl [HGS_1_1]; · iexact HGS_1_1
  isplitl [HnGS_0_0]; · iexact HnGS_0_0
  isplitl [HnGS_0_1]; · iexact HnGS_0_1
  isplitl [HnGS_1_0]; · iexact HnGS_1_0
  isplitl [HnGS_1_1]; · iexact HnGS_1_1
  iexact HO

end Cert.KernelIdeal.Comm

end
-- ==== Proof.KernelIdeal.RingGather.lean ====
/-
  THE RING GATHER: the pieces that spread the completed quarters along the rows.
-/
module

public import proofs.«01_k».proof.Proof.KernelIdeal.Copies
public import proofs.«01_k».proof.Proof.Gen.KernelIdeal.Skeleton
public import Idealize.ShloMosaic.Lib.Pipeline.Value

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (A : Dev nD → Vec F S1024x1024 .f32) (κ : GSem nD τ sig → ℕ) {c : Dev nD}
variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)
theorem part33 {Q : _ → sProp 𝕄} (v25 : BitVec 32) (v29 : BitVec 32) (v914 : BitVec 32) (v916 : BitVec 32) (c16_i32_897 : BitVec 32) :
    iprop(wld A κ c ∗ kit c (cC 0 0) ∗ pts (Qm (dq 0 c 3) 0) c (outAll A) ∗ slotC 0 0 c ∗ holds (Qm (dq 1 c 2) 1) c (acc A 1 c 2) ∗ kit c (cC 1 0) ∗ pts (Qm (dq 1 c 3) 1) c (outAll A) ∗ slotC 1 0 c ∗ holds (Qm (dq 0 c 2) 0) c (acc A 0 c 2) ∗ own c 23)
      ⊢ iprop((∀ w₁ : BitVec 32, ∀ w₂ : BitVec 32, (pts (Qm (dq 0 c 3) 0) c (outAll A) ∗ dn c (.dma (sCS 0 0)) ∗ wt c (sCR 0 0) (7 + ((0 : Fin 3)).val) NA ∗ wt c (sCR 1 0) (7 + ((0 : Fin 3)).val) NA ∗ wt c (sCS 1 0) (7 + ((0 : Fin 3)).val) NA ∗ own c 25) -∗ Q ⟨w₁, w₂⟩)
        -∗ wp frame (wpE (defs₀ (F := F)) 𝒱₀ c none) Set.univ (k0_part33 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29 v914 v916 c16_i32_897) Q) := by
  rw [k0_part33_eq_skeleton]; unfold k0_part33_skel; simp only [wp_bind]
  iintro ⟨#Hw, HkC_0_0, HCW_0_0, HXC_0_0, HQ_1_2, HkC_1_0, HCW_1_0, HXC_1_0, HQ_0_2, HO⟩ Hk
  iapply (sendC A κ 0 0 (n := 23) rfl (dev24_eq c) (off11_eq c 0) rfl rfl) $$ [HkC_0_0 HCW_0_0 HXC_0_0 HQ_1_2 HO]
  · isplitr; · iexact Hw
    isplitl [HkC_0_0]; · iexact HkC_0_0
    isplitl [HCW_0_0]; · iexact HCW_0_0
    isplitl [HXC_0_0]; · iexact HXC_0_0
    isplitl [HQ_1_2]; · iapply (show holds (Qm (dq 1 c 2) 1) c (acc A 1 c 2) ⊢ lendC 0 c 0 from lendC_intro 0 c _) $$ HQ_1_2
    iexact HO
  iintro ⟨HO, HwCR_0_0, HwCS_0_0⟩
  beta_reduce
  iapply (sendC A κ 1 0 (n := 24) rfl (dev25_eq c) (off12_eq c 0) rfl rfl) $$ [HkC_1_0 HCW_1_0 HXC_1_0 HQ_0_2 HO]
  · isplitr; · iexact Hw
    isplitl [HkC_1_0]; · iexact HkC_1_0
    isplitl [HCW_1_0]; · iexact HCW_1_0
    isplitl [HXC_1_0]; · iexact HXC_1_0
    isplitl [HQ_0_2]; · iapply (show holds (Qm (dq 0 c 2) 0) c (acc A 0 c 2) ⊢ lendC 1 c 0 from lendC_intro 1 c _) $$ HQ_0_2
    iexact HO
  iintro ⟨HO, HwCR_1_0, HwCS_1_0⟩
  beta_reduce
  iapply (waitCS A κ 0 0 (n := 25) (by decide +kernel) rfl) $$ [HwCS_0_0 HO]
  · isplitr; · iexact Hw
    isplitl [HwCS_0_0]; · iexact HwCS_0_0
    iexact HO
  iintro ⟨HO, HnCS_0_0, HCW_0_0⟩
  beta_reduce
  rw [wp_pure]
  imodintro
  iapply Hk
  isplitl [HCW_0_0]; · iexact HCW_0_0
  isplitl [HnCS_0_0]; · iexact HnCS_0_0
  isplitl [HwCR_0_0]; · iexact HwCR_0_0
  isplitl [HwCR_1_0]; · iexact HwCR_1_0
  isplitl [HwCS_1_0]; · iexact HwCS_1_0
  iexact HO

theorem part34 {Q : _ → sProp 𝕄} (v3 : BitVec 32) (v29 : BitVec 32) (v941 : BitVec 32) (c0_i32_929 : BitVec 32) :
    iprop(wld A κ c ∗ wt c (sCR 0 0) (7 + ((0 : Fin 3)).val) NA ∗ wt c (sCS 1 0) (7 + ((0 : Fin 3)).val) NA ∗ wt c (sCR 1 0) (7 + ((0 : Fin 3)).val) NA ∗ own c 25)
      ⊢ iprop((∀ w₁ : BitVec 32, (pts (Qm (dq 0 c 4) 0) c (outAll A) ∗ pts (Qm (dq 1 c 3) 1) c (outAll A) ∗ pts (Qm (dq 1 c 4) 1) c (outAll A) ∗ slotC 0 2 c ∗ slotC 1 2 c ∗ dn c (.dma (sCR 0 0)) ∗ dn c (.dma (sCR 1 0)) ∗ dn c (.dma (sCS 1 0)) ∗ own c 25) -∗ Q w₁)
        -∗ wp frame (wpE (defs₀ (F := F)) 𝒱₀ c none) Set.univ (k0_part34 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v29 v941 c0_i32_929) Q) := by
  rw [k0_part34_eq_skeleton]; unfold k0_part34_skel; simp only [wp_bind]
  iintro ⟨#Hw, HwCR_0_0, HwCS_1_0, HwCR_1_0, HO⟩ Hk
  iapply (waitCR A κ 0 0 (n := 25) (by decide +kernel) rfl) $$ [HwCR_0_0 HO]
  · isplitr; · iexact Hw
    isplitl [HwCR_0_0]; · iexact HwCR_0_0
    iexact HO
  iintro ⟨HO, HnCR_0_0, HCW_0_1, HX⟩
  beta_reduce
  ihave HXC_1_2 := (show lendC 0 (fr 0 c) 0 ⊢ slotC 1 2 c from Entails.of_eq (lendC_slot 0 c)) $$ HX
  iapply (waitCS A κ 1 0 (n := 25) (by decide +kernel) rfl) $$ [HwCS_1_0 HO]
  · isplitr; · iexact Hw
    isplitl [HwCS_1_0]; · iexact HwCS_1_0
    iexact HO
  iintro ⟨HO, HnCS_1_0, HCW_1_0⟩
  beta_reduce
  iapply (waitCR A κ 1 0 (n := 25) (by decide +kernel) rfl) $$ [HwCR_1_0 HO]
  · isplitr; · iexact Hw
    isplitl [HwCR_1_0]; · iexact HwCR_1_0
    iexact HO
  iintro ⟨HO, HnCR_1_0, HCW_1_1, HX⟩
  beta_reduce
  ihave HXC_0_2 := (show lendC 1 (fr 1 c) 0 ⊢ slotC 0 2 c from Entails.of_eq (lendC_slot 1 c)) $$ HX
  rw [wp_pure]
  imodintro
  iapply Hk
  isplitl [HCW_0_1]; · iexact HCW_0_1
  isplitl [HCW_1_0]; · iexact HCW_1_0
  isplitl [HCW_1_1]; · iexact HCW_1_1
  isplitl [HXC_0_2]; · iexact HXC_0_2
  isplitl [HXC_1_2]; · iexact HXC_1_2
  isplitl [HnCR_0_0]; · iexact HnCR_0_0
  isplitl [HnCR_1_0]; · iexact HnCR_1_0
  isplitl [HnCS_1_0]; · iexact HnCS_1_0
  iexact HO

theorem part35 {Q : _ → sProp 𝕄} (v25 : BitVec 32) (v29 : BitVec 32) (c1_i32_961 : BitVec 32) :
    iprop(wld A κ c ∗ kit c (cC 0 1) ∗ pts (Qm (dq 0 c 4) 0) c (outAll A) ∗ slotC 0 1 c ∗ kit c (cC 1 1) ∗ pts (Qm (dq 1 c 4) 1) c (outAll A) ∗ slotC 1 1 c ∗ own c 25)
      ⊢ iprop(((pts (Qm (dq 0 c 4) 0) c (outAll A) ∗ pts (Qm (dq 0 c 5) 0) c (outAll A) ∗ dn c (.dma (sCR 0 1)) ∗ dn c (.dma (sCS 0 1)) ∗ wt c (sCR 1 1) (7 + ((1 : Fin 3)).val) NA ∗ wt c (sCS 1 1) (7 + ((1 : Fin 3)).val) NA ∗ own c 27) -∗ Q ⟨⟩)
        -∗ wp frame (wpE (defs₀ (F := F)) 𝒱₀ c none) Set.univ (k0_part35 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29 c1_i32_961) Q) := by
  rw [k0_part35_eq_skeleton]; unfold k0_part35_skel; simp only [wp_bind]
  iintro ⟨#Hw, HkC_0_1, HCW_0_1, HXC_0_1, HkC_1_1, HCW_1_1, HXC_1_1, HO⟩ Hk
  iapply (sendC A κ 0 1 (n := 25) rfl (dev26_eq c) (off11_eq c 1) rfl rfl) $$ [HkC_0_1 HCW_0_1 HXC_0_1 HO]
  · isplitr; · iexact Hw
    isplitl [HkC_0_1]; · iexact HkC_0_1
    isplitl [HCW_0_1]; · iexact HCW_0_1
    isplitl [HXC_0_1]; · iexact HXC_0_1
    isplitr; · iapply (show emp ⊢ lendC 0 c 1 from lendC_succ 0 0 c); iempintro
    iexact HO
  iintro ⟨HO, HwCR_0_1, HwCS_0_1⟩
  beta_reduce
  iapply (sendC A κ 1 1 (n := 26) rfl (dev27_eq c) (off12_eq c 1) rfl rfl) $$ [HkC_1_1 HCW_1_1 HXC_1_1 HO]
  · isplitr; · iexact Hw
    isplitl [HkC_1_1]; · iexact HkC_1_1
    isplitl [HCW_1_1]; · iexact HCW_1_1
    isplitl [HXC_1_1]; · iexact HXC_1_1
    isplitr; · iapply (show emp ⊢ lendC 1 c 1 from lendC_succ 1 0 c); iempintro
    iexact HO
  iintro ⟨HO, HwCR_1_1, HwCS_1_1⟩
  beta_reduce
  iapply (waitCS A κ 0 1 (n := 27) (by decide +kernel) rfl) $$ [HwCS_0_1 HO]
  · isplitr; · iexact Hw
    isplitl [HwCS_0_1]; · iexact HwCS_0_1
    iexact HO
  iintro ⟨HO, HnCS_0_1, HCW_0_1⟩
  beta_reduce
  iapply (waitCR A κ 0 1 (n := 27) (by decide +kernel) rfl) $$ [HwCR_0_1 HO]
  · isplitr; · iexact Hw
    isplitl [HwCR_0_1]; · iexact HwCR_0_1
    iexact HO
  iintro ⟨HO, HnCR_0_1, HCW_0_2, -⟩
  beta_reduce
  rw [wp_pure]
  imodintro
  iapply Hk
  isplitl [HCW_0_1]; · iexact HCW_0_1
  isplitl [HCW_0_2]; · iexact HCW_0_2
  isplitl [HnCR_0_1]; · iexact HnCR_0_1
  isplitl [HnCS_0_1]; · iexact HnCS_0_1
  isplitl [HwCR_1_1]; · iexact HwCR_1_1
  isplitl [HwCS_1_1]; · iexact HwCS_1_1
  iexact HO

theorem part36 {Q : _ → sProp 𝕄} (v3 : BitVec 32) (v25 : BitVec 32) (v29 : BitVec 32) :
    iprop(wld A κ c ∗ wt c (sCS 1 1) (7 + ((1 : Fin 3)).val) NA ∗ wt c (sCR 1 1) (7 + ((1 : Fin 3)).val) NA ∗ kit c (cC 0 2) ∗ pts (Qm (dq 0 c 5) 0) c (outAll A) ∗ slotC 0 2 c ∗ own c 27)
      ⊢ iprop(((pts (Qm (dq 1 c 4) 1) c (outAll A) ∗ pts (Qm (dq 1 c 5) 1) c (outAll A) ∗ dn c (.dma (sCR 1 1)) ∗ dn c (.dma (sCS 1 1)) ∗ wt c (sCR 0 2) (7 + ((2 : Fin 3)).val) NA ∗ wt c (sCS 0 2) (7 + ((2 : Fin 3)).val) NA ∗ own c 28) -∗ Q ⟨⟩)
        -∗ wp frame (wpE (defs₀ (F := F)) 𝒱₀ c none) Set.univ (k0_part36 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v3 v25 v29) Q) := by
  rw [k0_part36_eq_skeleton]; unfold k0_part36_skel; simp only [wp_bind]
  iintro ⟨#Hw, HwCS_1_1, HwCR_1_1, HkC_0_2, HCW_0_2, HXC_0_2, HO⟩ Hk
  iapply (waitCS A κ 1 1 (n := 27) (by decide +kernel) rfl) $$ [HwCS_1_1 HO]
  · isplitr; · iexact Hw
    isplitl [HwCS_1_1]; · iexact HwCS_1_1
    iexact HO
  iintro ⟨HO, HnCS_1_1, HCW_1_1⟩
  beta_reduce
  iapply (waitCR A κ 1 1 (n := 27) (by decide +kernel) rfl) $$ [HwCR_1_1 HO]
  · isplitr; · iexact Hw
    isplitl [HwCR_1_1]; · iexact HwCR_1_1
    iexact HO
  iintro ⟨HO, HnCR_1_1, HCW_1_2, -⟩
  beta_reduce
  iapply (sendC A κ 0 2 (n := 27) rfl (dev28_eq c) (off11_eq c 2) rfl rfl) $$ [HkC_0_2 HCW_0_2 HXC_0_2 HO]
  · isplitr; · iexact Hw
    isplitl [HkC_0_2]; · iexact HkC_0_2
    isplitl [HCW_0_2]; · iexact HCW_0_2
    isplitl [HXC_0_2]; · iexact HXC_0_2
    isplitr; · iapply (show emp ⊢ lendC 0 c 2 from lendC_succ 0 1 c); iempintro
    iexact HO
  iintro ⟨HO, HwCR_0_2, HwCS_0_2⟩
  beta_reduce
  rw [wp_pure]
  imodintro
  iapply Hk
  isplitl [HCW_1_1]; · iexact HCW_1_1
  isplitl [HCW_1_2]; · iexact HCW_1_2
  isplitl [HnCR_1_1]; · iexact HnCR_1_1
  isplitl [HnCS_1_1]; · iexact HnCS_1_1
  isplitl [HwCR_0_2]; · iexact HwCR_0_2
  isplitl [HwCS_0_2]; · iexact HwCS_0_2
  iexact HO

theorem part37 {Q : _ → sProp 𝕄} (v25 : BitVec 32) (v29 : BitVec 32) :
    iprop(wld A κ c ∗ kit c (cC 1 2) ∗ pts (Qm (dq 1 c 5) 1) c (outAll A) ∗ slotC 1 2 c ∗ wt c (sCS 0 2) (7 + ((2 : Fin 3)).val) NA ∗ wt c (sCR 0 2) (7 + ((2 : Fin 3)).val) NA ∗ own c 28)
      ⊢ iprop(((pts (Qm (dq 0 c 5) 0) c (outAll A) ∗ pts (Qm (dq 0 c 6) 0) c (outAll A) ∗ pts (Qm (dq 1 c 5) 1) c (outAll A) ∗ dn c (.dma (sCR 0 2)) ∗ dn c (.dma (sCS 0 2)) ∗ dn c (.dma (sCS 1 2)) ∗ wt c (sCR 1 2) (7 + ((2 : Fin 3)).val) NA ∗ own c 29) -∗ Q ⟨⟩)
        -∗ wp frame (wpE (defs₀ (F := F)) 𝒱₀ c none) Set.univ (k0_part37 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0 c v25 v29) Q) := by
  rw [k0_part37_eq_skeleton]; unfold k0_part37_skel; simp only [wp_bind]
  iintro ⟨#Hw, HkC_1_2, HCW_1_2, HXC_1_2, HwCS_0_2, HwCR_0_2, HO⟩ Hk
  iapply (sendC A κ 1 2 (n := 28) rfl (dev29_eq c) (off12_eq c 2) rfl rfl) $$ [HkC_1_2 HCW_1_2 HXC_1_2 HO]
  · isplitr; · iexact Hw
    isplitl [HkC_1_2]; · iexact HkC_1_2
    isplitl [HCW_1_2]; · iexact HCW_1_2
    isplitl [HXC_1_2]; · iexact HXC_1_2
    isplitr; · iapply (show emp ⊢ lendC 1 c 2 from lendC_succ 1 1 c); iempintro
    iexact HO
  iintro ⟨HO, HwCR_1_2, HwCS_1_2⟩
  beta_reduce
  iapply (waitCS A κ 0 2 (n := 29) (by decide +kernel) rfl) $$ [HwCS_0_2 HO]
  · isplitr; · iexact Hw
    isplitl [HwCS_0_2]; · iexact HwCS_0_2
    iexact HO
  iintro ⟨HO, HnCS_0_2, HCW_0_2⟩
  beta_reduce
  iapply (waitCR A κ 0 2 (n := 29) (by decide +kernel) rfl) $$ [HwCR_0_2 HO]
  · isplitr; · iexact Hw
    isplitl [HwCR_0_2]; · iexact HwCR_0_2
    iexact HO
  iintro ⟨HO, HnCR_0_2, HCW_0_3, -⟩
  beta_reduce
  iapply (waitCS A κ 1 2 (n := 29) (by decide +kernel) rfl) $$ [HwCS_1_2 HO]
  · isplitr; · iexact Hw
    isplitl [HwCS_1_2]; · iexact HwCS_1_2
    iexact HO
  iintro ⟨HO, HnCS_1_2, HCW_1_2⟩
  beta_reduce
  rw [wp_pure]
  imodintro
  iapply Hk
  isplitl [HCW_0_2]; · iexact HCW_0_2
  isplitl [HCW_0_3]; · iexact HCW_0_3
  isplitl [HCW_1_2]; · iexact HCW_1_2
  isplitl [HnCR_0_2]; · iexact HnCR_0_2
  isplitl [HnCS_0_2]; · iexact HnCS_0_2
  isplitl [HnCS_1_2]; · iexact HnCS_1_2
  isplitl [HwCR_1_2]; · iexact HwCR_1_2
  iexact HO

end Cert.KernelIdeal.Comm

end
-- ==== Proof.KernelIdeal.Body.lean ====
/-
  THE RUN OF THE KERNEL'S BODY at device c: its pieces one after the other.
-/
module

public import proofs.«01_k».proof.Proof.KernelIdeal.Barrier
public import proofs.«01_k».proof.Proof.KernelIdeal.RingSum
public import proofs.«01_k».proof.Proof.KernelIdeal.Column
public import proofs.«01_k».proof.Proof.KernelIdeal.RingGather

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

section Lists
variable (A : Dev nD → Vec F S1024x1024 .f32) (c : Dev nD)
theorem kits_eq : (bigSepL copyL (kit c) : sProp 𝕄) = iprop(kit c (cA 0 0) ∗ kit c (cA 1 0) ∗ kit c (cA 0 1) ∗ kit c (cA 1 1) ∗ kit c (cA 0 2) ∗ kit c (cA 1 2) ∗ kit c (cR 2 0) ∗ kit c (cR 2 1) ∗ kit c (cR 1 0) ∗ kit c (cR 1 1) ∗ kit c (cR 0 0) ∗ kit c (cR 0 1) ∗ kit c (cG 2 0) ∗ kit c (cG 2 1) ∗ kit c (cG 1 0) ∗ kit c (cG 1 1) ∗ kit c (cG 0 0) ∗ kit c (cG 0 1) ∗ kit c (cC 0 0) ∗ kit c (cC 1 0) ∗ kit c (cC 0 1) ∗ kit c (cC 1 1) ∗ kit c (cC 0 2) ∗ kit c (cC 1 2)) := rfl
theorem dn_eq : (bigSepL dormL (dn c) : sProp 𝕄) = iprop(dn c (.reg finS) ∗ dn c (.dma (sAS 0 0)) ∗ dn c (.dma (sAR 0 0)) ∗ dn c (.dma (sAS 1 0)) ∗ dn c (.dma (sAR 1 0)) ∗ dn c (.dma (sAS 0 1)) ∗ dn c (.dma (sAR 0 1)) ∗ dn c (.dma (sAS 1 1)) ∗ dn c (.dma (sAR 1 1)) ∗ dn c (.dma (sAS 0 2)) ∗ dn c (.dma (sAR 0 2)) ∗ dn c (.dma (sAS 1 2)) ∗ dn c (.dma (sAR 1 2)) ∗ dn c (.dma (sRS 2 0)) ∗ dn c (.dma (sRR 2 0)) ∗ dn c (.dma (sRS 2 1)) ∗ dn c (.dma (sRR 2 1)) ∗ dn c (.dma (sRS 1 0)) ∗ dn c (.dma (sRR 1 0)) ∗ dn c (.dma (sRS 1 1)) ∗ dn c (.dma (sRR 1 1)) ∗ dn c (.dma (sRS 0 0)) ∗ dn c (.dma (sRR 0 0)) ∗ dn c (.dma (sRS 0 1)) ∗ dn c (.dma (sRR 0 1)) ∗ dn c (.dma (sGS 2 0)) ∗ dn c (.dma (sGR 2 0)) ∗ dn c (.dma (sGS 2 1)) ∗ dn c (.dma (sGR 2 1)) ∗ dn c (.dma (sGS 1 0)) ∗ dn c (.dma (sGR 1 0)) ∗ dn c (.dma (sGS 1 1)) ∗ dn c (.dma (sGR 1 1)) ∗ dn c (.dma (sGS 0 0)) ∗ dn c (.dma (sGR 0 0)) ∗ dn c (.dma (sGS 0 1)) ∗ dn c (.dma (sGR 0 1)) ∗ dn c (.dma (sCS 0 0)) ∗ dn c (.dma (sCR 0 0)) ∗ dn c (.dma (sCS 1 0)) ∗ dn c (.dma (sCR 1 0)) ∗ dn c (.dma (sCS 0 1)) ∗ dn c (.dma (sCR 0 1)) ∗ dn c (.dma (sCS 1 1)) ∗ dn c (.dma (sCR 1 1)) ∗ dn c (.dma (sCS 0 2)) ∗ dn c (.dma (sCR 0 2)) ∗ dn c (.dma (sCS 1 2)) ∗ dn c (.dma (sCR 1 2))) := rfl
theorem outM_pts (f : Buf (Elt F) ((c : Thread nD τ).loc cc0_stg5_0)) : (pts outM c f : sProp 𝕄) = (((c : Thread nD τ).loc cc0_stg5_0) ↦{fullShare} f) := by
  unfold pts ptsq
  rw [show (outM : Memref sig .tc .vmem S1024x1024 .f32).view.set = Finset.univ from View.set_whole _]
/-- The share's eight windows. -/
theorem tiles_split : (pts outM c (A c) : sProp 𝕄) ⊢ iprop(holds (Qm (dq 0 c 0) 0) c (acc A 0 c 0) ∗ holds (Qm (dq 0 c 1) 0) c (tile (dq 0 c 1) 0 (A c)) ∗ holds (Qm (dq 0 c 2) 0) c (tile (dq 0 c 2) 0 (A c)) ∗ holds (Qm (dq 0 c 3) 0) c (tile (dq 0 c 3) 0 (A c)) ∗ holds (Qm (dq 1 c 0) 1) c (acc A 1 c 0) ∗ holds (Qm (dq 1 c 1) 1) c (tile (dq 1 c 1) 1 (A c)) ∗ holds (Qm (dq 1 c 2) 1) c (tile (dq 1 c 2) 1 (A c)) ∗ holds (Qm (dq 1 c 3) 1) c (tile (dq 1 c 3) 1 (A c))) := by
  rw [outM_pts, out_split, sep_o]
  exact BI.sep_mono (holds_intro _ _ _) (BI.sep_mono (holds_intro _ _ _) (BI.sep_mono (holds_intro _ _ _) (BI.sep_mono (holds_intro _ _ _) (BI.sep_mono (holds_intro _ _ _) (BI.sep_mono (holds_intro _ _ _) (BI.sep_mono (holds_intro _ _ _) (holds_intro _ _ _)))))))
theorem tiles_join : iprop(pts (Qm (dq 0 c 4) 0) c (outAll A) ∗ pts (Qm (dq 0 c 5) 0) c (outAll A) ∗ pts (Qm (dq 0 c 6) 0) c (outAll A) ∗ pts (Qm (dq 0 c 3) 0) c (outAll A) ∗ pts (Qm (dq 1 c 4) 1) c (outAll A) ∗ pts (Qm (dq 1 c 5) 1) c (outAll A) ∗ pts (Qm (dq 1 c 6) 1) c (outAll A) ∗ pts (Qm (dq 1 c 3) 1) c (outAll A)) ⊢ (pts outM c (outAll A) : sProp 𝕄) := by
  rw [outM_pts, out_split, sep_o]
  rw [show dq 0 c 4 = dq 0 c 0 from (dq_four 0 0 c).symm, show dq 0 c 5 = dq 0 c 1 from (dq_four 0 1 c).symm, show dq 0 c 6 = dq 0 c 2 from (dq_four 0 2 c).symm,
    show dq 1 c 4 = dq 1 c 0 from (dq_four 1 0 c).symm, show dq 1 c 5 = dq 1 c 1 from (dq_four 1 1 c).symm, show dq 1 c 6 = dq 1 c 2 from (dq_four 1 2 c).symm]
  exact .rfl
end Lists

variable (A : Dev nD → Vec F S1024x1024 .f32) (κ : GSem nD τ sig → ℕ) {c : Dev nD}
variable (m0 : Memref sig .tc .vmem S1024x1024 .f32) (h0 : m0.IsWhole) (m1 : Memref sig .tc .vmem S1024x1024 .f32) (h1 : m1.IsWhole)
  (m2 : Memref sig .tc .vmem S1024x8x128 .f32) (h2 : m2.IsWhole) (m3 : Memref sig .tc .vmem S1024x8x128 .f32) (h3 : m3.IsWhole)
  (m4 : Memref sig .tc .vmem S1024x1024 .f32) (h4 : m4.IsWhole) (m6 : Memref sig .tc .vmem S1024x1024 .f32) (h6 : m6.IsWhole)
variable (X W : Vec F S1024x1024 .f32) (K V : Vec F S1024x8x128 .f32) (wo : Vec F S1024x1024 .f32)

/-- The blocks a device reads. -/
def ins (c : Dev nD) : sProp 𝕄 := iprop(blk m0 c X ∗ blk m1 c W ∗ blk m2 c K ∗ blk m3 c V ∗ blk m4 c wo)

/-- What the exit barrier takes. -/
def leave (c : Dev nD) : sProp 𝕄 :=
  iprop(atPos EM (finC c) 0 ∅ 0 ∗ cred (tallyAt (finC c) 10 5) ∗ bigSep Finset.univ fun e : Fin 5 => dutyTok EM (finC (peer e c)) 0 e)

/-- What the body starts from. -/
def start (c : Dev nD) (Y : Vec F S1024x1024 .f32) : sProp 𝕄 :=
  iprop(meet A κ c ∗ bigSepL copyL (kit c) ∗ leave c ∗ free outM c ∗ blk m6 c Y ∗ ins m0 m1 m2 m3 m4 X W K V wo c)

/-- What it ends with. -/
def stop (c : Dev nD) : sProp 𝕄 :=
  iprop((own c 34 ∗ dn c (.reg barrier0) ∗ bigSepL dormL (dn c)) ∗ pts outM c (outAll A) ∗ (∃ Y, blk m6 c Y) ∗ barOf 0 c ∗ barOf 1 c ∗ barOf 2 c ∗ barOf 3 c ∗ barOf 4 c
    ∗ ins m0 m1 m2 m3 m4 X W K V wo c)

/-- What is left of the exit barrier once two of its signals are sent. -/
def last (c : Dev nD) : sProp 𝕄 :=
  iprop(atPos EM (finC c) 0 ∅ 0 ∗ cred (tallyAt (finC c) 10 5) ∗ dutyTok EM (finC (peer 2 c)) 0 2 ∗ dutyTok EM (finC (peer 3 c)) 0 3
    ∗ dutyTok EM (finC (peer 4 c)) 0 4 ∗ own c 31)
/-- What the device holds there. -/
def mid (c : Dev nD) : sProp 𝕄 :=
  iprop(wld A κ c ∗ last c ∗ dn c (.reg barrier0) ∗ (dn c (.dma (sAS 0 0)) ∗ dn c (.dma (sAR 0 0)) ∗ dn c (.dma (sAS 1 0)) ∗ dn c (.dma (sAR 1 0)) ∗ dn c (.dma (sAS 0 1)) ∗ dn c (.dma (sAR 0 1)) ∗ dn c (.dma (sAS 1 1)) ∗ dn c (.dma (sAR 1 1)) ∗ dn c (.dma (sAS 0 2)) ∗ dn c (.dma (sAR 0 2)) ∗ dn c (.dma (sAS 1 2)) ∗ dn c (.dma (sAR 1 2)) ∗ dn c (.dma (sRS 2 0)) ∗ dn c (.dma (sRR 2 0)) ∗ dn c (.dma (sRS 2 1)) ∗ dn c (.dma (sRR 2 1)) ∗ dn c (.dma (sRS 1 0)) ∗ dn c (.dma (sRR 1 0)) ∗ dn c (.dma (sRS 1 1)) ∗ dn c (.dma (sRR 1 1)) ∗ dn c (.dma (sRS 0 0)) ∗ dn c (.dma (sRR 0 0)) ∗ dn c (.dma (sRS 0 1)) ∗ dn c (.dma (sRR 0 1)) ∗ dn c (.dma (sGS 2 0)) ∗ dn c (.dma (sGR 2 0)) ∗ dn c (.dma (sGS 2 1)) ∗ dn c (.dma (sGR 2 1)) ∗ dn c (.dma (sGS 1 0)) ∗ dn c (.dma (sGR 1 0)) ∗ dn c (.dma (sGS 1 1)) ∗ dn c (.dma (sGR 1 1)) ∗ dn c (.dma (sGS 0 0)) ∗ dn c (.dma (sGR 0 0)) ∗ dn c (.dma (sGS 0 1)) ∗ dn c (.dma (sGR 0 1)) ∗ dn c (.dma (sCS 0 0)) ∗ dn c (.dma (sCR 0 0)) ∗ dn c (.dma (sCS 1 0)) ∗ dn c (.dma (sCR 1 0)) ∗ dn c (.dma (sCS 0 1)) ∗ dn c (.dma (sCR 0 1)) ∗ dn c (.dma (sCS 1 1)) ∗ dn c (.dma (sCR 1 1)) ∗ dn c (.dma (sCS 0 2)) ∗ dn c (.dma (sCR 0 2)) ∗ dn c (.dma (sCS 1 2)) ∗ dn c (.dma (sCR 1 2))) ∗ pts outM c (outAll A) ∗ (∃ Y, blk m6 c Y)
    ∗ (barOf 0 c ∗ barOf 1 c ∗ barOf 2 c ∗ barOf 3 c ∗ barOf 4 c) ∗ ins m0 m1 m2 m3 m4 X W K V wo c)

set_option maxHeartbeats 0 in
theorem part38 {Q : _ → sProp 𝕄} (Y : Vec F S1024x1024 .f32) (hA : A c = share X W K V wo) :
    start A κ m0 m1 m2 m3 m4 m6 X W K V wo c Y
      ⊢ iprop((∀ w₁ : BitVec 32, ∀ w₂ : BitVec 32, ∀ w₃ : BitVec 32, mid A κ m0 m1 m2 m3 m4 m6 X W K V wo c -∗ Q ⟨c, w₁, w₂, w₃⟩)
        -∗ wp frame (wpE (defs₀ (F := F)) 𝒱₀ c none) Set.univ (k0_part38 m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0) Q) := by
  rw [k0_part38_eq_skeleton]; unfold k0_part38_skel; simp only [wp_bind]
  unfold start
  rw [kits_eq]
  unfold ins
  iintro ⟨Hmeet, ⟨HkA_0_0, HkA_1_0, HkA_0_1, HkA_1_1, HkA_0_2, HkA_1_2, HkR_2_0, HkR_2_1, HkR_1_0, HkR_1_1, HkR_0_0, HkR_0_1, HkG_2_0, HkG_2_1, HkG_1_0, HkG_1_1, HkG_0_0, HkG_0_1, HkC_0_0, HkC_1_0, HkC_0_1, HkC_1_1, HkC_0_2, HkC_1_2⟩, Hleave, HF, HC, HX, HW, HK, HV, HWo⟩ Hk
  iapply (part1 m0 h0 m1 h1 m2 h2 m3 h3 m4 h4 m6 h6)
  iintro %_ %_ %_ %_ %_ %_ %_
  try dsimp only
  iapply (part2 A κ m0 h0 m1 h1 m2 h2 m3 h3 m4 h4 m6 h6 _ _ _ _ _ _ _ X W) $$ [Hmeet HX HW]
  · isplitl [Hmeet]; · iexact Hmeet
    isplitl [HX]; · iexact HX
    iexact HW
  iintro %_ %_ ⟨#Hw, Hmet, HX, HW⟩
  try dsimp only
  iapply (part3 m0 h0 m1 h1 m2 h2 m3 h3 m4 h4 m6 h6)
  try dsimp only
  ihave HC := (upTo_zero _ (ctx (k0_pay1 X W) K V)) $$ HC
  iapply (part4 m0 h0 m1 h1 m2 h2 m3 h3 m4 h4 m6 h6 (k0_pay1 X W) K V ) $$ [HK HV HC]
  · isplitl [HK]; · iexact HK
    isplitl [HV]; · iexact HV
    iexact HC
  iintro ⟨HK, HV, HC⟩
  try dsimp only
  iapply (part5 m0 h0 m1 h1 m2 h2 m3 h3 m4 h4 m6 h6 (k0_pay1 X W) K V ) $$ [HK HV HC]
  · isplitl [HK]; · iexact HK
    isplitl [HV]; · iexact HV
    iexact HC
  iintro ⟨HK, HV, HC⟩
  try dsimp only
  iapply (part6 m0 h0 m1 h1 m2 h2 m3 h3 m4 h4 m6 h6 (k0_pay1 X W) K V ) $$ [HK HV HC]
  · isplitl [HK]; · iexact HK
    isplitl [HV]; · iexact HV
    iexact HC
  iintro ⟨HK, HV, HC⟩
  try dsimp only
  iapply (part7 m0 h0 m1 h1 m2 h2 m3 h3 m4 h4 m6 h6 (k0_pay1 X W) K V ) $$ [HK HV HC]
  · isplitl [HK]; · iexact HK
    isplitl [HV]; · iexact HV
    iexact HC
  iintro ⟨HK, HV, HC⟩
  try dsimp only
  iapply (part8 m0 h0 m1 h1 m2 h2 m3 h3 m4 h4 m6 h6 (k0_pay1 X W) K V ) $$ [HK HV HC]
  · isplitl [HK]; · iexact HK
    isplitl [HV]; · iexact HV
    iexact HC
  iintro ⟨HK, HV, HC⟩
  try dsimp only
  iapply (part9 m0 h0 m1 h1 m2 h2 m3 h3 m4 h4 m6 h6 (k0_pay1 X W) K V wo _ _) $$ [HC HWo HF]
  · isplitl [HC]; · iexact HC
    isplitl [HWo]; · iexact HWo
    iexact HF
  iintro ⟨HC, HWo, HF⟩
  try dsimp only
  rw [show k0_pay27 (ctx (k0_pay1 X W) K V) wo = A c from hA.symm]
  ihave HT := (tiles_split A c) $$ HF
  icases HT with ⟨HQ_0_0, HT_0_1, HT_0_2, HT_0_3, HQ_1_0, HT_1_1, HT_1_2, HT_1_3⟩
  unfold met
  icases Hmet with ⟨⟨HA0, HA1, HB0, HB1, HB2⟩, Hnbar, HO⟩
  unfold barA barB
  icases HA0 with ⟨HFA_0_0, HFA_0_1, HFA_0_2⟩
  icases HA1 with ⟨HFA_1_0, HFA_1_1, HFA_1_2⟩
  icases HB0 with ⟨HFB_0_0, HFB_0_1⟩
  icases HB1 with ⟨HFB_1_0, HFB_1_1⟩
  icases HB2 with ⟨HFB_2_0, HFB_2_1⟩
  iapply (part10 A κ m0 h0 m1 h1 m2 h2 m3 h3 m4 h4 m6 h6 _ _) $$ [HkA_0_0 HQ_0_0 HFA_0_0 HkA_1_0 HQ_1_0 HFA_1_0 HO]
  · isplitr; · iexact Hw
    isplitl [HkA_0_0]; · iexact HkA_0_0
    isplitl [HQ_0_0]; · iexact HQ_0_0
    isplitl [HFA_0_0]; · iexact HFA_0_0
    isplitl [HkA_1_0]; · iexact HkA_1_0
    isplitl [HQ_1_0]; · iexact HQ_1_0
    isplitl [HFA_1_0]; · iexact HFA_1_0
    iexact HO
  iintro  ⟨HLA_0_0, HQ_0_0, HnAR_0_0, HnAS_0_0, HwAR_1_0, HwAS_1_0, HO⟩
  beta_reduce
  iapply (part11 A κ m0 h0 m1 h1 m2 h2 m3 h3 m4 h4 m6 h6 _ _) $$ [HwAS_1_0 HwAR_1_0 HT_0_1 HO]
  · isplitr; · iexact Hw
    isplitl [HwAS_1_0]; · iexact HwAS_1_0
    isplitl [HwAR_1_0]; · iexact HwAR_1_0
    isplitl [HT_0_1]; · iexact HT_0_1
    iexact HO
  iintro %_ %_ ⟨HLA_1_0, HQ_1_0, HT_0_1, HnAR_1_0, HnAS_1_0, HO⟩
  try dsimp only
  iapply (part12 A κ m0 h0 m1 h1 m2 h2 m3 h3 m4 h4 m6 h6 _ _ _ _) $$ [HLA_0_0 HT_0_1 HT_1_1 HLA_1_0 HO]
  · isplitr; · iexact Hw
    isplitl [HLA_0_0]; · iexact HLA_0_0
    isplitl [HT_0_1]; · iexact HT_0_1
    isplitl [HT_1_1]; · iexact HT_1_1
    isplitl [HLA_1_0]; · iexact HLA_1_0
    iexact HO
  iintro  ⟨HLA_0_0, HLA_1_0, HQ_0_1, HQ_1_1, HO⟩
  beta_reduce
  iapply (part13 A κ m0 h0 m1 h1 m2 h2 m3 h3 m4 h4 m6 h6 _ _) $$ [HkA_0_1 HQ_0_1 HFA_0_1 HQ_1_0 HkA_1_1 HQ_1_1 HFA_1_1 HQ_0_0 HO]
  · isplitr; · iexact Hw
    isplitl [HkA_0_1]; · iexact HkA_0_1
    isplitl [HQ_0_1]; · iexact HQ_0_1
    isplitl [HFA_0_1]; · iexact HFA_0_1
    isplitl [HQ_1_0]; · iexact HQ_1_0
    isplitl [HkA_1_1]; · iexact HkA_1_1
    isplitl [HQ_1_1]; · iexact HQ_1_1
    isplitl [HFA_1_1]; · iexact HFA_1_1
    isplitl [HQ_0_0]; · iexact HQ_0_0
    iexact HO
  iintro  ⟨HLA_0_1, HQ_0_1, HXC_1_0, HnAR_0_1, HnAS_0_1, HwAR_1_1, HwAS_1_1, HO⟩
  beta_reduce
  iapply (part14 A κ m0 h0 m1 h1 m2 h2 m3 h3 m4 h4 m6 h6 _ _) $$ [HwAS_1_1 HwAR_1_1 HT_0_2 HO]
  · isplitr; · iexact Hw
    isplitl [HwAS_1_1]; · iexact HwAS_1_1
    isplitl [HwAR_1_1]; · iexact HwAR_1_1
    isplitl [HT_0_2]; · iexact HT_0_2
    iexact HO
  iintro %_ %_ ⟨HLA_1_1, HQ_1_1, HT_0_2, HXC_0_0, HnAR_1_1, HnAS_1_1, HO⟩
  try dsimp only
  iapply (part15 A κ m0 h0 m1 h1 m2 h2 m3 h3 m4 h4 m6 h6 _ _ _ _) $$ [HLA_0_1 HT_0_2 HT_1_2 HLA_1_1 HkA_0_2 HFA_0_2 HQ_1_1 HO]
  · isplitr; · iexact Hw
    isplitl [HLA_0_1]; · iexact HLA_0_1
    isplitl [HT_0_2]; · iexact HT_0_2
    isplitl [HT_1_2]; · iexact HT_1_2
    isplitl [HLA_1_1]; · iexact HLA_1_1
    isplitl [HkA_0_2]; · iexact HkA_0_2
    isplitl [HFA_0_2]; · iexact HFA_0_2
    isplitl [HQ_1_1]; · iexact HQ_1_1
    iexact HO
  iintro  ⟨HLA_0_1, HLA_1_1, HQ_1_2, HwAR_0_2, HwAS_0_2, HO⟩
  beta_reduce
  iapply (part16 A κ m0 h0 m1 h1 m2 h2 m3 h3 m4 h4 m6 h6 _ _) $$ [HkA_1_2 HQ_1_2 HFA_1_2 HQ_0_1 HwAS_0_2 HwAR_0_2 HO]
  · isplitr; · iexact Hw
    isplitl [HkA_1_2]; · iexact HkA_1_2
    isplitl [HQ_1_2]; · iexact HQ_1_2
    isplitl [HFA_1_2]; · iexact HFA_1_2
    isplitl [HQ_0_1]; · iexact HQ_0_1
    isplitl [HwAS_0_2]; · iexact HwAS_0_2
    isplitl [HwAR_0_2]; · iexact HwAR_0_2
    iexact HO
  iintro  ⟨HLA_0_2, HQ_0_2, HXC_1_1, HnAR_0_2, HnAS_0_2, HwAR_1_2, HwAS_1_2, HO⟩
  beta_reduce
  iapply (part17 A κ m0 h0 m1 h1 m2 h2 m3 h3 m4 h4 m6 h6 _ _) $$ [HwAS_1_2 HwAR_1_2 HT_0_3 HLA_0_2 HO]
  · isplitr; · iexact Hw
    isplitl [HwAS_1_2]; · iexact HwAS_1_2
    isplitl [HwAR_1_2]; · iexact HwAR_1_2
    isplitl [HT_0_3]; · iexact HT_0_3
    isplitl [HLA_0_2]; · iexact HLA_0_2
    iexact HO
  iintro %_ %_ %w522 %hw522 ⟨HLA_0_2, HLA_1_2, HQ_1_2, HT_0_3, HXC_0_1, HnAR_1_2, HnAS_1_2, HO⟩
  try dsimp only
  iapply (part18 A κ m0 h0 m1 h1 m2 h2 m3 h3 m4 h4 m6 h6 _ _ _ _ _ hw522) $$ [HT_0_3 HT_1_3 HLA_1_2 HO]
  · isplitr; · iexact Hw
    isplitl [HT_0_3]; · iexact HT_0_3
    isplitl [HT_1_3]; · iexact HT_1_3
    isplitl [HLA_1_2]; · iexact HLA_1_2
    iexact HO
  iintro %_ %_ %_ %_ ⟨HLA_1_2, HQ_0_3, HQ_1_3, HO⟩
  try dsimp only
  ihave HS := (holds_strips c (dq 0 c 3) 0 (acc A 0 c 3)) $$ HQ_0_3
  icases HS with ⟨HST_0_0, HST_0_1, HST_0_2, HST_0_3⟩
  ihave HS := (holds_strips c (dq 1 c 3) 1 (acc A 1 c 3)) $$ HQ_1_3
  icases HS with ⟨HST_1_0, HST_1_1, HST_1_2, HST_1_3⟩
  iapply (part19 A κ m0 h0 m1 h1 m2 h2 m3 h3 m4 h4 m6 h6 _ _ _ _ _ _) $$ [HkR_2_0 HST_0_1 HFB_2_0 HkR_2_1 HST_1_1 HFB_2_1 HO]
  · isplitr; · iexact Hw
    isplitl [HkR_2_0]; · iexact HkR_2_0
    isplitl [HST_0_1]; · iexact HST_0_1
    isplitl [HFB_2_0]; · iexact HFB_2_0
    isplitl [HkR_2_1]; · iexact HkR_2_1
    isplitl [HST_1_1]; · iexact HST_1_1
    isplitl [HFB_2_1]; · iexact HFB_2_1
    iexact HO
  iintro %_ %_ ⟨HwRR_2_0, HwRR_2_1, HwRS_2_0, HwRS_2_1, HO⟩
  try dsimp only
  iapply (part20 A κ m0 h0 m1 h1 m2 h2 m3 h3 m4 h4 m6 h6 _ _ _ _ _ _) $$ [HkR_1_0 HST_0_2 HFB_1_0 HkR_1_1 HST_1_2 HFB_1_1 HO]
  · isplitr; · iexact Hw
    isplitl [HkR_1_0]; · iexact HkR_1_0
    isplitl [HST_0_2]; · iexact HST_0_2
    isplitl [HFB_1_0]; · iexact HFB_1_0
    isplitl [HkR_1_1]; · iexact HkR_1_1
    isplitl [HST_1_2]; · iexact HST_1_2
    isplitl [HFB_1_1]; · iexact HFB_1_1
    iexact HO
  iintro %_ %_ ⟨HwRR_1_0, HwRR_1_1, HwRS_1_0, HwRS_1_1, HO⟩
  try dsimp only
  iapply (part21 A κ m0 h0 m1 h1 m2 h2 m3 h3 m4 h4 m6 h6 _ _ _ _) $$ [HkR_0_0 HST_0_3 HFB_0_0 HkR_0_1 HST_1_3 HFB_0_1 HO]
  · isplitr; · iexact Hw
    isplitl [HkR_0_0]; · iexact HkR_0_0
    isplitl [HST_0_3]; · iexact HST_0_3
    isplitl [HFB_0_0]; · iexact HFB_0_0
    isplitl [HkR_0_1]; · iexact HkR_0_1
    isplitl [HST_1_3]; · iexact HST_1_3
    isplitl [HFB_0_1]; · iexact HFB_0_1
    iexact HO
  iintro  ⟨HLB_0_0, HXG_2_0, HnRR_0_0, HwRR_0_1, HwRS_0_0, HwRS_0_1, HO⟩
  beta_reduce
  iapply (part22 A κ m0 h0 m1 h1 m2 h2 m3 h3 m4 h4 m6 h6 _) $$ [HwRR_0_1 HwRR_1_0 HO]
  · isplitr; · iexact Hw
    isplitl [HwRR_0_1]; · iexact HwRR_0_1
    isplitl [HwRR_1_0]; · iexact HwRR_1_0
    iexact HO
  iintro  ⟨HLB_0_1, HLB_1_0, HXG_1_0, HXG_2_1, HnRR_0_1, HnRR_1_0, HO⟩
  beta_reduce
  iapply (part23 A κ m0 h0 m1 h1 m2 h2 m3 h3 m4 h4 m6 h6 _) $$ [HwRR_1_1 HwRR_2_0 HwRR_2_1 HO]
  · isplitr; · iexact Hw
    isplitl [HwRR_1_1]; · iexact HwRR_1_1
    isplitl [HwRR_2_0]; · iexact HwRR_2_0
    isplitl [HwRR_2_1]; · iexact HwRR_2_1
    iexact HO
  iintro  ⟨HLB_1_1, HLB_2_0, HLB_2_1, HXG_0_0, HXG_0_1, HXG_1_1, HnRR_1_1, HnRR_2_0, HnRR_2_1, HO⟩
  beta_reduce
  iapply (part24 A κ m0 h0 m1 h1 m2 h2 m3 h3 m4 h4 m6 h6 ) $$ [HwRS_2_0 HwRS_2_1 HwRS_1_0 HwRS_1_1 HO]
  · isplitr; · iexact Hw
    isplitl [HwRS_2_0]; · iexact HwRS_2_0
    isplitl [HwRS_2_1]; · iexact HwRS_2_1
    isplitl [HwRS_1_0]; · iexact HwRS_1_0
    isplitl [HwRS_1_1]; · iexact HwRS_1_1
    iexact HO
  iintro  ⟨HnRS_1_0, HnRS_1_1, HnRS_2_0, HnRS_2_1, HO⟩
  beta_reduce
  iapply (part25 A κ m0 h0 m1 h1 m2 h2 m3 h3 m4 h4 m6 h6 _ _ _) $$ [HwRS_0_0 HwRS_0_1 HST_0_0 HLB_0_0 HLB_1_0 HLB_2_0 HO]
  · isplitr; · iexact Hw
    isplitl [HwRS_0_0]; · iexact HwRS_0_0
    isplitl [HwRS_0_1]; · iexact HwRS_0_1
    isplitl [HST_0_0]; · iexact HST_0_0
    isplitl [HLB_0_0]; · iexact HLB_0_0
    isplitl [HLB_1_0]; · iexact HLB_1_0
    isplitl [HLB_2_0]; · iexact HLB_2_0
    iexact HO
  iintro %_ ⟨HLB_0_0, HLB_1_0, HLB_2_0, HST_0_0, HnRS_0_0, HnRS_0_1, HO⟩
  try dsimp only
  iapply (part26 A κ m0 h0 m1 h1 m2 h2 m3 h3 m4 h4 m6 h6 _ _ _ _) $$ [HST_0_0 HST_1_0 HLB_0_1 HLB_1_1 HLB_2_1 HO]
  · isplitr; · iexact Hw
    isplitl [HST_0_0]; · iexact HST_0_0
    isplitl [HST_1_0]; · iexact HST_1_0
    isplitl [HLB_0_1]; · iexact HLB_0_1
    isplitl [HLB_1_1]; · iexact HLB_1_1
    isplitl [HLB_2_1]; · iexact HLB_2_1
    iexact HO
  iintro %_ ⟨HLB_0_1, HLB_1_1, HLB_2_1, HRD_0, HRD_1, HO⟩
  try dsimp only
  ihave HS := (own_strip A 0 c) $$ HRD_0
  icases HS with ⟨HGS_2_0, HGS_1_0, HGS_0_0⟩
  ihave HS := (own_strip A 1 c) $$ HRD_1
  icases HS with ⟨HGS_2_1, HGS_1_1, HGS_0_1⟩
  iapply (part27 A κ m0 h0 m1 h1 m2 h2 m3 h3 m4 h4 m6 h6 _ _ _ _ _) $$ [HkG_2_0 HGS_2_0 HXG_2_0 HkG_2_1 HGS_2_1 HXG_2_1 HkG_1_0 HGS_1_0 HXG_1_0 HO]
  · isplitr; · iexact Hw
    isplitl [HkG_2_0]; · iexact HkG_2_0
    isplitl [HGS_2_0]; · iexact HGS_2_0
    isplitl [HXG_2_0]; · iexact HXG_2_0
    isplitl [HkG_2_1]; · iexact HkG_2_1
    isplitl [HGS_2_1]; · iexact HGS_2_1
    isplitl [HXG_2_1]; · iexact HXG_2_1
    isplitl [HkG_1_0]; · iexact HkG_1_0
    isplitl [HGS_1_0]; · iexact HGS_1_0
    isplitl [HXG_1_0]; · iexact HXG_1_0
    iexact HO
  iintro %_ ⟨HwGR_1_0, HwGR_2_0, HwGR_2_1, HwGS_1_0, HwGS_2_0, HwGS_2_1, HO⟩
  try dsimp only
  iapply (part28 A κ m0 h0 m1 h1 m2 h2 m3 h3 m4 h4 m6 h6 _ _ _ _ _) $$ [HkG_1_1 HGS_1_1 HXG_1_1 HkG_0_0 HGS_0_0 HXG_0_0 HO]
  · isplitr; · iexact Hw
    isplitl [HkG_1_1]; · iexact HkG_1_1
    isplitl [HGS_1_1]; · iexact HGS_1_1
    isplitl [HXG_1_1]; · iexact HXG_1_1
    isplitl [HkG_0_0]; · iexact HkG_0_0
    isplitl [HGS_0_0]; · iexact HGS_0_0
    isplitl [HXG_0_0]; · iexact HXG_0_0
    iexact HO
  iintro  ⟨HwGR_0_0, HwGR_1_1, HwGS_0_0, HwGS_1_1, HO⟩
  beta_reduce
  iapply (part29 A κ m0 h0 m1 h1 m2 h2 m3 h3 m4 h4 m6 h6 _ _ _ _) $$ [HkG_0_1 HGS_0_1 HXG_0_1 HwGR_0_0 HO]
  · isplitr; · iexact Hw
    isplitl [HkG_0_1]; · iexact HkG_0_1
    isplitl [HGS_0_1]; · iexact HGS_0_1
    isplitl [HXG_0_1]; · iexact HXG_0_1
    isplitl [HwGR_0_0]; · iexact HwGR_0_0
    iexact HO
  iintro  ⟨HGP_0_0, HGP_0_1, HnGR_0_0, HnGR_0_1, HwGS_0_1, HO⟩
  beta_reduce
  iapply (part30 A κ m0 h0 m1 h1 m2 h2 m3 h3 m4 h4 m6 h6 _ _ _ _) $$ [HwGR_1_0 HwGR_1_1 HO]
  · isplitr; · iexact Hw
    isplitl [HwGR_1_0]; · iexact HwGR_1_0
    isplitl [HwGR_1_1]; · iexact HwGR_1_1
    iexact HO
  iintro %_ ⟨HGP_1_0, HGP_1_1, HnGR_1_0, HnGR_1_1, HO⟩
  try dsimp only
  iapply (part31 A κ m0 h0 m1 h1 m2 h2 m3 h3 m4 h4 m6 h6 _ _ _ _) $$ [HwGR_2_0 HwGR_2_1 HwGS_2_0 HwGS_2_1 HO]
  · isplitr; · iexact Hw
    isplitl [HwGR_2_0]; · iexact HwGR_2_0
    isplitl [HwGR_2_1]; · iexact HwGR_2_1
    isplitl [HwGS_2_0]; · iexact HwGS_2_0
    isplitl [HwGS_2_1]; · iexact HwGS_2_1
    iexact HO
  iintro  ⟨HGP_2_0, HGP_2_1, HGS_2_0, HGS_2_1, HnGR_2_0, HnGR_2_1, HnGS_2_0, HnGS_2_1, HO⟩
  beta_reduce
  iapply (part32 A κ m0 h0 m1 h1 m2 h2 m3 h3 m4 h4 m6 h6 _) $$ [HwGS_1_0 HwGS_1_1 HwGS_0_0 HwGS_0_1 HO]
  · isplitr; · iexact Hw
    isplitl [HwGS_1_0]; · iexact HwGS_1_0
    isplitl [HwGS_1_1]; · iexact HwGS_1_1
    isplitl [HwGS_0_0]; · iexact HwGS_0_0
    isplitl [HwGS_0_1]; · iexact HwGS_0_1
    iexact HO
  iintro %_ %_ %_ ⟨HGS_0_0, HGS_0_1, HGS_1_0, HGS_1_1, HnGS_0_0, HnGS_0_1, HnGS_1_0, HnGS_1_1, HO⟩
  try dsimp only
  ihave HS := (strip_own A 0 c) $$ [HGS_2_0 HGS_1_0 HGS_0_0]
  · isplitl [HGS_2_0]; · iexact HGS_2_0
    isplitl [HGS_1_0]; · iexact HGS_1_0
    iexact HGS_0_0
  ihave HCW_0_0 := (strips_q A 0 c) $$ [HS HGP_0_0 HGP_1_0 HGP_2_0]
  · isplitl [HS]; · iexact HS
    isplitl [HGP_0_0]; · iexact HGP_0_0
    isplitl [HGP_1_0]; · iexact HGP_1_0
    iexact HGP_2_0
  ihave HS := (strip_own A 1 c) $$ [HGS_2_1 HGS_1_1 HGS_0_1]
  · isplitl [HGS_2_1]; · iexact HGS_2_1
    isplitl [HGS_1_1]; · iexact HGS_1_1
    iexact HGS_0_1
  ihave HCW_1_0 := (strips_q A 1 c) $$ [HS HGP_0_1 HGP_1_1 HGP_2_1]
  · isplitl [HS]; · iexact HS
    isplitl [HGP_0_1]; · iexact HGP_0_1
    isplitl [HGP_1_1]; · iexact HGP_1_1
    iexact HGP_2_1
  iapply (part33 A κ m0 h0 m1 h1 m2 h2 m3 h3 m4 h4 m6 h6 _ _ _ _ _) $$ [HkC_0_0 HCW_0_0 HXC_0_0 HQ_1_2 HkC_1_0 HCW_1_0 HXC_1_0 HQ_0_2 HO]
  · isplitr; · iexact Hw
    isplitl [HkC_0_0]; · iexact HkC_0_0
    isplitl [HCW_0_0]; · iexact HCW_0_0
    isplitl [HXC_0_0]; · iexact HXC_0_0
    isplitl [HQ_1_2]; · iexact HQ_1_2
    isplitl [HkC_1_0]; · iexact HkC_1_0
    isplitl [HCW_1_0]; · iexact HCW_1_0
    isplitl [HXC_1_0]; · iexact HXC_1_0
    isplitl [HQ_0_2]; · iexact HQ_0_2
    iexact HO
  iintro %_ %_ ⟨HCW_0_0, HnCS_0_0, HwCR_0_0, HwCR_1_0, HwCS_1_0, HO⟩
  try dsimp only
  iapply (part34 A κ m0 h0 m1 h1 m2 h2 m3 h3 m4 h4 m6 h6 _ _ _ _) $$ [HwCR_0_0 HwCS_1_0 HwCR_1_0 HO]
  · isplitr; · iexact Hw
    isplitl [HwCR_0_0]; · iexact HwCR_0_0
    isplitl [HwCS_1_0]; · iexact HwCS_1_0
    isplitl [HwCR_1_0]; · iexact HwCR_1_0
    iexact HO
  iintro %_ ⟨HCW_0_1, HCW_1_0, HCW_1_1, HXC_0_2, HXC_1_2, HnCR_0_0, HnCR_1_0, HnCS_1_0, HO⟩
  try dsimp only
  iapply (part35 A κ m0 h0 m1 h1 m2 h2 m3 h3 m4 h4 m6 h6 _ _ _) $$ [HkC_0_1 HCW_0_1 HXC_0_1 HkC_1_1 HCW_1_1 HXC_1_1 HO]
  · isplitr; · iexact Hw
    isplitl [HkC_0_1]; · iexact HkC_0_1
    isplitl [HCW_0_1]; · iexact HCW_0_1
    isplitl [HXC_0_1]; · iexact HXC_0_1
    isplitl [HkC_1_1]; · iexact HkC_1_1
    isplitl [HCW_1_1]; · iexact HCW_1_1
    isplitl [HXC_1_1]; · iexact HXC_1_1
    iexact HO
  iintro  ⟨HCW_0_1, HCW_0_2, HnCR_0_1, HnCS_0_1, HwCR_1_1, HwCS_1_1, HO⟩
  beta_reduce
  iapply (part36 A κ m0 h0 m1 h1 m2 h2 m3 h3 m4 h4 m6 h6 _ _ _) $$ [HwCS_1_1 HwCR_1_1 HkC_0_2 HCW_0_2 HXC_0_2 HO]
  · isplitr; · iexact Hw
    isplitl [HwCS_1_1]; · iexact HwCS_1_1
    isplitl [HwCR_1_1]; · iexact HwCR_1_1
    isplitl [HkC_0_2]; · iexact HkC_0_2
    isplitl [HCW_0_2]; · iexact HCW_0_2
    isplitl [HXC_0_2]; · iexact HXC_0_2
    iexact HO
  iintro  ⟨HCW_1_1, HCW_1_2, HnCR_1_1, HnCS_1_1, HwCR_0_2, HwCS_0_2, HO⟩
  beta_reduce
  iapply (part37 A κ m0 h0 m1 h1 m2 h2 m3 h3 m4 h4 m6 h6 _ _) $$ [HkC_1_2 HCW_1_2 HXC_1_2 HwCS_0_2 HwCR_0_2 HO]
  · isplitr; · iexact Hw
    isplitl [HkC_1_2]; · iexact HkC_1_2
    isplitl [HCW_1_2]; · iexact HCW_1_2
    isplitl [HXC_1_2]; · iexact HXC_1_2
    isplitl [HwCS_0_2]; · iexact HwCS_0_2
    isplitl [HwCR_0_2]; · iexact HwCR_0_2
    iexact HO
  iintro  ⟨HCW_0_2, HCW_0_3, HCW_1_2, HnCR_0_2, HnCS_0_2, HnCS_1_2, HwCR_1_2, HO⟩
  beta_reduce
  iapply (waitCR A κ 1 2 (n := 29) (by decide +kernel) rfl) $$ [HwCR_1_2 HO]
  · isplitr; · iexact Hw
    isplitl [HwCR_1_2]; · iexact HwCR_1_2
    iexact HO
  iintro ⟨HO, HnCR_1_2, HCW_1_3, -⟩
  beta_reduce
  unfold leave
  rw [sep_5]
  icases Hleave with ⟨Hfat, Hfc, ⟨HT0, HT1, HT2, HT3, HT4⟩⟩
  iapply (bye A κ (n := 29) (e := 0) rfl (dev30_eq c) rfl) $$ [HT0 HO]
  · isplitr; · iexact Hw
    isplitl [HT0]; · iexact HT0
    iexact HO
  iintro HO
  beta_reduce
  iapply (bye A κ (n := 30) (e := 1) rfl (dev31_eq c) rfl) $$ [HT1 HO]
  · isplitr; · iexact Hw
    isplitl [HT1]; · iexact HT1
    iexact HO
  iintro HO
  beta_reduce
  rw [wp_pure]
  imodintro
  iapply Hk
  unfold mid last
  isplitr; · iexact Hw
  isplitl [Hfat Hfc HT2 HT3 HT4 HO]
  · isplitl [Hfat]; · iexact Hfat
    isplitl [Hfc]; · iexact Hfc
    isplitl [HT2]; · iexact HT2
    isplitl [HT3]; · iexact HT3
    isplitl [HT4]; · iexact HT4
    iexact HO
  isplitl [Hnbar]; · iexact Hnbar
  isplitl [HnAS_0_0 HnAR_0_0 HnAS_1_0 HnAR_1_0 HnAS_0_1 HnAR_0_1 HnAS_1_1 HnAR_1_1 HnAS_0_2 HnAR_0_2 HnAS_1_2 HnAR_1_2 HnRS_2_0 HnRR_2_0 HnRS_2_1 HnRR_2_1 HnRS_1_0 HnRR_1_0 HnRS_1_1 HnRR_1_1 HnRS_0_0 HnRR_0_0 HnRS_0_1 HnRR_0_1 HnGS_2_0 HnGR_2_0 HnGS_2_1 HnGR_2_1 HnGS_1_0 HnGR_1_0 HnGS_1_1 HnGR_1_1 HnGS_0_0 HnGR_0_0 HnGS_0_1 HnGR_0_1 HnCS_0_0 HnCR_0_0 HnCS_1_0 HnCR_1_0 HnCS_0_1 HnCR_0_1 HnCS_1_1 HnCR_1_1 HnCS_0_2 HnCR_0_2 HnCS_1_2 HnCR_1_2]
  · skip
    isplitl [HnAS_0_0]; · iexact HnAS_0_0
    isplitl [HnAR_0_0]; · iexact HnAR_0_0
    isplitl [HnAS_1_0]; · iexact HnAS_1_0
    isplitl [HnAR_1_0]; · iexact HnAR_1_0
    isplitl [HnAS_0_1]; · iexact HnAS_0_1
    isplitl [HnAR_0_1]; · iexact HnAR_0_1
    isplitl [HnAS_1_1]; · iexact HnAS_1_1
    isplitl [HnAR_1_1]; · iexact HnAR_1_1
    isplitl [HnAS_0_2]; · iexact HnAS_0_2
    isplitl [HnAR_0_2]; · iexact HnAR_0_2
    isplitl [HnAS_1_2]; · iexact HnAS_1_2
    isplitl [HnAR_1_2]; · iexact HnAR_1_2
    isplitl [HnRS_2_0]; · iexact HnRS_2_0
    isplitl [HnRR_2_0]; · iexact HnRR_2_0
    isplitl [HnRS_2_1]; · iexact HnRS_2_1
    isplitl [HnRR_2_1]; · iexact HnRR_2_1
    isplitl [HnRS_1_0]; · iexact HnRS_1_0
    isplitl [HnRR_1_0]; · iexact HnRR_1_0
    isplitl [HnRS_1_1]; · iexact HnRS_1_1
    isplitl [HnRR_1_1]; · iexact HnRR_1_1
    isplitl [HnRS_0_0]; · iexact HnRS_0_0
    isplitl [HnRR_0_0]; · iexact HnRR_0_0
    isplitl [HnRS_0_1]; · iexact HnRS_0_1
    isplitl [HnRR_0_1]; · iexact HnRR_0_1
    isplitl [HnGS_2_0]; · iexact HnGS_2_0
    isplitl [HnGR_2_0]; · iexact HnGR_2_0
    isplitl [HnGS_2_1]; · iexact HnGS_2_1
    isplitl [HnGR_2_1]; · iexact HnGR_2_1
    isplitl [HnGS_1_0]; · iexact HnGS_1_0
    isplitl [HnGR_1_0]; · iexact HnGR_1_0
    isplitl [HnGS_1_1]; · iexact HnGS_1_1
    isplitl [HnGR_1_1]; · iexact HnGR_1_1
    isplitl [HnGS_0_0]; · iexact HnGS_0_0
    isplitl [HnGR_0_0]; · iexact HnGR_0_0
    isplitl [HnGS_0_1]; · iexact HnGS_0_1
    isplitl [HnGR_0_1]; · iexact HnGR_0_1
    isplitl [HnCS_0_0]; · iexact HnCS_0_0
    isplitl [HnCR_0_0]; · iexact HnCR_0_0
    isplitl [HnCS_1_0]; · iexact HnCS_1_0
    isplitl [HnCR_1_0]; · iexact HnCR_1_0
    isplitl [HnCS_0_1]; · iexact HnCS_0_1
    isplitl [HnCR_0_1]; · iexact HnCR_0_1
    isplitl [HnCS_1_1]; · iexact HnCS_1_1
    isplitl [HnCR_1_1]; · iexact HnCR_1_1
    isplitl [HnCS_0_2]; · iexact HnCS_0_2
    isplitl [HnCR_0_2]; · iexact HnCR_0_2
    isplitl [HnCS_1_2]; · iexact HnCS_1_2
    iexact HnCR_1_2
  isplitl [HCW_0_1 HCW_0_2 HCW_0_3 HCW_0_0 HCW_1_1 HCW_1_2 HCW_1_3 HCW_1_0]
  · iapply (tiles_join A c)
    isplitl [HCW_0_1]; · iexact HCW_0_1
    isplitl [HCW_0_2]; · iexact HCW_0_2
    isplitl [HCW_0_3]; · iexact HCW_0_3
    isplitl [HCW_0_0]; · iexact HCW_0_0
    isplitl [HCW_1_1]; · iexact HCW_1_1
    isplitl [HCW_1_2]; · iexact HCW_1_2
    isplitl [HCW_1_3]; · iexact HCW_1_3
    iexact HCW_1_0
  isplitl [HC]; · iexists _; iexact HC
  isplitl [HLA_0_0 HLA_0_1 HLA_0_2 HLA_1_0 HLA_1_1 HLA_1_2 HLB_0_0 HLB_0_1 HLB_1_0 HLB_1_1 HLB_2_0 HLB_2_1]
  · unfold barOf barA barB
    isplitl [HLA_0_0 HLA_0_1 HLA_0_2]
    · isplitl [HLA_0_0]; · iapply (holds_free (Am 0 0) c _) $$ HLA_0_0
      isplitl [HLA_0_1]; · iapply (holds_free (Am 0 1) c _) $$ HLA_0_1
      iapply (holds_free (Am 0 2) c _) $$ HLA_0_2
    isplitl [HLA_1_0 HLA_1_1 HLA_1_2]
    · isplitl [HLA_1_0]; · iapply (holds_free (Am 1 0) c _) $$ HLA_1_0
      isplitl [HLA_1_1]; · iapply (holds_free (Am 1 1) c _) $$ HLA_1_1
      iapply (holds_free (Am 1 2) c _) $$ HLA_1_2
    isplitl [HLB_0_0 HLB_0_1]
    · isplitl [HLB_0_0]; · iapply (holds_free (Bm 0 0) c _) $$ HLB_0_0
      iapply (holds_free (Bm 0 1) c _) $$ HLB_0_1
    isplitl [HLB_1_0 HLB_1_1]
    · isplitl [HLB_1_0]; · iapply (holds_free (Bm 1 0) c _) $$ HLB_1_0
      iapply (holds_free (Bm 1 1) c _) $$ HLB_1_1
    isplitl [HLB_2_0]; · iapply (holds_free (Bm 2 0) c _) $$ HLB_2_0
    iapply (holds_free (Bm 2 1) c _) $$ HLB_2_1
  unfold ins
  isplitl [HX]; · iexact HX
  isplitl [HW]; · iexact HW
  isplitl [HK]; · iexact HK
  isplitl [HV]; · iexact HV
  iexact HWo

theorem body_run {Q : PUnit.{1} → sProp 𝕄} (Y : Vec F S1024x1024 .f32) (hA : A c = share X W K V wo) :
    start A κ m0 m1 m2 m3 m4 m6 X W K V wo c Y
      ⊢ iprop((stop A m0 m1 m2 m3 m4 m6 X W K V wo c -∗ Q ⟨⟩)
        -∗ wp frame (wpE (defs₀ (F := F)) 𝒱₀ c none) Set.univ (cc0_body m0 h0 m1 h1 m2 h2 m3 h3 m4 h4 outM (Memref.isWhole_whole _) m6 h6 aM (Memref.isWhole_whole _) bM (Memref.isWhole_whole _) cc0_scratch3 cc0_scratch4 cc0_scratch5 cc0_scratch6 cc0_scratch7 cc0_scratch8 cc0_scratch9 cc0_scratch10 cc0_scoped0) Q) := by
  rw [cc0_body_eq_skeleton]; unfold cc0_body_skel; simp only [wp_bind]
  iintro Hs Hk
  iapply (part38 A κ m0 h0 m1 h1 m2 h2 m3 h3 m4 h4 m6 h6 X W K V wo Y hA) $$ Hs
  iintro %_ %_ %_ Hm
  try dsimp only
  unfold mid last
  icases Hm with ⟨#Hw, ⟨Hfat, Hfc, HT2, HT3, HT4, HO⟩, Hb, Hd, Ho, HC, ⟨B0, B1, B2, B3, B4⟩, Hi⟩
  iapply (bye A κ (n := 31) (e := 2) rfl (dev32_eq c) rfl) $$ [HT2 HO]
  · isplitr; · iexact Hw
    isplitl [HT2]; · iexact HT2
    iexact HO
  iintro HO
  beta_reduce
  iapply (bye A κ (n := 32) (e := 3) rfl (dev33_eq c) rfl) $$ [HT3 HO]
  · isplitr; · iexact Hw
    isplitl [HT3]; · iexact HT3
    iexact HO
  iintro HO
  beta_reduce
  iapply (bye A κ (n := 33) (e := 4) rfl (dev34_eq c) rfl) $$ [HT4 HO]
  · isplitr; · iexact Hw
    isplitl [HT4]; · iexact HT4
    iexact HO
  iintro HO
  beta_reduce
  iapply (bye_wait A κ rfl) $$ [Hfat Hfc HO]
  · isplitr; · iexact Hw
    isplitl [Hfat]; · iexact Hfat
    isplitl [Hfc]; · iexact Hfc
    iexact HO
  iintro ⟨HO, Hf⟩
  beta_reduce
  rw [wp_pure]
  imodintro
  iapply Hk
  unfold stop
  rw [dn_eq]
  isplitl [HO Hb Hf Hd]
  · isplitl [HO]; · iexact HO
    isplitl [Hb]; · iexact Hb
    isplitl [Hf]; · iexact Hf
    iexact Hd
  isplitl [Ho]; · iexact Ho
  isplitl [HC]; · iexact HC
  isplitl [B0]; · iexact B0
  isplitl [B1]; · iexact B1
  isplitl [B2]; · iexact B2
  isplitl [B3]; · iexact B3
  isplitl [B4]; · iexact B4
  iexact Hi

end Cert.KernelIdeal.Comm

end
-- ==== Proof.KernelIdeal.Open.lean ====
/-
  OPENING THE EXCHANGE. From what the launch deals to a device (its barrier position, its rights to open its own cells, its
  tokens, its credit) and its own semaphores at zero, the position its body starts from; and back, at the end.
-/
module

public import proofs.«01_k».proof.Proof.KernelIdeal.Body
public import Idealize.ShloMosaic.Lib.Pipeline.BigSepL

@[expose] public section

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

/-! ## Lists of resources -/

section Lists
variable {I : Type}

theorem four (a b c d : sProp 𝕄) : iprop((a ∗ b) ∗ c ∗ d) ⊢ iprop((a ∗ c) ∗ b ∗ d) := by
  iintro ⟨⟨H1, H2⟩, H3, H4⟩
  isplitl [H1 H3]
  · isplitl [H1] <;> iassumption
  · isplitl [H2] <;> iassumption
theorem three (a b c : sProp 𝕄) : (iprop(a ∗ b ∗ c) ⊢ iprop((a ∗ b) ∗ c)) ∧ (iprop((a ∗ b) ∗ c) ⊢ iprop(a ∗ b ∗ c)) := by
  constructor
  · iintro ⟨H1, H2, H3⟩
    isplitl [H1 H2]
    · isplitl [H1] <;> iassumption
    · iexact H3
  · iintro ⟨⟨H1, H2⟩, H3⟩
    isplitl [H1]; · iexact H1
    isplitl [H2] <;> iassumption

theorem sepL_sep (l : List I) (P Q : I → sProp 𝕄) : bigSepL l (fun x => iprop(P x ∗ Q x)) = iprop(bigSepL l P ∗ bigSepL l Q) := by
  induction l with
  | nil => exact (BI.equiv_iff.mp sep_emp).symm
  | cons x l ih =>
    rw [bigSepL_cons', bigSepL_cons', bigSepL_cons', ih]
    exact Entails.antisymm (four _ _ _ _) (four _ _ _ _)

theorem sepL_two {J : Type} (l : List I) (f g : I → J) (Φ : J → sProp 𝕄) :
    bigSepL (l.flatMap fun x => [f x, g x]) Φ = iprop((bigSepL l fun x => Φ (f x)) ∗ bigSepL l fun x => Φ (g x)) := by
  rw [← sepL_sep]
  induction l with
  | nil => rfl
  | cons x l ih =>
    rw [List.flatMap_cons, List.cons_append, List.cons_append, List.nil_append, bigSepL_cons', bigSepL_cons', bigSepL_cons', ih]
    exact Entails.antisymm (three _ _ _).1 (three _ _ _).2

theorem sep_five (Φ : Fin 5 → sProp 𝕄) : bigSep Finset.univ Φ = bigSepL [0, 1, 2, 3, 4] Φ :=
  bigSep_eq_bigSepL_of_eq [0, 1, 2, 3, 4] (by decide) (by decide) Φ

/-- Five single units of credit are one of five. -/
theorem five_units (g : GSem nD τ sig) (i : ℕ) : (bigSepL ([0, 1, 2, 3, 4] : List (Fin 5)) fun _ => (cred (tallyAt g i 1) : sProp 𝕄)) ⊢ cred (tallyAt g i 5) := by
  refine Entails.of_eq ?_
  have h : (bigSepL ([0, 1, 2, 3, 4] : List (Fin 5)) fun _ => (cred (tallyAt g i 1) : sProp 𝕄))
      = bigSepL (([0, 1, 2, 3, 4] : List (Fin 5)).map fun _ => ((g, i, 1) : Pay nD τ sig)) fun x => cred (Pay.tally x) := (bigSepL_map _ _ _).symm
  rw [h, ← TalkSites.cred_tallyL]
  refine congrArg cred ?_
  show tallyAt g i 1 + (tallyAt g i 1 + (tallyAt g i 1 + (tallyAt g i 1 + (tallyAt g i 1 + 0)))) = tallyAt g i 5
  rw [add_zero, tallyAt_add, tallyAt_add, tallyAt_add, tallyAt_add]
end Lists

/-! ## The credit of the launch -/

theorem inv_peer : ∀ (e : Fin 5) (c : Dev nD), peer e (peer (inv e) c) = c := by decide +kernel
def peerE (e : Fin 5) : Dev nD ≃ Dev nD := ⟨peer e, peer (inv e), peer_inv e, inv_peer e⟩

/-- A payment as its receiver sees it. -/
def mine (c : Dev nD) (r : Row) : Pay nD τ sig := (((c : Thread nD τ), r.2.1), r.2.2.1, r.2.2.2)

theorem sum_pays (l : List Row) : (∑ d : Dev nD, tallyL (l.map (pays d))) = ∑ d : Dev nD, tallyL (l.map (mine d)) := by
  induction l with
  | nil => rfl
  | cons r l ih =>
    simp only [List.map_cons, tallyL, Finset.sum_add_distrib]
    rw [ih]
    exact congrArg (· + _) (Equiv.sum_comp (peerE r.1) fun d => (mine d r).tally)

theorem launch_cred (c : Dev nD) : (Pipeline.launchCred (fun d => dues d 0) c : sProp 𝕄) = bigSepL tbl fun r => cred (tallyAt ((c : Thread nD τ), r.2.1) r.2.2.1 r.2.2.2) := by
  rw [Pipeline.launchCred_of_sum (fun d => dues d 0) (fun d => tallyL (tbl.map (mine d))) (sum_pays tbl) (fun d g hg => by
      obtain ⟨i, hi⟩ := DFunLike.ne_iff.mp hg
      obtain ⟨x, hx, rfl, -⟩ := TalkSites.tallyL_pos (Nat.pos_of_ne_zero hi)
      obtain ⟨r, -, rfl⟩ := List.mem_map.mp hx
      rfl) c, TalkSites.cred_tallyL, bigSepL_map]
  rfl

theorem credits (c : Dev nD) : (Pipeline.launchCred (fun d => dues d 0) c : sProp 𝕄)
    ⊢ iprop(cred (tallyAt (barC c) 1 5) ∗ (bigSepL copyL fun x => cred (tallyAt (dC c x.2.1) x.2.2.2.1 x.2.2.2.2)) ∗ cred (tallyAt (finC c) 10 5)) := by
  rw [launch_cred]
  unfold tbl
  rw [bigSepL_append, bigSepL_append, bigSepL_map, bigSepL_map, bigSepL_map]
  iintro ⟨⟨H1, H2⟩, H3⟩
  isplitl [H1]; · iapply (five_units (barC c) 1); iexact H1
  isplitl [H2]; · iexact H2
  iapply (five_units (finC c) 10); iexact H3

/-! ## The tokens and the positions -/

theorem tokens (c : Dev nD) : (bigSep (fam.toks c 0) fun x => (dutyTok EM x.1 x.2.1 x.2.2 : sProp 𝕄))
    ⊢ iprop((bigSep Finset.univ fun e : Fin 5 => dutyTok EM (barC (peer e c)) 0 e)
      ∗ (bigSepL copyL fun x => dutyTok EM (dC (peer x.2.2.1 c) x.2.1) 0 x.2.2.1)
      ∗ (bigSep Finset.univ fun e : Fin 5 => dutyTok EM (finC (peer e c)) 0 e)
      ∗ bigSepL copyL fun x => dutyTok EM (dC c x.1) 0 x.2.2.1) := by
  rw [bigSep_eq_bigSepL_of_eq (tokL c) (show fam.toks c 0 = _ from rfl) (tokL_nodup c), sep_five, sep_five]
  unfold tokL tbl
  rw [bigSepL_append, bigSepL_map, bigSepL_map, bigSepL_append, bigSepL_append, bigSepL_map, bigSepL_map, bigSepL_map]
  iintro ⟨⟨⟨H1, H2⟩, H3⟩, H4⟩
  isplitl [H1]; · iexact H1
  isplitl [H2]; · iexact H2
  isplitl [H3]; · iexact H3
  iexact H4

theorem positions (c : Dev nD) : (bigSep dorm fun sm => (atPos EM ((c : Thread nD τ), sm) 0 ∅ 0 : sProp 𝕄))
    ⊢ iprop(atPos EM (finC c) 0 ∅ 0 ∗ (bigSepL copyL fun x => atPos EM (dC c x.1) 0 ∅ 0) ∗ bigSepL copyL fun x => atPos EM (dC c x.2.1) 0 ∅ 0) := by
  rw [sep_dorm]
  unfold dormL
  rw [bigSepL_cons', sepL_two]

theorem kits_intro (c : Dev nD) :
    iprop((bigSepL copyL fun x => cred (tallyAt (dC c x.2.1) x.2.2.2.1 x.2.2.2.2)) ∗ (bigSepL copyL fun x => atPos EM (dC c x.2.1) 0 ∅ 0)
      ∗ (bigSepL copyL fun x => atPos EM (dC c x.1) 0 ∅ 0) ∗ (bigSepL copyL fun x => dutyTok EM (dC c x.1) 0 x.2.2.1)
      ∗ bigSepL copyL fun x => dutyTok EM (dC (peer x.2.2.1 c) x.2.1) 0 x.2.2.1)
    ⊢ (bigSepL copyL (kit c) : sProp 𝕄) := by
  rw [← sepL_sep, ← sepL_sep, ← sepL_sep, ← sepL_sep]
  refine bigSepL_mono fun x _ => ?_
  unfold kit wt
  iintro ⟨H1, H2, H3, H4, H5⟩
  isplitl [H1 H2]; · isplitl [H2] <;> iassumption
  isplitl [H3]; · iexact H3
  isplitl [H4] <;> iassumption

/-! ## Opening -/

variable (A : Dev nD → Vec F S1024x1024 .f32)

/-- The peers of a device. -/
def nbs (c : Dev nD) : Finset (Dev nD) := Finset.univ.image fun e : Fin 5 => peer e c

/-- The exchange's part of what a device holds when the kernel is called. -/
def Tk (c : Dev nD) : sProp 𝕄 :=
  iprop(fam.barPos EM (Rd A) c 0 (nbs c) ∗ fam.rides EM (Rd A) c 0 ∗ Pipeline.launchCred (fun d => dues d 0) c)

/-- And when its own cells are open, the landing slots and what it owes apart. -/
def meet0 (κ : GSem nD τ sig → ℕ) (c : Dev nD) : sProp 𝕄 :=
  iprop(invs A κ ∗ levs ∗ allReached c ∗ (bigSep Finset.univ fun e : Fin 5 => reached EM (barC (peer e c)) 0) ∗ atPos EM (barC c) 0 ∅ 0
    ∗ cred (tallyAt (barC c) 1 5) ∗ (bigSep Finset.univ fun e : Fin 5 => dutyTok EM (barC (peer e c)) 0 e))
def Xk (c : Dev nD) : sProp 𝕄 := iprop(∃ κ, meet0 A κ c ∗ bigSepL copyL (kit c) ∗ leave c)

theorem open_cells (κ : GSem nD τ sig → ℕ) (c : Dev nD) :
    iprop(invs A κ ∗ (bigSep dorm fun sm => openTok EM ((c : Thread nD τ), sm)) ∗ bigSep dorm fun sm => semVal ((c : Thread nD τ), sm) 0)
      ⊢ |={Set.univ}=> iprop((bigSep dorm fun sm => atPos EM ((c : Thread nD τ), sm) 0 ∅ 0) ∗ allReached c) := by
  have h := Rounds.cells_open EM (Rd A) dorm (fun sm => ((c : Thread nD τ), sm)) (fun sm => κ ((c : Thread nD τ), sm)) (Es := Set.univ) fun _ _ => Set.mem_univ _
  rw [bigSep_sep' (Φ := fun sm => (atPos EM ((c : Thread nD τ), sm) 0 ∅ 0 : sProp 𝕄))] at h
  refine BIBase.Entails.trans ?_ h
  iintro ⟨#HI, Ho, Hs⟩
  isplitr [Hs]
  · iapply (bigSep_with_persistent (R := invs A κ) (Φ := fun sm => openTok EM ((c : Thread nD τ), sm)) fun sm hsm => ?_)
    · exact BI.sep_mono (invs_dorm A κ c hsm) (BI.Entails.refl _)
    isplitr; · iexact HI
    iexact Ho
  · iexact Hs

theorem hopen (c : Dev nD) : iprop(Tk A c ∗ (bigSep dorm fun sm => semVal ((c : Thread nD τ), sm) 0) ∗ levAts (L 11) lv) ⊢ (|={Set.univ}=> Xk A c : sProp 𝕄) := by
  unfold Tk TalkSites.Fam.barPos TalkSites.Fam.rides
  iintro ⟨⟨⟨-, Hb, #Hr⟩, ⟨⟨%κ, #HI⟩, Ho, Ht⟩, Hc⟩, Hs, #Hl⟩
  ihave Hc := (credits c) $$ Hc
  icases Hc with ⟨Hc1, Hc2, Hc3⟩
  ihave Ht := (tokens c) $$ Ht
  icases Ht with ⟨Ht1, Ht2, Ht3, Ht4⟩
  imod (open_cells A κ c) $$ [Ho Hs] with ⟨Hp, Hall⟩
  · isplitr; · iapply (Entails.of_eq (invs_eq A κ).symm); iexact HI
    isplitl [Ho]; · iexact Ho
    iexact Hs
  ihave Hp := (positions c) $$ Hp
  icases Hp with ⟨Hp1, Hp2, Hp3⟩
  imodintro
  unfold Xk
  iexists κ
  isplitl [Hall Hb Hc1 Ht1]
  · unfold meet0
    isplitr; · iapply (Entails.of_eq (invs_eq A κ).symm); iexact HI
    isplitr; · iapply (Entails.of_eq levs_eq.symm); iexact Hl
    isplitl [Hall]; · iexact Hall
    isplitr
    · iapply (bigSep_intro_persistent (R := bigSep (nbs c) fun n => reached EM (barC n) 0) fun e _ => ?_)
      · exact bigSep_elim (Finset.mem_image_of_mem _ (Finset.mem_univ e))
      iexact Hr
    isplitl [Hb]; · iexact Hb
    isplitl [Hc1] <;> iassumption
  isplitl [Hc2 Hp2 Hp3 Ht2 Ht4]
  · iapply (kits_intro c)
    isplitl [Hc2]; · iexact Hc2
    isplitl [Hp3]; · iexact Hp3
    isplitl [Hp2]; · iexact Hp2
    isplitl [Ht4] <;> iassumption
  unfold leave
  isplitl [Hp1]; · iexact Hp1
  isplitl [Hc3] <;> iassumption

/-! ## Closing -/

theorem close_cells (κ : GSem nD τ sig → ℕ) (c : Dev nD) :
    iprop(invs A κ ∗ bigSepL dormL (dn c)) ⊢ |={Set.univ}=> (bigSep dorm fun sm => semVal ((c : Thread nD τ), sm) 0 : sProp 𝕄) := by
  have h := Rounds.cells_close EM (Rd A) dorm (fun sm => ((c : Thread nD τ), sm)) (fun sm => κ ((c : Thread nD τ), sm)) (Es := Set.univ) (fun _ _ => Set.mem_univ _)
    (fun _ _ h => h) (fun _ => 1) fun sm _ r hr => duties_later A _ r hr
  refine BIBase.Entails.trans ?_ h
  rw [← sep_dorm]
  exact bigSep_with_persistent fun sm hsm => BI.sep_mono (invs_dorm A κ c hsm) (BI.Entails.refl _)

/-- A device's own semaphores. -/
def osem : Fin 49 → SemLoc sig := fun i => if i.val = 0 then .reg finS else .dma ⟨5 + i.val, by show _ < 54; omega⟩
theorem osem_facts : Pipeline.OwnSemFacts spec0 osem := by decide
theorem ownSems (c : Dev nD) : (Pipeline.ownSems0 osem c : sProp 𝕄) = bigSep dorm fun sm => semVal ((c : Thread nD τ), sm) 0 := by
  have h : dorm = Finset.univ.map ⟨osem, osem_facts.inj⟩ := by rw [dorm_eq]; decide +kernel
  rw [h, bigSep_map]; rfl

end Cert.KernelIdeal.Comm

end
-- ==== Proof.KernelIdeal.Region.lean ====
/-
  THE KERNEL CALL as one segment of the program: its proof data, its body's obligation, its record.
-/
module

public import proofs.«01_k».proof.Proof.KernelIdeal.Open
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok)
open Idealize.ShloMosaic.SiteBlocks (L lv)
open Idealize.ShloMosaic.TalkSites (tallyL Pay)

variable {F : FTy → Type} [FloatOps F]

local notation "𝕄" => MT nD τ sig ℕ (Elt F) ℕ UU ℕ

variable (m : (ℓ : Loc nD τ sig) → Buf (Elt F) ℓ)

/-- Device c's partial block: its own eight heads through its own columns and rows of the weights. -/
def part (c : Dev nD) : Vec F S1024x1024 .f32 :=
  share (V1 m c main_v5) (V1 m c main_arg1) (V1 m c main_v11) (V1 m c main_v17) (V1 m c main_arg4)

/-- What the kernel leaves in its result: the sum of the devices' partial blocks. -/
def outs : Outs (F := F) := fun _ r c => Function.update (V1 m c) main_v18 (outAll (part m)) r
theorem outs_eq (c : Dev nD) : outs m 2 main_v18 c = outAll (part m) := Function.update_self (f := V1 m c) _ _

/-- The kernel's scratch buffers and the generator register. -/
def scr (c : Dev nD) : sProp 𝕄 := iprop(Pipeline.scopedRest spec0 c ∗ ∃ r, prngReg c r)
def ΦB (c : Dev nD) : sProp 𝕄 := iprop(Xk (part m) c ∗ scr c)
def ΦE (c : Dev nD) : sProp 𝕄 :=
  iprop(fam.barPos EM (Rd (part m)) c 1 ∅ ∗ (bigSep dorm fun sm => semVal ((c : Thread nD τ), sm) 0) ∗ scr c)

def dat (c : Dev nD) : Pipeline.Dat τ (Elt F) ℕ ℕ UU ℕ cfg0 c where
  A w := V1 m c (Proc.devRef .tc (Pipeline.arrRef spec0 w))
  after w t := match w with
    | 0 => V1 m c main_v5
    | 1 => V1 m c main_arg1
    | 2 => V1 m c main_v11
    | 3 => V1 m c main_v17
    | 4 => V1 m c main_arg4
    | 5 => outAll (part m)
    | ⟨_ + 6, h⟩ => absurd h (Nat.not_lt.2 (Nat.le_add_left _ _))
  Φ t := if t.val = 0 then ΦB m c else ΦE m c
  q _ := fullShare
  owed t := if t.val = 0 then dues c 0 else 0

def pdats : (p : Fin 1) → (c : Dev nD) → Pipeline.Dat τ (Elt F) ℕ ℕ UU ℕ (Pipeline.pin (pcfgs (F := F)) adm p) c
  | 0 => dat m

theorem Φ_first (c : Dev nD) : (dat m c).Φ t0_0.castSucc = ΦB m c := rfl
theorem Φ_last (c : Dev nD) : (dat m c).Φ t0_0.succ = ΦE m c := rfl
theorem owed_first (c : Dev nD) : (dat m c).owed t0_0.castSucc = dues c 0 := rfl
theorem owed_last (c : Dev nD) : (dat m c).owed t0_0.succ = 0 := rfl

theorem own_intro (c : Dev nD) : (own c 34 : sProp 𝕄) ⊢ (dat m c).owesAt 0 t0_0.succ := by
  unfold own Pipeline.Dat.owesAt Pipeline.owesWithin Pipeline.Dat.bound
  rw [owed_last, dues_end]
  iintro ⟨%W, HO⟩
  iexists W
  isplitr; · ipureintro; exact fun _ _ => Or.inl trivial
  iexact HO
theorem own_elim (c : Dev nD) : (dat m c).owesAt 0 t0_0.castSucc ⊢ (own c 0 : sProp 𝕄) := by
  unfold own Pipeline.Dat.owesAt Pipeline.owesWithin
  rw [owed_first]
  iintro ⟨%W, -, HO⟩
  iexists W; iexact HO

/-! ## The windows -/

theorem idx0 : ∀ t : Fin cfg0.N, win0_0.index t = ![0, 0] ∧ win0_1.index t = ![0, 0] ∧ win0_2.index t = ![0, 0, 0] ∧ win0_3.index t = ![0, 0, 0]
    ∧ win0_4.index t = ![0, 0] ∧ win0_5.index t = ![0, 0] :=
  (by decide +kernel : ∀ t : Fin grid0.N, _)
theorem read_0 (c : Dev nD) (f : Buf (Elt F) ((c : Thread nD τ).loc main_v5)) : ((cfg0.win 0).blk t0_0).view.read (Elt F) f = f := by
  blk_ext! [idx0 t0_0]
theorem before_0 (c : Dev nD) (d) : (dat m c).before 0 t0_0 d = V1 m c main_v5 := by
  rw [Pipeline.Dat.before_fetched _ 0 t0_0 (fetch0_0 _)]
  exact read_0 c (V1 m c main_v5)
theorem read_1 (c : Dev nD) (f : Buf (Elt F) ((c : Thread nD τ).loc main_arg1)) : ((cfg0.win 1).blk t0_0).view.read (Elt F) f = f := by
  blk_ext! [idx0 t0_0]
theorem before_1 (c : Dev nD) (d) : (dat m c).before 1 t0_0 d = V1 m c main_arg1 := by
  rw [Pipeline.Dat.before_fetched _ 1 t0_0 (fetch0_1 _)]
  exact read_1 c (V1 m c main_arg1)
theorem read_2 (c : Dev nD) (f : Buf (Elt F) ((c : Thread nD τ).loc main_v11)) : ((cfg0.win 2).blk t0_0).view.read (Elt F) f = f := by
  blk_ext! [idx0 t0_0]
theorem before_2 (c : Dev nD) (d) : (dat m c).before 2 t0_0 d = V1 m c main_v11 := by
  rw [Pipeline.Dat.before_fetched _ 2 t0_0 (fetch0_2 _)]
  exact read_2 c (V1 m c main_v11)
theorem read_3 (c : Dev nD) (f : Buf (Elt F) ((c : Thread nD τ).loc main_v17)) : ((cfg0.win 3).blk t0_0).view.read (Elt F) f = f := by
  blk_ext! [idx0 t0_0]
theorem before_3 (c : Dev nD) (d) : (dat m c).before 3 t0_0 d = V1 m c main_v17 := by
  rw [Pipeline.Dat.before_fetched _ 3 t0_0 (fetch0_3 _)]
  exact read_3 c (V1 m c main_v17)
theorem read_4 (c : Dev nD) (f : Buf (Elt F) ((c : Thread nD τ).loc main_arg4)) : ((cfg0.win 4).blk t0_0).view.read (Elt F) f = f := by
  blk_ext! [idx0 t0_0]
theorem before_4 (c : Dev nD) (d) : (dat m c).before 4 t0_0 d = V1 m c main_arg4 := by
  rw [Pipeline.Dat.before_fetched _ 4 t0_0 (fetch0_4 _)]
  exact read_4 c (V1 m c main_arg4)
theorem final (c : Dev nD) : (dat m c).arrAt 5 cfg0.N = outAll (part m) := by
  refine (dat m c).arrAt_eq_of_after_last 5 t0_0 (by decide +kernel) _ fun j => ?_
  generalize hX : outAll (part m) = X
  have h : (dat m c).after 5 t0_0 = X := hX
  rw [h]
  rfl

/-! ## The scratch buffers -/

/-- The scratch buffers as the body takes them: the context block, and the landing slots peer by peer. -/
def slots (c : Dev nD) : sProp 𝕄 :=
  iprop((∃ Y, blk (Memref.whole cc0_scratch0) c Y) ∗ (barOf 0 c ∗ barOf 1 c ∗ barOf 2 c ∗ barOf 3 c ∗ barOf 4 c))

theorem slots_a (c : Dev nD) (f : Buf (Elt F) ((c : Thread nD τ).loc cc0_scratch1)) :
    (((c : Thread nD τ).loc cc0_scratch1) ↦{fullShare} f : sProp 𝕄) ⊢ iprop(barA 0 c ∗ barA 1 c) := by
  refine (a_split c f).trans ?_
  rw [sep_a]
  unfold barA
  iintro ⟨A0, A1, A2, A3, A4, A5⟩
  isplitl [A0 A1 A2]
  · isplitl [A0]; · iexact A0
    isplitl [A1] <;> iassumption
  · isplitl [A3]; · iexact A3
    isplitl [A4] <;> iassumption
theorem slots_b (c : Dev nD) (f : Buf (Elt F) ((c : Thread nD τ).loc cc0_scratch2)) :
    (((c : Thread nD τ).loc cc0_scratch2) ↦{fullShare} f : sProp 𝕄) ⊢ iprop(barB 0 c ∗ barB 1 c ∗ barB 2 c) := by
  refine (b_split c f).trans ?_
  rw [sep_b]
  unfold barB
  iintro ⟨B0, B1, B2, B3, B4, B5⟩
  isplitl [B0 B1]; · isplitl [B0] <;> iassumption
  isplitl [B2 B3]; · isplitl [B2] <;> iassumption
  isplitl [B4] <;> iassumption

theorem slots_intro (c : Dev nD) : (Pipeline.scopedRest spec0 c : sProp 𝕄) ⊢ slots c := by
  rw [scopedRest0_eq]
  unfold slots
  iintro ⟨⟨%f, H0⟩, ⟨%g, H1⟩, ⟨%h, H2⟩⟩
  ihave H1 := (slots_a c g) $$ H1
  ihave H2 := (slots_b c h) $$ H2
  icases H1 with ⟨A0, A1⟩
  icases H2 with ⟨B0, B1, B2⟩
  isplitl [H0]
  · iexists f
    iapply (Entails.of_eq (owns_whole_eq (c : Thread nD τ) cc0_scratch0 fullShare f).symm)
    iexists f
    isplitr; · ipureintro; rfl
    iexact H0
  isplitl [A0]; · iapply (Entails.of_eq (show (barA 0 c : sProp 𝕄) = barOf 0 c from rfl)); iexact A0
  isplitl [A1]; · iapply (Entails.of_eq (show (barA 1 c : sProp 𝕄) = barOf 1 c from rfl)); iexact A1
  isplitl [B0]; · iapply (Entails.of_eq (show (barB 0 c : sProp 𝕄) = barOf 2 c from rfl)); iexact B0
  isplitl [B1]; · iapply (Entails.of_eq (show (barB 1 c : sProp 𝕄) = barOf 3 c from rfl)); iexact B1
  iapply (Entails.of_eq (show (barB 2 c : sProp 𝕄) = barOf 4 c from rfl)); iexact B2

theorem slots_elim (c : Dev nD) : (slots c : sProp 𝕄) ⊢ Pipeline.scopedRest spec0 c := by
  rw [scopedRest0_eq]
  unfold slots
  rw [show (barOf 0 c : sProp 𝕄) = barA 0 c from rfl, show (barOf 1 c : sProp 𝕄) = barA 1 c from rfl, show (barOf 2 c : sProp 𝕄) = barB 0 c from rfl,
    show (barOf 3 c : sProp 𝕄) = barB 1 c from rfl, show (barOf 4 c : sProp 𝕄) = barB 2 c from rfl]
  unfold barA barB
  iintro ⟨⟨%Y, H0⟩, ⟨A0, A1, A2⟩, ⟨A3, A4, A5⟩, ⟨B0, B1⟩, ⟨B2, B3⟩, ⟨B4, B5⟩⟩
  ihave H0 := (Entails.of_eq (owns_whole_eq (c : Thread nD τ) cc0_scratch0 fullShare Y)) $$ H0
  icases H0 with ⟨%f, -, H0⟩
  isplitl [H0]; · iexists f; iexact H0
  isplitl [A0 A1 A2 A3 A4 A5]
  · iapply (a_join c)
    rw [sep_a]
    isplitl [A0]; · iexact A0
    isplitl [A1]; · iexact A1
    isplitl [A2]; · iexact A2
    isplitl [A3]; · iexact A3
    isplitl [A4] <;> iassumption
  · iapply (b_join c)
    rw [sep_b]
    isplitl [B0]; · iexact B0
    isplitl [B1]; · iexact B1
    isplitl [B2]; · iexact B2
    isplitl [B3]; · iexact B3
    isplitl [B4] <;> iassumption

theorem out_free (c : Dev nD) (X) : (blk (Memref.whole cc0_stg5_0) c X : sProp 𝕄) ⊢ free outM c := by
  rw [show (blk (Memref.whole cc0_stg5_0) c X : sProp 𝕄) = _ from owns_whole_eq (c : Thread nD τ) cc0_stg5_0 fullShare X]
  unfold free
  iintro ⟨%f, -, H⟩
  iexists f
  iapply (Entails.of_eq (outM_pts c f).symm); iexact H
theorem out_blk (c : Dev nD) (X : Vec F S1024x1024 .f32) : (pts outM c X : sProp 𝕄) ⊢ blk (Memref.whole cc0_stg5_0) c X := by
  rw [show (blk (Memref.whole cc0_stg5_0) c X : sProp 𝕄) = _ from owns_whole_eq (c : Thread nD τ) cc0_stg5_0 fullShare X, outM_pts]
  iintro H
  iexists X
  isplitr; · ipureintro; rfl
  iexact H

/-! ## The obligation -/

/-- The body from what the call hands it to what the call takes back. -/
theorem body_all (c : Dev nD) (κ : GSem nD τ sig → ℕ) (Y X : Vec F S1024x1024 .f32) {Q : PUnit.{1} → sProp 𝕄} :
    iprop(meet0 (part m) κ c ∗ (bigSepL copyL (kit c) ∗ leave c) ∗ slots c ∗ own c 0 ∗ blk (Memref.whole cc0_stg5_0) c X ∗ ins (Memref.whole cc0_stg0_0) (Memref.whole cc0_stg1_0) (Memref.whole cc0_stg2_0) (Memref.whole cc0_stg3_0) (Memref.whole cc0_stg4_0) (V1 m c main_v5) (V1 m c main_arg1) (V1 m c main_v11) (V1 m c main_v17) (V1 m c main_arg4) c)
      ⊢ iprop((fam.barPos EM (Rd (part m)) c 1 ∅ ∗ (bigSep dorm fun sm => semVal ((c : Thread nD τ), sm) 0) ∗ slots c ∗ own c 34
          ∗ blk (Memref.whole cc0_stg5_0) c (outAll (part m)) ∗ ins (Memref.whole cc0_stg0_0) (Memref.whole cc0_stg1_0) (Memref.whole cc0_stg2_0) (Memref.whole cc0_stg3_0) (Memref.whole cc0_stg4_0) (V1 m c main_v5) (V1 m c main_arg1) (V1 m c main_v11) (V1 m c main_v17) (V1 m c main_arg4) c -∗ Q ⟨⟩)
        -∗ wp frame (wpE (defs₀ (F := F)) 𝒱₀ c none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) (Memref.whole cc0_scratch0) (Memref.isWhole_whole _) aM (Memref.isWhole_whole _) bM (Memref.isWhole_whole _) cc0_scratch3 cc0_scratch4 cc0_scratch5 cc0_scratch6 cc0_scratch7 cc0_scratch8 cc0_scratch9 cc0_scratch10 cc0_scoped0) Q) := by
  unfold meet0 slots
  iintro ⟨⟨#HI, #Hl, #Hall, #Hr, Hb, Hc, Ht⟩, ⟨Hk, Hlv⟩, ⟨⟨%Z, HC⟩, HB⟩, HO, HX, Hi⟩ HQ
  ihave HX := (out_free c X) $$ HX
  iapply wp_fupd
  iapply (body_run (part m) κ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (V1 m c main_v5) (V1 m c main_arg1) (V1 m c main_v11) (V1 m c main_v17) (V1 m c main_arg4) Z rfl) $$ [Hb Hc Ht Hk Hlv HC HB HO HX Hi]
  · unfold start meet
    isplitl [Hb Hc Ht HB HO]
    · isplitr; · iexact HI
      isplitr; · iexact Hl
      isplitr; · iexact Hall
      isplitr; · iexact Hr
      isplitl [Hb]; · iexact Hb
      isplitl [Hc]; · iexact Hc
      isplitl [Ht]; · iexact Ht
      isplitl [HB] <;> iassumption
    isplitl [Hk]; · iexact Hk
    isplitl [Hlv]; · iexact Hlv
    isplitl [HX]; · iexact HX
    isplitl [HC] <;> iassumption
  unfold stop
  iintro ⟨⟨HO, Hb, Hd⟩, HX, HC, B0, B1, B2, B3, B4, Hi⟩
  imod (close_cells (part m) κ c) $$ [Hd] with Hs
  · isplitr; · iexact HI
    iexact Hd
  imodintro
  iapply HQ
  isplitl [Hb]
  · unfold TalkSites.Fam.barPos
    isplitr; · iexists κ; iapply (Entails.of_eq (invs_eq (part m) κ)); iexact HI
    isplitl [Hb]; · iapply (Entails.of_eq (show (dn c (.reg barrier0) : sProp 𝕄) = atPos EM ((c : Thread nD τ), fam.bar) 1 ∅ 0 from rfl)); iexact Hb
    rw [BI.bigSep_empty]; iempintro
  isplitl [Hs]; · iexact Hs
  isplitl [HC B0 B1 B2 B3 B4]
  · isplitl [HC]; · iexact HC
    isplitl [B0]; · iexact B0
    isplitl [B1]; · iexact B1
    isplitl [B2]; · iexact B2
    isplitl [B3] <;> iassumption
  isplitl [HO]; · iexact HO
  isplitl [HX]; · iapply (out_blk c (outAll (part m))); iexact HX
  iexact Hi

theorem win_0 (c : Dev nD) : iprop(∃ d, owns (c : Thread nD τ) ((cfg0.win 0).stage (cfg0.slots t0_0 0)) fullShare ((dat m c).before 0 t0_0 d)) ⊢ blk (Memref.whole cc0_stg0_0) c (V1 m c main_v5) := by
  iintro ⟨%d, H⟩
  rw [before_0 m c d]
  iexact H
theorem win_1 (c : Dev nD) : iprop(∃ d, owns (c : Thread nD τ) ((cfg0.win 1).stage (cfg0.slots t0_0 1)) fullShare ((dat m c).before 1 t0_0 d)) ⊢ blk (Memref.whole cc0_stg1_0) c (V1 m c main_arg1) := by
  iintro ⟨%d, H⟩
  rw [before_1 m c d]
  iexact H
theorem win_2 (c : Dev nD) : iprop(∃ d, owns (c : Thread nD τ) ((cfg0.win 2).stage (cfg0.slots t0_0 2)) fullShare ((dat m c).before 2 t0_0 d)) ⊢ blk (Memref.whole cc0_stg2_0) c (V1 m c main_v11) := by
  iintro ⟨%d, H⟩
  rw [before_2 m c d]
  iexact H
theorem win_3 (c : Dev nD) : iprop(∃ d, owns (c : Thread nD τ) ((cfg0.win 3).stage (cfg0.slots t0_0 3)) fullShare ((dat m c).before 3 t0_0 d)) ⊢ blk (Memref.whole cc0_stg3_0) c (V1 m c main_v17) := by
  iintro ⟨%d, H⟩
  rw [before_3 m c d]
  iexact H
theorem win_4 (c : Dev nD) : iprop(∃ d, owns (c : Thread nD τ) ((cfg0.win 4).stage (cfg0.slots t0_0 4)) fullShare ((dat m c).before 4 t0_0 d)) ⊢ blk (Memref.whole cc0_stg4_0) c (V1 m c main_arg4) := by
  iintro ⟨%d, H⟩
  rw [before_4 m c d]
  iexact H
theorem win_5 (c : Dev nD) : iprop(∃ d, owns (c : Thread nD τ) ((cfg0.win 5).stage (cfg0.slots t0_0 5)) fullShare ((dat m c).before 5 t0_0 d)) ⊢ iprop(∃ X, blk (Memref.whole cc0_stg5_0) c X) := by
  iintro ⟨%d, H⟩
  iexists _; iexact H

theorem body_at : (defs₀ (F := F) .tc cfg0.body (cfg0.bodyArgs t0_0 (cfg0.slots t0_0)) : Prog (TpuEff nD τ sig (Elt F) Λ₀ .tc) PUnit)
    = cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) (Memref.whole cc0_scratch0) (Memref.isWhole_whole _) aM (Memref.isWhole_whole _) bM (Memref.isWhole_whole _) cc0_scratch3 cc0_scratch4 cc0_scratch5 cc0_scratch6 cc0_scratch7 cc0_scratch8 cc0_scratch9 cc0_scratch10 cc0_scoped0 := rfl

theorem body_obl (c : Dev nD) : Pipeline.BodyObligation (dat m c) defs₀ 𝒱₀ 0 Set.univ := fun t => by
  obtain rfl := fin_N0 t
  rw [bigSep_W0, bigSep_W0, Φ_first, Φ_last, body_at]
  unfold ΦB ΦE Xk scr
  iintro ⟨⟨⟨%κ, Hm, Hk, Hl⟩, Hs, Hp⟩, HO, H0, H1, H2, H3, H4, H5⟩
  ihave H0 := (win_0 m c) $$ H0
  ihave H1 := (win_1 m c) $$ H1
  ihave H2 := (win_2 m c) $$ H2
  ihave H3 := (win_3 m c) $$ H3
  ihave H4 := (win_4 m c) $$ H4
  ihave H5 := (win_5 m c) $$ H5
  icases H5 with ⟨%X, H5⟩
  ihave HO := (own_elim m c) $$ HO
  ihave Hs := (slots_intro c) $$ Hs
  iapply (body_all m c κ X X) $$ [Hm Hk Hl Hs HO H0 H1 H2 H3 H4 H5]
  · isplitl [Hm]; · iexact Hm
    isplitl [Hk Hl]; · isplitl [Hk] <;> iassumption
    isplitl [Hs]; · iexact Hs
    isplitl [HO]; · iexact HO
    isplitl [H5]; · iexact H5
    unfold ins
    isplitl [H0]; · iexact H0
    isplitl [H1]; · iexact H1
    isplitl [H2]; · iexact H2
    isplitl [H3] <;> iassumption
  unfold ins
  iintro ⟨Hb, Hd, Hs, HO, H5, H0, H1, H2, H3, H4⟩
  isplitl [Hb Hd Hs Hp]
  · isplitl [Hb]; · iexact Hb
    isplitl [Hd]; · iexact Hd
    isplitl [Hs]; · iapply (slots_elim c); iexact Hs
    iexact Hp
  isplitl [HO]; · iapply (own_intro m c); iexact HO
  isplitl [H0]; · iexact H0
  isplitl [H1]; · iexact H1
  isplitl [H2]; · iexact H2
  isplitl [H3]; · iexact H3
  isplitl [H4]; · iexact H4
  iexact H5

/-! ## The record -/

/-- The buffers the call does not touch. -/
def offs : Finset (DevRef τ sig) := Pipeline.ucRefs τ sig \ Pipeline.arrRefs (τ := τ) spec0

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin (grid0.N + 1)) (g : GSem nD τ sig) (i : ℕ) (h : 0 < (dat m c).owed t g i) : i ∈ L 11 g ∧ (0 : ℕ) < lv g i := by
  have e : (dat m c).owed t = if t.val = 0 then dues c 0 else 0 := rfl
  rw [e] at h
  split at h
  · obtain ⟨x, hx, rfl, rfl⟩ := TalkSites.tallyL_pos h
    obtain ⟨r, hr, rfl⟩ := List.mem_map.mp hx
    have ha : Above 0 0 := by decide +kernel
    exact ⟨SiteBlocks.mem_L' rfl (ha r hr).2, (ha r hr).1⟩
  · exact absurd h (Nat.lt_irrefl 0)

theorem held_none (c : Dev nD) (W : Valuation τ sig (Elt F)) : (StableHlo.held (c : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c : Thread nD τ) ∅ (V1 m c) ∗ Xk (part m) c)
    ⊢ (pdats m 0 c).Φ 0 := by
  rw [show (pdats m 0 c).Φ 0 = ΦB m c from rfl, held_none]
  unfold ΦB scr
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) ∅ (V2 m (outs m) c)
      ∗ Pipeline.ownSems0 osem c ∗ fam.barPos EM (Rd (part m)) c 1 ∅) := by
  rw [show (pdats m 0 c).Φ (Fin.last (Pipeline.pin (pcfgs (F := F)) adm 0).N) = ΦE m c from rfl, held_none, ownSems]
  unfold ΦE scr
  iintro ⟨Hb, Hd, Hs, Hp⟩
  isplitl [Hs]; · iexact Hs
  isplitl [Hp]; · iexact Hp
  isplitr; · iempintro
  isplitl [Hd]; · iexact Hd
  iexact Hb

theorem arr_first (c : Dev nD) : ∀ w, (pdats m 0 c).arrAt w 0 = V1 m c (Proc.devRef .tc (Pipeline.arrRef (Pipeline.pin (pcfgs (F := F)) adm 0).spec w)) := fun _ => rfl
theorem arr_last (c : Dev nD) : ∀ w : Fin 6, (dat m c).arrAt w cfg0.N = V2 m (outs m) c (Proc.devRef .tc (Pipeline.arrRef spec0 w)) := fun
  | 0 => ((dat m c).arrAt_in 0 rfl _).trans (V2_of m (outs m) c main_v5 (by decide)).symm
  | 1 => ((dat m c).arrAt_in 1 rfl _).trans (V2_of m (outs m) c main_arg1 (by decide)).symm
  | 2 => ((dat m c).arrAt_in 2 rfl _).trans (V2_of m (outs m) c main_v11 (by decide)).symm
  | 3 => ((dat m c).arrAt_in 3 rfl _).trans (V2_of m (outs m) c main_v17 (by decide)).symm
  | 4 => ((dat m c).arrAt_in 4 rfl _).trans (V2_of m (outs m) c main_arg4 (by decide)).symm
  | 5 => (final m c).trans (by
      have h : V2 m (outs m) c (Proc.devRef .tc main_v18) = outs m 2 main_v18 c := Function.update_self _ _ _
      exact (h.trans (outs_eq m c)).symm)
  | ⟨_ + 6, h⟩ => absurd h (Nat.not_lt.2 (Nat.le_add_left _ _))

theorem off_same (c : Dev nD) : ∀ b ∈ offs \ ∅, V2 m (outs m) c b = V1 m c b := fun b hb => by
  refine Function.update_of_ne (fun e => ?_) _ _
  subst e
  exact absurd hb (by unfold offs; decide)

set_option backward.isDefEq.respectTransparency.types false in
def reg : Pipeline.RegionSeg (pcfgs (F := F)) adm (pdats m) 0 defs₀ 𝒱₀ (L 11) lv 0 :=
  Pipeline.RegionSeg.ofTalk (pcfgs (F := F)) adm (pdats m) 0 defs₀ 𝒱₀ (L 11) lv 0 osem osem_facts
    ∅ offs (Finset.empty_subset _) kitP rfl (fun c => (body_obl m c).loose)
    (fun _ => 0) (fun d => dues d 0) (fun c => (zero_add (dues c 0)).symm) (fun _ => rfl) (fun _ => rfl) (fun _ w => by fin_cases w <;> rfl)
    (V1 m) (V2 m (outs m)) (off_same m)
    (Tk (part m)) (fun c => fam.barPos EM (Rd (part m)) c 1 ∅) (Xk (part m)) (fun c => fam.barPos EM (Rd (part m)) c 1 ∅)
    (fun c => by rw [ownSems]; exact hopen (part m) c) (hin m) (hout m)
    (fun c => by iintro H; imodintro; iexact H)
    (fun _ => 0)
    ⟨fun _ _ _ => SiteBlocks.mem_L' rfl (by decide), fun _ _ _ => Nat.le_refl 0, fun c t g i h => cut m c t g i h⟩
    (fun _ => iprop(emp))
    (arr_first m) (arr_last m)

end Cert.KernelIdeal.Comm

end
-- ==== Proof.KernelIdeal.Run.lean ====
/-
  THE RUN of the whole program: launch, the host's stretches around the kernel call, and what the final memory holds.
-/
module

public import proofs.«01_k».proof.Proof.KernelIdeal.Region
public import Idealize.ShloMosaic.Lib.StableHlo.Run
public import Idealize.ShloMosaic.Lib.Quiescent

@[expose] public section

set_option maxRecDepth 16384

noncomputable section

namespace Cert.KernelIdeal.Comm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Rounds (URounds Schedule cellInv atPos reached dutyTok openTok launchOf initOf)
open Idealize.ShloMosaic.SiteBlocks (L lv onDev bigSep_onDev)
open Idealize.ShloMosaic.Pipeline (Dat Seg HostSeg RegionSeg)

variable {F : FTy → Type} [FloatOps F]

local notation "𝕄" => MT nD τ sig ℕ (Elt F) ℕ UU ℕ

variable (m : (ℓ : Loc nD τ sig) → Buf (Elt F) ℓ)

/-- The program's result on every device: the kernel's, with a leading axis of one. -/
def sumOut : Vec F S1x1024x1024 .f32 :=
  broadcastInDim S1x1024x1024 ![1, 2] bcast_S1024x1024_S1x1024x1024_1_2 (outAll (part m))

theorem V3_result (c : Dev nD) : V3 m (outs m) c main_v19 = sumOut m := by
  show StableHlo.after hostOps1 (V2 m (outs m) c) (Proc.devRef .tc main_v19) = _
  rw [StableHlo.after_cons, StableHlo.after_nil, StableHlo.unary_result]
  have h : V2 m (outs m) c (Proc.devRef .tc main_v18) = outAll (part m) :=
    (Function.update_self (f := V1 m c) _ _).trans (outs_eq m c)
  rw [h]; rfl

/-- What rides beside the buffers up to the kernel, and after it. -/
def E : Fin 2 → Dev nD → sProp 𝕄
  | 0, c => iprop((∃ r, prngReg c r) ∗ Tk (part m) c ∗ ∃ W, owes (c : Thread nD τ) (dues c 0) W)
  | 1, c => iprop(fam.barPos EM (Rd (part m)) c 1 ∅ ∗ ∃ W, owes (c : Thread nD τ) (0 : CellTallies nD τ sig ℕ) W)

theorem arr_sub : Pipeline.arrRefs (τ := τ) spec0 ⊆ Pipeline.ucRefs τ sig := by decide

theorem hpre (c : Dev nD) : iprop(StableHlo.held (c : Thread nD τ) (Pipeline.ucRefs τ sig) (V1 m c) ∗ E m 0 c) ⊢ (reg m).pre c := by
  show iprop(StableHlo.held (c : Thread nD τ) (Pipeline.ucRefs τ sig) (V1 m c)
      ∗ ((∃ r, prngReg c r) ∗ Tk (part m) c ∗ ∃ W, owes (c : Thread nD τ) (dues c 0) W))
    ⊢ iprop(StableHlo.held (c : Thread nD τ) (Pipeline.arrRefs (τ := τ) spec0) (V1 m c) ∗ (∃ r, prngReg c r)
      ∗ (StableHlo.held (c : Thread nD τ) offs (V1 m c) ∗ emp) ∗ Tk (part m) c ∗ ∃ W, owes (c : Thread nD τ) (0 + dues c 0) W)
  rw [StableHlo.held_sub_split (c : Thread nD τ) arr_sub (V1 m c), zero_add]
  iintro ⟨⟨Ha, Ho⟩, Hp, HT, HO⟩
  isplitl [Ha]; · iexact Ha
  isplitl [Hp]; · iexact Hp
  isplitl [Ho]
  · isplitl [Ho]; · unfold offs; iexact Ho
    iempintro
  isplitl [HT]; · iexact HT
  iexact HO

theorem hpost (c : Dev nD) : (reg m).post c ⊢ iprop(StableHlo.held (c : Thread nD τ) (Pipeline.ucRefs τ sig) (V2 m (outs m) c) ∗ E m 1 c) := by
  show iprop(StableHlo.held (c : Thread nD τ) (Pipeline.arrRefs (τ := τ) spec0) (V2 m (outs m) c) ∗ (∃ r, prngReg c r)
      ∗ (StableHlo.held (c : Thread nD τ) offs (V2 m (outs m) c) ∗ emp) ∗ fam.barPos EM (Rd (part m)) c 1 ∅ ∗ ∃ W, owes (c : Thread nD τ) (0 : CellTallies nD τ sig ℕ) W)
    ⊢ iprop(StableHlo.held (c : Thread nD τ) (Pipeline.ucRefs τ sig) (V2 m (outs m) c)
      ∗ (fam.barPos EM (Rd (part m)) c 1 ∅ ∗ ∃ W, owes (c : Thread nD τ) (0 : CellTallies nD τ sig ℕ) W))
  rw [StableHlo.held_sub_split (c : Thread nD τ) arr_sub (V2 m (outs m) c)]
  iintro ⟨Ha, -, ⟨Ho, -⟩, HB, HO⟩
  isplitl [Ha Ho]
  · isplitl [Ha]; · iexact Ha
    unfold offs; iexact Ho
  isplitl [HB]; · iexact HB
  iexact HO

/-! ## The launch -/

theorem unpair {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
theorem pair {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

def launchElt : URounds (GSem nD τ sig) (Fin 5) := launchOf fam.S fam.Sd fam.T
def u₀ : UU := (initOf (Pipeline.cells cfgs cellOf_inj) (Pipeline.launchToks cfgs cellOf_inj), launchElt)
def G : Dev nD → sProp 𝕄 := onDev 0 (BI.own (EM launchElt))

theorem hu₀ : (ownU u₀ : sProp 𝕄)
    ⊢ |={Set.univ}=> iprop(BI.own (EP (initOf (Pipeline.cells cfgs cellOf_inj) (Pipeline.launchToks cfgs cellOf_inj))) ∗ bigSep Finset.univ G) := by
  unfold u₀ G
  iintro Hu
  ihave H := (ownU_pair _ _) $$ Hu
  icases H with ⟨HP, HX⟩
  imodintro
  isplitl [HP]; · iexact HP
  rw [bigSep_onDev]; iexact HX

theorem one_sem : ∀ sm : SemLoc sig, sm.isScoped .tc = false → sm = .reg barrier0 := by decide
theorem the_sem (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

theorem fund : iprop((bigSep Finset.univ fun c : Dev nD => iprop(semVal (barC c) 0 ∗ Pipeline.launchCred (fun d => dues d 0) c)) ∗ BI.own (EM launchElt))
    ⊢ (|={Set.univ}=> bigSep Finset.univ fun c : Dev nD => iprop(Pipeline.launchCred (fun d => dues d 0) c ∗ fam.launched EM (Rd (part m)) nbs c) : sProp 𝕄) := by
  have h := TalkSites.pass (fun d => dues d 0) (fam.funds (Es := Set.univ) EM (Rd (part m)) (fun _ _ h => h) nbs)
  simp only [zero_add] at h
  exact h

theorem tk_intro (c : Dev nD) : iprop(Pipeline.launchCred (fun d => dues d 0) c ∗ fam.launched EM (Rd (part m)) nbs c) ⊢ (Tk (part m) c : sProp 𝕄) := by
  unfold Tk TalkSites.Fam.launched
  rw [show (bigSep Finset.univ fun j : Fin 1 => fam.rides EM (Rd (part m)) c j : sProp 𝕄) = fam.rides EM (Rd (part m)) c 0 from BI.bigSep_singleton]
  iintro ⟨Hk, Hb, Hr⟩
  isplitl [Hb]; · iexact Hb
  isplitl [Hr] <;> iassumption

theorem regroup (ρ : Dev nD → PrngReg) (c : Dev nD) :
    iprop(unscopedSems0 c ∗ owes (c : Thread nD τ) (dues c 0) ∅ ∗ Pipeline.launchCred (fun d => dues d 0) c ∗ prngReg c (ρ c) ∗ G c)
      ⊢ (iprop((semVal (barC c) 0 ∗ Pipeline.launchCred (fun d => dues d 0) c) ∗ G c ∗ (owes (c : Thread nD τ) (dues c 0) ∅ ∗ prngReg c (ρ c))) : sProp 𝕄) := by
  rw [the_sem]
  iintro ⟨Hs, HO, Hk, Hp, HG⟩
  isplitl [Hs Hk]; · isplitl [Hs] <;> iassumption
  isplitl [HG]; · iexact HG
  isplitl [HO] <;> iassumption

theorem rest_intro (ρ : Dev nD → PrngReg) (c : Dev nD) :
    iprop((Pipeline.launchCred (fun d => dues d 0) c ∗ fam.launched EM (Rd (part m)) nbs c) ∗ (owes (c : Thread nD τ) (dues c 0) ∅ ∗ prngReg c (ρ c)))
      ⊢ (E m 0 c : sProp 𝕄) := by
  show _ ⊢ iprop((∃ r, prngReg c r) ∗ Tk (part m) c ∗ ∃ W, owes (c : Thread nD τ) (dues c 0) W)
  iintro ⟨HT, HO, Hp⟩
  isplitl [Hp]; · iexists (ρ c); iexact Hp
  isplitl [HT]; · iapply (tk_intro m c); iexact HT
  iexists ∅; iexact HO

theorem launch (ρ : Dev nD → PrngReg) :
    (bigSep Finset.univ fun c : Dev nD => iprop(unscopedSems0 c ∗ owes (c : Thread nD τ) (dues c 0) ∅ ∗ Pipeline.launchCred (fun d => dues d 0) c ∗ prngReg c (ρ c) ∗ G c))
      ⊢ (|={Set.univ}=> bigSep Finset.univ (E m 0) : sProp 𝕄) := by
  have h1 : (bigSep Finset.univ fun c : Dev nD => iprop(unscopedSems0 c ∗ owes (c : Thread nD τ) (dues c 0) ∅ ∗ Pipeline.launchCred (fun d => dues d 0) c ∗ prngReg c (ρ c) ∗ G c))
      ⊢ (bigSep Finset.univ fun c : Dev nD => iprop((semVal (barC c) 0 ∗ Pipeline.launchCred (fun d => dues d 0) c) ∗ G c ∗ (owes (c : Thread nD τ) (dues c 0) ∅ ∗ prngReg c (ρ c))) : sProp 𝕄) :=
    bigSep_mono fun c _ => regroup ρ c
  have h2 : (bigSep Finset.univ fun c : Dev nD => iprop((Pipeline.launchCred (fun d => dues d 0) c ∗ fam.launched EM (Rd (part m)) nbs c) ∗ (owes (c : Thread nD τ) (dues c 0) ∅ ∗ prngReg c (ρ c))))
      ⊢ (bigSep Finset.univ (E m 0) : sProp 𝕄) := bigSep_mono fun c _ => rest_intro m ρ c
  iintro H
  ihave H' := h1 $$ H
  ihave H2 := unpair $$ H'; icases H2 with ⟨HA, H3⟩
  ihave H4 := unpair $$ H3; icases H4 with ⟨HG, HR⟩
  ihave Hu := (show bigSep Finset.univ (G (F := F)) ⊢ BI.own (EM launchElt) from
    Entails.of_eq (bigSep_onDev 0 (BI.own (EM launchElt)))) $$ HG
  imod (fund m) $$ [HA Hu] with HL
  · isplitl [HA]; · iexact HA
    iexact Hu
  imodintro
  iapply h2
  iapply pair
  isplitl [HL]; · iexact HL
  iexact HR

theorem launch_split (ρ : Dev nD → PrngReg) : (bigSep Finset.univ fun c : Dev nD => iprop(unscopedBufs c (fun b => m ((c.tc : Thread nD τ).loc b)) ∗ unscopedSems0 c
      ∗ owes (c : Thread nD τ) (dues c 0) ∅ ∗ Pipeline.launchCred (fun d => dues d 0) c ∗ prngReg c (ρ c) ∗ G c))
    ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (dues c 0) ∅ ∗ Pipeline.launchCred (fun d => dues d 0) c ∗ prngReg c (ρ c) ∗ G c))
        : sProp 𝕄) := by
  rw [← bigSep_sep']
  exact bigSep_mono fun c _ => by rw [← Pipeline.unscopedBufs_held (Ix := ℕ) (Name := ℕ) (U := UU) (Lvl := ℕ) c (V0 m c)]; exact BI.Entails.refl _

theorem launch_all (ρ : Dev nD → PrngReg) : iprop((bigSep Finset.univ fun c : Dev nD => iprop(unscopedBufs c (fun b => m ((c.tc : Thread nD τ).loc b)) ∗ unscopedSems0 c
      ∗ owes (c : Thread nD τ) (dues c 0) ∅ ∗ Pipeline.launchCred (fun d => dues d 0) c ∗ prngReg c (ρ c) ∗ G c)) ∗ levAts (L 11) lv)
    ⊢ (|={Set.univ}=> bigSep Finset.univ fun c : Dev nD => iprop(StableHlo.held (c : Thread nD τ) (Pipeline.ucRefs τ sig) (V0 m c) ∗ E m 0 c) : sProp 𝕄) := by
  iintro ⟨H, -⟩
  ihave H' := (launch_split m ρ) $$ H
  icases H' with ⟨Hh, Hr⟩
  imod (launch m ρ) $$ Hr with HE
  imodintro
  rw [bigSep_sep']
  isplitl [Hh]; · iexact Hh
  iexact HE

/-! ## The end -/

def Tn (c : Dev nD) : sProp 𝕄 := iprop(StableHlo.held (c : Thread nD τ) (Pipeline.ucRefs τ sig) (V3 m (outs m) c) ∗ fam.barPos EM (Rd (part m)) c 1 ∅)

/-- What device c's final memory holds. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v19) = sumOut m

theorem uc_mem : ∀ r ∈ ([main_arg0, main_arg1, main_arg2, main_arg3, main_arg4, main_v19] : List (Ref sig .tc)),
    (Proc.devRef .tc r : DevRef τ sig) ∈ Pipeline.ucRefs τ sig := by decide

theorem read_end (c : Dev nD) (s' : Phys nD τ sig (Elt F)) :
    iprop(Tn m c ∗ SI s') ⊢ (|={Set.univ}=> iprop(⌜Ends m c s'.mem ∧ s'.mem.sem (barC c) = 0⌝ ∗ SI s') : sProp 𝕄) := by
  unfold Tn StableHlo.held
  iintro ⟨⟨Hh, Hb⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imod (fam.barPos_read EM (Rd (part m)) c (duties_later (part m) (barC c) 1 (le_refl 1)) ∅ s') $$ [Hb HSI] with ⟨%h0, HSI⟩
  · isplitl [Hb] <;> iassumption
  imodintro
  isplitr
  · ipureintro
    have k (r : Ref sig .tc) (hr : r ∈ ([main_arg0, main_arg1, main_arg2, main_arg3, main_arg4, main_v19] : List (Ref sig .tc))) :=
      h (Proc.devRef .tc r) (uc_mem r hr)
    exact ⟨⟨⟨(k main_arg0 (by decide)).trans (V3_main_arg0 m (outs m) c), (k main_arg1 (by decide)).trans (V3_main_arg1 m (outs m) c),
      (k main_arg2 (by decide)).trans (V3_main_arg2 m (outs m) c), (k main_arg3 (by decide)).trans (V3_main_arg3 m (outs m) c),
      (k main_arg4 (by decide)).trans (V3_main_arg4 m (outs m) c)⟩, (k main_v19 (by decide)).trans (V3_result m c)⟩, h0⟩
  · iexact HSI

set_option backward.isDefEq.respectTransparency.types false in
/-- Every run ends; each device ends with its arguments as given, the sum of the partial blocks as result, and no
    semaphore holding anything. -/
theorem run (ρ : Dev nD → PrngReg) : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) 0 cellOf_inj EP defs₀ 𝒱₀ (L 11) lv m ρ main
    (segs m (outs m) 𝒱₀ (L 11) lv (E m) 0 (pdats m) (reg m))
    (fun c Q => by
      rewrite [main_chain c, Seg.run_eq_chain,
        show (segs m (outs m) 𝒱₀ (L 11) lv (E m) 0 (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun d => dues d 0) (fun g h => SiteBlocks.hL 11 g h) G u₀ hu₀
    (T₀ := fun c => iprop(StableHlo.held (c : Thread nD τ) (Pipeline.ucRefs τ sig) (V0 m c) ∗ E m 0 c))
    (Tₙ := Tn m)
    (hch := fun c => ⟨.rfl, hpre m c, hpost m c, ?_⟩)
    (hinit := launch_all m ρ) (QY := fun c s => Ends m c s ∧ s.sem (barC c) = 0)
    (hfin := read_end m) (hQ := fun s h hs => ⟨fun c => (h c).1, sem_eq_zero hs fun c sm hsm => by
      obtain rfl := one_sem sm hsm
      exact (h c).2⟩)
  show iprop(StableHlo.held (c : Thread nD τ) (Pipeline.ucRefs τ sig) (V3 m (outs m) c)
      ∗ (fam.barPos EM (Rd (part m)) c 1 ∅ ∗ ∃ W, owes (c : Thread nD τ) (0 : CellTallies nD τ sig ℕ) W)) ⊢ _
  unfold Tn
  iintro ⟨Hh, HB, HO⟩
  isplitr [HO]
  · isplitl [Hh] <;> iassumption
  iexact HO

end Cert.KernelIdeal.Comm

end
-- ==== Proof.Value.Spec.lean ====
module

public import Idealize.ShloMosaic.Lib.Pointwise

@[expose] public section

noncomputable section

/-! # One row of sparse attention, over the extended reals

A query row's scores are scaled, those of the keys that the mask leaves out are replaced by one large negative number, the
greatest is taken off, and the exponentials, divided by their sum, weigh the values. -/

namespace Cert.Spec

open Idealize.ShloMosaic

/-- A score: scaled where the mask keeps it, else the large negative number. -/
def score (keep : BitVec 1) (a : EReal) : EReal :=
  Scalar.select keep (a * Ideal.ofBits FTy.f32 0x3DB504F3#32) (Ideal.ofBits FTy.f32 0xCE6E6B28#32)

/-- The greatest of a row's scores. -/
def top (s : Fin 1024 → EReal) : EReal := Finset.fold max (Ideal.ofBits FTy.f32 0xFF800000#32) s Finset.univ

/-- The weight of key j. -/
def weight (s : Fin 1024 → EReal) (j : Fin 1024) : EReal :=
  Ideal.div (Ideal.exp (s j - top s)) (∑ l, Ideal.exp (s l - top s))

/-- The values weighed. -/
def mix (s v : Fin 1024 → EReal) : EReal := ∑ j, weight s j * v j

/-- The mask at row i and column j: the same block of 64, the first block of columns, or block numbers whose sum is a
    multiple of three. -/
def keep (i j : Fin 1024) : BitVec 1 :=
  BitVec.ofBool (i.val / 64 == j.val / 64 || j.val / 64 == 0 || (i.val / 64 + j.val / 64) % 3 == 0)

/-- The entry (i, d) of one head's attention, from its query, key and value rows. -/
def attn (q k v : Fin 1024 → Fin 128 → EReal) (i : Fin 1024) (d : Fin 128) : EReal :=
  mix (fun j => score (keep i j) (∑ x, q i x * k j x)) (fun j => v j d)

end Cert.Spec

end
-- ==== Proof.Value.Local.lean ====
module

public import proofs.«01_k».proof.Proof.KernelIdeal.Share
public import proofs.«01_k».proof.Proof.Value.Spec

@[expose] public section

noncomputable section

/-! # What one device computes: the attention of its eight heads, times its rows of the output weights -/

namespace Cert.KernelIdeal.Comm

open Idealize.ShloMosaic
open Cert.KernelIdeal Cert.KernelIdeal.Gen

/-- The rows' block numbers, as the kernel computes them. -/
def rowBlock : IVec S1024x1024 32 := k0_pay4 (iota .tc S1024x1024 32 [0] iota_S1024x1024_d0_w32) 64#32 k0_pay2 k0_pay3

theorem row_block (i j : Fin 1024) : rowBlock (ix2 i j) = BitVec.ofNat 32 (i.val / 64) := by
  pointwise [rowBlock, k0_pay4, k0_pay2, k0_pay3]
  clear j
  revert i
  decide +kernel

/-- The columns'. -/
theorem col_block (i j : Fin 1024) : k0_pay5 (ix2 i j) = BitVec.ofNat 32 (j.val / 64) := by
  pointwise [k0_pay5]
  clear i
  revert j
  decide +kernel

theorem mask_apply (i j : Fin 1024) : mask (ix2 i j) = Spec.keep i j := by
  show k0_pay8 rowBlock k0_pay5 (cmpi .eq rowBlock k0_pay5) k0_pay7 (ix2 i j) = _
  pointwise [k0_pay7, k0_pay8]
  simp only [row_block, col_block]
  rw [Spec.keep]
  obtain ⟨a, ha⟩ : ∃ a : Fin 16, i.val / 64 = a.val := ⟨⟨i.val / 64, by omega⟩, rfl⟩
  obtain ⟨b, hb⟩ : ∃ b : Fin 16, j.val / 64 = b.val := ⟨⟨j.val / 64, by omega⟩, rfl⟩
  rw [ha, hb]
  clear ha hb
  revert a b
  decide +kernel

theorem head_apply (q k v : FVec Ideal S1024x128 .f32) (i : Fin 1024) (d : Fin 128) :
    head (F := Ideal) q k v (ix2 i d) = Spec.attn (fun i d => q (ix2 i d)) (fun j d => k (ix2 j d)) (fun j d => v (ix2 j d)) i d := by
  pointwise [head, k0_pay13, mask_apply]
  rfl

theorem qs_apply (q : FVec Ideal S1024x1024 .f32) (h : Fin 8) (i : Fin 1024) (d : Fin 128) :
    qs q h (ix2 i d) = q (ix2 i ⟨128 * h.val + d.val, by omega⟩) := by
  pointwise [qs]

theorem sq_apply (K : Vec Ideal S1024x8x128 .f32) (h : Fin 8) (j : Fin 1024) (d : Fin 128) :
    sq (slab K h) (ix2 j d) = K (ix3 j h d) := by
  pointwise [sq, slab]
  refine congrArg K (funext fun a => ?_)
  match a with
  | 0 => rfl
  | 1 => rfl
  | 2 => rfl

theorem ctx_apply (q : FVec Ideal S1024x1024 .f32) (K V : Vec Ideal S1024x8x128 .f32) (i l : Fin 1024) :
    ctx q K V (ix2 i l) = hd q K V ⟨l.val / 128, by omega⟩ (ix2 i ⟨l.val % 128, by omega⟩) := by
  have key : ∀ (f : FVec Ideal S1024x128 .f32) (j j' : S1024x128.Idx), j = j' → f j = f j' := by rintro _ _ _ rfl; rfl
  refine key _ _ _ (funext fun a => ?_)
  match a with
  | 0 => rfl
  | 1 => rfl

theorem pay1_apply (x w : Vec Ideal S1024x1024 .f32) (i n : Fin 1024) :
    k0_pay1 (F := Ideal) x w (ix2 i n) = ∑ y, x (ix2 i y) * w (ix2 y n) := by
  pointwise [k0_pay1]

/-- A device's share at (i, n). -/
theorem share_apply (x wq : Vec Ideal S1024x1024 .f32) (K V : Vec Ideal S1024x8x128 .f32) (wo : Vec Ideal S1024x1024 .f32) (i n : Fin 1024) :
    share x wq K V wo (ix2 i n) = ∑ l : Fin 1024,
      Spec.attn (fun i d => ∑ y, x (ix2 i y) * wq (ix2 y ⟨128 * (l.val / 128) + d.val, by omega⟩))
        (fun j d => K (ix3 j ⟨l.val / 128, by omega⟩ d)) (fun j d => V (ix3 j ⟨l.val / 128, by omega⟩ d)) i ⟨l.val % 128, by omega⟩
      * wo (ix2 l n) := by
  pointwise [share, k0_pay27]
  refine Finset.sum_congr rfl fun l _ => congrArg (· * _) ?_
  rw [ctx_apply, hd, head_apply]
  simp only [qs_apply, sq_apply, pay1_apply]

end Cert.KernelIdeal.Comm

end
-- ==== Proof.Value.Sum.lean ====
module

public import proofs.«01_k».proof.Proof.KernelIdeal.Sched
public import Idealize.ShloMosaic.Lib.Pointwise

@[expose] public section

noncomputable section

/-! # The all-reduce adds the sixteen shares

The kernel adds along a row of four devices, then along a column of four. Addition of extended reals is associative and
commutative, so whichever device completes a strip holds the sum over all. -/

namespace Cert.KernelIdeal.Comm

open Idealize.ShloMosaic
open Cert.KernelIdeal Cert.KernelIdeal.Gen

theorem tile_apply (j : Fin 4) (h : Fin 2) (f : Vec Ideal S1024x1024 .f32) (r : Fin 256) (q : Fin 512) :
    tile j h f (ix2 r q) = f (ix2 ⟨256 * j.val + r.val, by omega⟩ ⟨512 * h.val + q.val, by omega⟩) := by
  refine congrArg f (funext fun a => ?_)
  match a with
  | 0 => exact Fin.ext (show 256 * j.val + 1 * r.val = 256 * j.val + r.val by omega)
  | 1 => exact Fin.ext (show 512 * h.val + 1 * q.val = 512 * h.val + q.val by omega)

/-- The device k places before c in direction d's ring. -/
def back (d : Fin 2) (c : Dev nD) : ℕ → Dev nD
  | 0 => c
  | k + 1 => fr d (back d c k)

theorem dq_fr : ∀ (d : Fin 2) (c : Dev nD) (s : Fin 3), dq d (fr d c) s.val = dq d c (s.val + 1) := by decide +kernel

theorem acc_succ (A : Dev nD → Vec Ideal S1024x1024 .f32) (d : Fin 2) (c : Dev nD) (s : ℕ) (i : S256x512.Idx) :
    acc A d c (s + 1) i = tile (dq d c (s + 1)) d (A c) i + acc A d (fr d c) s i := rfl

/-- The ring's sum of one quarter. -/
theorem acc_apply (A : Dev nD → Vec Ideal S1024x1024 .f32) (d : Fin 2) (c : Dev nD) (r : Fin 256) (q : Fin 512) :
    let p : S1024x1024.Idx := ix2 ⟨256 * (dq d c 3).val + r.val, by omega⟩ ⟨512 * d.val + q.val, by omega⟩
    acc A d c 3 (ix2 r q) = A c p + (A (fr d c) p + (A (fr d (fr d c)) p + A (fr d (fr d (fr d c))) p)) := by
  intro p
  have e1 := dq_fr d c 2
  have e2 := (dq_fr d (fr d c) 1).trans e1
  have e3 := (dq_fr d (fr d (fr d c)) 0).trans e2
  have e1' : dq d (fr d c) (1 + 1) = dq d c 3 := e1
  have e2' : dq d (fr d (fr d c)) (0 + 1) = dq d c 3 := e2
  have e3' : dq d (fr d (fr d (fr d c))) 0 = dq d c 3 := e3
  rw [acc_succ, acc_succ, acc_succ, acc, e1', e2', e3', tile_apply, tile_apply, tile_apply, tile_apply]

/-- The sixteen devices, from c: a places down the column, then b places back in the ring. -/
def walk (d : Fin 2) (c : Dev nD) (x : Fin 4 × Fin 4) : Dev nD := back d (zp x.1 c) x.2.val

theorem walk_bijective : ∀ (d : Fin 2) (c : Dev nD), Function.Bijective (walk d c) := by decide +kernel

theorem sum_walk (f : Dev nD → EReal) (d : Fin 2) (c : Dev nD) : ∑ x : Fin 4 × Fin 4, f (walk d c x) = ∑ e, f e :=
  (walk_bijective d c).sum_comp f

theorem zp_zero : ∀ c : Dev nD, zp 0 c = c := by decide +kernel
theorem dq_zp : ∀ (d : Fin 2) (k : Fin 4) (c : Dev nD), dq d (zp k c) 3 = dq d c 3 := by decide +kernel

/-- A completed strip is the sum over all devices. -/
theorem red_apply (A : Dev nD → Vec Ideal S1024x1024 .f32) (d : Fin 2) (c : Dev nD) (r : Fin 64) (q : Fin 512) :
    red A d c (ix2 r q) = ∑ e, A e (ix2 ⟨256 * (dq d c 3).val + (64 * (rz c 0).val + r.val), by omega⟩ ⟨512 * d.val + q.val, by omega⟩) := by
  have hs : ∀ v : Vec Ideal S256x512 .f32, strip (rz c 0) v (ix2 r q) = v (ix2 ⟨64 * (rz c 0).val + r.val, by omega⟩ q) := by
    intro v
    refine congrArg v (funext fun a => ?_)
    match a with
    | 0 => rfl
    | 1 => rfl
  have hr : red A d c (ix2 r q) = ((strip (rz c 0) (acc A d c 3) (ix2 r q) + strip (rz c 0) (acc A d (zp 1 c) 3) (ix2 r q))
      + strip (rz c 0) (acc A d (zp 2 c) 3) (ix2 r q)) + strip (rz c 0) (acc A d (zp 3 c) 3) (ix2 r q) := rfl
  rw [hr, hs, hs, hs, hs, acc_apply, acc_apply, acc_apply, acc_apply]
  simp only [dq_zp]
  rw [← sum_walk _ d c, Fintype.sum_prod_type]
  simp only [Fin.sum_univ_four, walk, zp_zero]
  simp only [add_assoc]
  rfl

theorem owner_spot : ∀ (h : Fin 2) (u : Fin 16), 256 * (dq h (owner h.val (64 * u.val)) 3).val + 64 * (rz (owner h.val (64 * u.val)) 0).val = 64 * u.val := by
  decide +kernel

/-- The all-reduce at an index. -/
theorem outAll_apply (A : Dev nD → Vec Ideal S1024x1024 .f32) (i n : Fin 1024) : outAll A (ix2 i n) = ∑ e, A e (ix2 i n) := by
  have ho : owner (n.val / 512) i.val = owner (n.val / 512) (64 * (i.val / 64)) := Fin.ext (by
    show 4 * (i.val % 256 / 64) + (i.val / 256 + (if n.val / 512 = 0 then 3 else 1)) % 4
      = 4 * (64 * (i.val / 64) % 256 / 64) + (64 * (i.val / 64) / 256 + (if n.val / 512 = 0 then 3 else 1)) % 4
    rw [show 64 * (i.val / 64) % 256 / 64 = i.val % 256 / 64 by omega, show 64 * (i.val / 64) / 256 = i.val / 256 by omega])
  have hs := owner_spot ⟨n.val / 512, by omega⟩ ⟨i.val / 64, by omega⟩
  have h := red_apply A ⟨n.val / 512, by omega⟩ (owner (n.val / 512) (64 * (i.val / 64))) ⟨i.val % 64, by omega⟩ ⟨n.val % 512, by omega⟩
  have hl : outAll A (ix2 i n) = red A ⟨n.val / 512, by omega⟩ (owner (n.val / 512) i.val) (ix2 ⟨i.val % 64, by omega⟩ ⟨n.val % 512, by omega⟩) := by
    refine congrArg (red A ⟨n.val / 512, by omega⟩ (owner (n.val / 512) i.val)) (funext fun a => ?_)
    match a with
    | 0 => rfl
    | 1 => rfl
  rw [hl, ho, h]
  refine Finset.sum_congr rfl fun e _ => congrArg (A e) (funext fun a => ?_)
  match a with
  | 0 =>
    refine Fin.ext ?_
    show 256 * (dq _ _ 3).val + (64 * (rz _ 0).val + i.val % 64) = i.val
    dsimp only at hs ⊢
    omega
  | 1 => exact Fin.ext (show 512 * (n.val / 512) + n.val % 512 = n.val by omega)

end Cert.KernelIdeal.Comm

end
-- ==== Proof.Value.Slices.lean ====
module

public import proofs.«01_k».proof.Proof.KernelIdeal.Region
public import Idealize.ShloMosaic.Lib.Pointwise
public import Idealize.ShloMosaic.Lib.DynamicIndex
public import Idealize.ShloMosaic.Lib.StableHlo.ReadAt

@[expose] public section

noncomputable section

/-! # What a device's kernel reads: the input without its leading axis, and the device's eight heads of keys and values -/

namespace Cert.KernelIdeal.Comm

open Idealize.ShloMosaic Idealize.ShloMosaic.TcCoe
open Cert.KernelIdeal Cert.KernelIdeal.Gen

variable (m : (ℓ : Loc nD τ sig) → Buf (Elt Ideal) ℓ)

theorem drop_apply (x : Vec Ideal S1x1024x1024 .f32) (i n : Fin 1024) :
    shapeCast S1024x1024 x shapeCasts_S1x1024x1024_S1024x1024 (ix2 i n) = x (ix3 0 i n) := by
  pointwise

theorem input_apply (c : Dev nD) (i n : Fin 1024) :
    (V1 m c main_v5 : Vec Ideal S1024x1024 .f32) (ix2 i n) = (m ((c.tc : Thread nD τ).loc main_arg0) : Vec Ideal S1x1024x1024 .f32) (ix3 0 i n) := by
  have h : (V1 m c main_v5 : Vec Ideal S1024x1024 .f32) = shapeCast S1024x1024 (m ((c.tc : Thread nD τ).loc main_arg0) : Vec Ideal S1x1024x1024 .f32) shapeCasts_S1x1024x1024_S1024x1024 := by
    unfold V1
    after_results_simp
    rfl
  rw [h]
  exact drop_apply _ i n

/-- Head h of device c among all heads. -/
def headOf (c : Dev nD) (h : Fin 8) : Fin 128 := ⟨8 * c.val + h.val, by have hc : c.val < 16 := c.isLt; omega⟩

theorem slices_heads : ∀ c : Dev nD, S1x1024x128x128.Slices ![0, 0, 8 * c.val, 0] S1x1024x8x128 := by decide +kernel

theorem slice_apply (x : Vec Ideal S1x1024x128x128 .f32) (c : Dev nD) (st : Fin 4 → Int)
    (hst : ∀ a, st a = ((![0, 0, 8 * c.val, 0] : Fin 4 → ℕ) a : Int)) (j : Fin 1024) (h : Fin 8) (d : Fin 128) :
    shapeCast S1024x8x128 (Host.dynamicSlice S1x1024x8x128 x st sliceFits_S1x1024x128x128_S1x1024x8x128)
      shapeCasts_S1x1024x8x128_S1024x8x128 (ix3 j h d) = x (ix4 0 j (headOf c h) d) := by
  rw [Host.dynamicSlice_eq_extractStridedSlice S1x1024x8x128 x st ![0, 0, 8 * c.val, 0] _ (slices_heads c) hst]
  pointwise
  rfl

/-- The device's eight heads of keys: a block cut at a start the program computes from the device's number. -/
theorem keys_term (c : Dev nD) : ∃ st : Fin 4 → Int, (V1 m c main_v11 : Vec Ideal S1024x8x128 .f32)
    = shapeCast S1024x8x128 (Host.dynamicSlice S1x1024x8x128 (m ((c.tc : Thread nD τ).loc main_arg2) : Vec Ideal S1x1024x128x128 .f32) st
        sliceFits_S1x1024x128x128_S1x1024x8x128) shapeCasts_S1x1024x8x128_S1024x8x128
      ∧ ∀ a, st a = ((![0, 0, 8 * c.val, 0] : Fin 4 → ℕ) a : Int) := by
  unfold V1
  after_results_simp
  refine ⟨_, rfl, fun a => ?_⟩
  fin_cases a
  · show BitVec.toInt (StableHlo.after (hostOps0 c) (V0 m c) main_c_4 (Shape.Idx.first h_S_)) = _
    after_results_simp
    rfl
  · show BitVec.toInt (StableHlo.after (hostOps0 c) (V0 m c) main_c_5 (Shape.Idx.first h_S_)) = _
    after_results_simp
    rfl
  · show BitVec.toInt (StableHlo.after (hostOps0 c) (V0 m c) main_v9 (Shape.Idx.first h_S_)) = _
    after_results_simp
    revert c
    decide +kernel
  · show BitVec.toInt (StableHlo.after (hostOps0 c) (V0 m c) main_c_6 (Shape.Idx.first h_S_)) = _
    after_results_simp
    rfl

theorem keys_apply (c : Dev nD) (j : Fin 1024) (h : Fin 8) (d : Fin 128) :
    (V1 m c main_v11 : Vec Ideal S1024x8x128 .f32) (ix3 j h d)
      = (m ((c.tc : Thread nD τ).loc main_arg2) : Vec Ideal S1x1024x128x128 .f32) (ix4 0 j (headOf c h) d) := by
  obtain ⟨st, e, hst⟩ := keys_term m c
  rw [e]
  exact slice_apply _ c st hst j h d

/-- The device's eight heads of values: a block cut at a start the program computes from the device's number. -/
theorem values_term (c : Dev nD) : ∃ st : Fin 4 → Int, (V1 m c main_v17 : Vec Ideal S1024x8x128 .f32)
    = shapeCast S1024x8x128 (Host.dynamicSlice S1x1024x8x128 (m ((c.tc : Thread nD τ).loc main_arg3) : Vec Ideal S1x1024x128x128 .f32) st
        sliceFits_S1x1024x128x128_S1x1024x8x128) shapeCasts_S1x1024x8x128_S1024x8x128
      ∧ ∀ a, st a = ((![0, 0, 8 * c.val, 0] : Fin 4 → ℕ) a : Int) := by
  unfold V1
  after_results_simp
  refine ⟨_, rfl, fun a => ?_⟩
  fin_cases a
  · show BitVec.toInt (StableHlo.after (hostOps0 c) (V0 m c) main_c_10 (Shape.Idx.first h_S_)) = _
    after_results_simp
    rfl
  · show BitVec.toInt (StableHlo.after (hostOps0 c) (V0 m c) main_c_11 (Shape.Idx.first h_S_)) = _
    after_results_simp
    rfl
  · show BitVec.toInt (StableHlo.after (hostOps0 c) (V0 m c) main_v15 (Shape.Idx.first h_S_)) = _
    after_results_simp
    revert c
    decide +kernel
  · show BitVec.toInt (StableHlo.after (hostOps0 c) (V0 m c) main_c_12 (Shape.Idx.first h_S_)) = _
    after_results_simp
    rfl

theorem values_apply (c : Dev nD) (j : Fin 1024) (h : Fin 8) (d : Fin 128) :
    (V1 m c main_v17 : Vec Ideal S1024x8x128 .f32) (ix3 j h d)
      = (m ((c.tc : Thread nD τ).loc main_arg3) : Vec Ideal S1x1024x128x128 .f32) (ix4 0 j (headOf c h) d) := by
  obtain ⟨st, e, hst⟩ := values_term m c
  rw [e]
  exact slice_apply _ c st hst j h d

end Cert.KernelIdeal.Comm

end
-- ==== Proof.Value.Reference.lean ====
module

public import proofs.«01_k».proof.Proof.Gen.ReferenceIdeal
public import proofs.«01_k».proof.Proof.Value.Spec

@[expose] public section

noncomputable section

/-! # What the reference computes, in stages -/

namespace Cert.ReferenceIdeal.Stage

open Idealize.ShloMosaic
open Cert.ReferenceIdeal Cert.ReferenceIdeal.Gen

/-- The block number of each position: its quotient by 64, rounded down. -/
def blk : IVec S1024 32 :=
  let t := iotaInDim S1024 32 0
  let n := id (constantI S_ 32 64#32)
  let q := Host.divsi t (broadcastInDim S1024 ![] bcast_S_S1024 n)
  select (andi (cmpi .ne (signi t) (broadcastInDim S1024 ![] bcast_S_S1024 (signi n)))
      (cmpi .ne (Host.remsi t (broadcastInDim S1024 ![] bcast_S_S1024 n)) (broadcastInDim S1024 ![] bcast_S_S1024 (constantI S_ 32 0#32))))
    (subi q (broadcastInDim S1024 ![] bcast_S_S1024 (constantI S_ 32 1#32))) q

def blkRow : IVec S1024x1024 32 :=
  broadcastInDim S1024x1024 ![0, 1] bcast_S1024x1_S1024x1024_0_1 (broadcastInDim S1024x1 ![0] bcast_S1024_S1024x1_0 blk)
def blk1 : IVec S1x1024 32 := broadcastInDim S1x1024 ![1] bcast_S1024_S1x1024_1 blk
def blkCol : IVec S1024x1024 32 := broadcastInDim S1024x1024 ![0, 1] bcast_S1x1024_S1024x1024_0_1 blk1

def three : IVec S_ 32 :=
  let n := id (constantI S_ 32 3#32)
  select (cmpi .eq n (constantI S_ 32 0#32)) (constantI S_ 32 1#32) n

/-- The sum of the block numbers modulo three. -/
def mod3 : IVec S1024x1024 32 :=
  let r := Host.remsi (addi blkRow blkCol) (broadcastInDim S1024x1024 ![] bcast_S_S1024x1024 three)
  select (andi (cmpi .ne (cmpi .slt r (broadcastInDim S1024x1024 ![] bcast_S_S1024x1024 (constantI S_ 32 0#32)))
        (broadcastInDim S1024x1024 ![] bcast_S_S1024x1024 (cmpi .slt three (constantI S_ 32 0#32))))
      (cmpi .ne r (broadcastInDim S1024x1024 ![] bcast_S_S1024x1024 (constantI S_ 32 0#32))))
    (addi r (broadcastInDim S1024x1024 ![] bcast_S_S1024x1024 three)) r

def mask : IVec S1024x1024 1 :=
  ori (ori (cmpi .eq blkRow blkCol)
      (broadcastInDim S1024x1024 ![0, 1] bcast_S1x1024_S1024x1024_0_1 (cmpi .eq blk1 (broadcastInDim S1x1024 ![] bcast_S_S1x1024 (constantI S_ 32 0#32)))))
    (cmpi .eq mod3 (broadcastInDim S1024x1024 ![] bcast_S_S1024x1024 (constantI S_ 32 0#32)))

/-- Whether a row keeps anything. -/
def kept : IVec S1024 1 := Host.reduce IntOp.ori mask (constantI S_ 1 0#1) reducesTo_S1024x1024_S1024_d1 h_S_
def kept4 : IVec S1x1x1024x1 1 := broadcastInDim S1x1x1024x1 ![2] bcast_S1024_S1x1x1024x1_2 kept

def query (x : FVec Ideal S1x1024x1024 .f32) (wq : FVec Ideal S1024x16384 .f32) : FVec Ideal S1x1024x128x128 .f32 :=
  shapeCast S1x1024x128x128 (Host.dotGeneral dot_S1x1024x1024_S1024x16384_S1x1024x16384_2_0_01_1_n_n none x wq) shapeCasts_S1x1024x16384_S1x1024x128x128

def scores (q k : FVec Ideal S1x1024x128x128 .f32) : FVec Ideal S1x128x1024x1024 .f32 :=
  select (broadcastInDim S1x128x1024x1024 ![0, 1, 2, 3] bcast_S1x1x1024x1024_S1x128x1024x1024_0_1_2_3
      (broadcastInDim S1x1x1024x1024 ![2, 3] bcast_S1024x1024_S1x1x1024x1024_2_3 mask))
    (mulf (Host.dotGeneral dot_S1x1024x128x128_S1x1024x128x128_S1x128x1024x1024_3_3_1_1_02_02 none q k)
      (broadcastInDim S1x128x1024x1024 ![] bcast_S_S1x128x1024x1024 (constant S_ .f32 0x3DB504F3#32)))
    (broadcastInDim S1x128x1024x1024 ![] bcast_S_S1x128x1024x1024 (id (constant S_ .f32 0xCE6E6B28#32)))

def expo (s : FVec Ideal S1x128x1024x1024 .f32) : FVec Ideal S1x128x1024x1024 .f32 :=
  Host.exp (subf s (broadcastInDim S1x128x1024x1024 ![0, 1, 2, 3] bcast_S1x128x1024x1_S1x128x1024x1024_0_1_2_3
    (broadcastInDim S1x128x1024x1 ![0, 1, 2] bcast_S1x128x1024_S1x128x1024x1_0_1_2
      (Host.reduce FloatOps.maximumf s (constant S_ .f32 0xFF800000#32) reducesTo_S1x128x1024x1024_S1x128x1024_d3 h_S_))))

def total (e : FVec Ideal S1x128x1024x1024 .f32) : FVec Ideal S1x128x1024x1 .f32 :=
  select (broadcastInDim S1x128x1024x1 ![0, 1, 2, 3] bcast_S1x1x1024x1_S1x128x1024x1_0_1_2_3 kept4)
    (broadcastInDim S1x128x1024x1 ![0, 1, 2] bcast_S1x128x1024_S1x128x1024x1_0_1_2
      (Host.reduceAdd e (constant S_ .f32 0x00000000#32) reducesTo_S1x128x1024x1024_S1x128x1024_d3 h_S_))
    (broadcastInDim S1x128x1024x1 ![] bcast_S_S1x128x1024x1 (id (constant S_ .f32 0x3F800000#32)))

def weights (e : FVec Ideal S1x128x1024x1024 .f32) : FVec Ideal S1x128x1024x1024 .f32 :=
  select (broadcastInDim S1x128x1024x1024 ![0, 1, 2, 3] bcast_S1x1x1024x1_S1x128x1024x1024_0_1_2_3
      (broadcastInDim S1x1x1024x1 ![2] bcast_S1024_S1x1x1024x1_2 kept))
    (Host.divf e (broadcastInDim S1x128x1024x1024 ![0, 1, 2, 3] bcast_S1x128x1024x1_S1x128x1024x1024_0_1_2_3 (total e)))
    (broadcastInDim S1x128x1024x1024 ![] bcast_S_S1x128x1024x1024 (id (constant S_ .f32 0x00000000#32)))

def context (v : FVec Ideal S1x1024x128x128 .f32) (w : FVec Ideal S1x128x1024x1024 .f32) : FVec Ideal S1x1024x16384 .f32 :=
  shapeCast S1x1024x16384 (transpose S1x1024x128x128 [0, 3, 1, 2]
    (Host.dotGeneral dot_S1x1024x128x128_S1x128x1024x1024_S1x128x128x1024_1_3_3_2_02_01 none v w)
    transposes_S1x128x128x1024_S1x1024x128x128_0_3_1_2) shapeCasts_S1x1024x128x128_S1x1024x16384

/-- The whole reference. -/
def out (x : FVec Ideal S1x1024x1024 .f32) (wq : FVec Ideal S1024x16384 .f32) (k v : FVec Ideal S1x1024x128x128 .f32)
    (wo : FVec Ideal S16384x1024 .f32) : FVec Ideal S1x1024x1024 .f32 :=
  Host.dotGeneral dot_S1x1024x16384_S16384x1024_S1x1024x1024_2_0_01_1_n_n none
    (context v (weights (expo (scores (query x wq) k)))) wo

/-! ## The mask -/

theorem blk_apply (i : Fin 1024) : blk (ix1 i) = BitVec.ofNat 32 (i.val / 64) := by
  pointwise [blk]
  revert i
  decide +kernel

theorem mask_apply (i j : Fin 1024) : mask (ix2 i j) = Spec.keep i j := by
  pointwise [mask, blkRow, blkCol, blk1, mod3, three]
  simp only [blk_apply]
  rw [Spec.keep]
  obtain ⟨a, ha⟩ : ∃ a : Fin 16, i.val / 64 = a.val := ⟨⟨i.val / 64, by omega⟩, rfl⟩
  obtain ⟨b, hb⟩ : ∃ b : Fin 16, j.val / 64 = b.val := ⟨⟨j.val / 64, by omega⟩, rfl⟩
  rw [ha, hb]
  clear ha hb
  revert a b
  decide +kernel

/-- Every row keeps the first column. -/
theorem kept_apply (i : Fin 1024) : kept (ix1 i) = 1#1 := by
  pointwise [kept]
  have h0 : mask (ix2 i 0) = 1#1 := by
    rw [mask_apply, Spec.keep]
    simp
  have h1 : ∀ b : BitVec 1, IntOp.ori 1#1 b = 1#1 := by decide
  rw [← Finset.insert_erase (Finset.mem_univ (0 : Fin 1024)), Finset.fold_insert (Finset.notMem_erase _ _), h0, h1]

/-! ## The attention -/

theorem query_apply (x : FVec Ideal S1x1024x1024 .f32) (wq : FVec Ideal S1024x16384 .f32) (i : Fin 1024) (h d : Fin 128) :
    query x wq (ix4 0 i h d) = ∑ y, x (ix3 0 i y) * wq (ix2 y ⟨h.val * 128 + d.val, by omega⟩) := by
  pointwise [query]

theorem scores_apply (q k : FVec Ideal S1x1024x128x128 .f32) (h : Fin 128) (i j : Fin 1024) :
    scores q k (ix4 0 h i j) = Spec.score (Spec.keep i j) (∑ x, q (ix4 0 i h x) * k (ix4 0 j h x)) := by
  pointwise [scores, mask_apply]
  rfl

theorem expo_apply (s : FVec Ideal S1x128x1024x1024 .f32) (h : Fin 128) (i j : Fin 1024) :
    expo s (ix4 0 h i j) = Ideal.exp (s (ix4 0 h i j) - Spec.top fun l => s (ix4 0 h i l)) := by
  pointwise [expo]
  rfl

theorem weights_apply (e : FVec Ideal S1x128x1024x1024 .f32) (h : Fin 128) (i j : Fin 1024) :
    weights e (ix4 0 h i j) = Ideal.div (e (ix4 0 h i j)) (∑ l, e (ix4 0 h i l)) := by
  pointwise [weights, total, kept4, kept_apply]

theorem context_apply (v : FVec Ideal S1x1024x128x128 .f32) (w : FVec Ideal S1x128x1024x1024 .f32) (i : Fin 1024) (k : Fin 16384) :
    context v w (ix3 0 i k) = ∑ j, v (ix4 0 j ⟨k.val / 128, by omega⟩ ⟨k.val % 128, by omega⟩) * w (ix4 0 ⟨k.val / 128, by omega⟩ i j) := by
  pointwise [context]

/-- The reference at (i, n): the heads' attention, side by side, times the output weights. -/
theorem out_apply (x : FVec Ideal S1x1024x1024 .f32) (wq : FVec Ideal S1024x16384 .f32) (k v : FVec Ideal S1x1024x128x128 .f32)
    (wo : FVec Ideal S16384x1024 .f32) (i n : Fin 1024) :
    out x wq k v wo (ix3 0 i n) = ∑ l : Fin 16384,
      Spec.attn (fun i d => ∑ y, x (ix3 0 i y) * wq (ix2 y ⟨l.val / 128 * 128 + d.val, by omega⟩))
        (fun j d => k (ix4 0 j ⟨l.val / 128, by omega⟩ d)) (fun j d => v (ix4 0 j ⟨l.val / 128, by omega⟩ d)) i ⟨l.val % 128, by omega⟩
      * wo (ix2 l n) := by
  pointwise [out]
  refine Finset.sum_congr rfl fun l _ => congrArg (· * _) ?_
  rw [context_apply, Spec.attn, Spec.mix]
  refine Finset.sum_congr rfl fun j _ => ?_
  rw [mul_comm, weights_apply, Spec.weight]
  simp only [expo_apply, scores_apply, query_apply]

end Cert.ReferenceIdeal.Stage

end
-- ==== Proof.Value.Equation.lean ====
module

public import proofs.«01_k».proof.Proof.KernelIdeal.Run
public import proofs.«01_k».proof.Proof.Value.Local
public import proofs.«01_k».proof.Proof.Value.Sum
public import proofs.«01_k».proof.Proof.Value.Slices
public import proofs.«01_k».proof.Proof.Value.Reference
public import Idealize.ShloMosaic.Lib.Layout

@[expose] public section

noncomputable section

/-! # The equation: the devices' shares, added up, are the reference

The reference's last product sums over 16384 columns of the context; device e's share is the part of that sum over the
columns of its own eight heads. -/

namespace Cert.KernelIdeal.Comm

open Idealize.ShloMosaic Idealize.ShloMosaic.TcCoe
open Cert.KernelIdeal Cert.KernelIdeal.Gen

/-- Column l of device e among all columns of the context. -/
def colOf (e : Fin 16) (l : Fin 1024) : Fin 16384 := ⟨1024 * e.val + l.val, by omega⟩

theorem sum_cols (f : Fin 16384 → EReal) : ∑ l, f l = ∑ e : Fin 16, ∑ l : Fin 1024, f (colOf e l) := by
  rw [← Fintype.sum_prod_type (f := fun x : Fin 16 × Fin 1024 => f (colOf x.1 x.2))]
  exact (Fintype.sum_equiv (finProdFinEquiv (m := 16) (n := 1024)) _ f fun x =>
    congrArg f (Fin.ext (show 1024 * x.1.val + x.2.val = x.2.val + 1024 * x.1.val by omega))).symm

/-- Device e's block of the query weights, and of the output weights. -/
theorem block_cols (w : Vec Ideal ⟨2, ![1024, 16384]⟩ .f32) (e : Fin 16) (y k : Fin 1024) :
    Layout.block ⟨2, ![1024, 1024]⟩ ⟨2, ![1024, 16384]⟩ 1 16 e w (by decide) (ix2 y k) = w (ix2 y (colOf e k)) := by
  rw [Layout.block_apply]
  refine congrArg w (funext fun a => Fin.ext ?_)
  match a with
  | 0 => rfl
  | 1 => exact (show e.val * 1024 + k.val = 1024 * e.val + k.val by omega)

theorem block_rows (w : Vec Ideal ⟨2, ![16384, 1024]⟩ .f32) (e : Fin 16) (k n : Fin 1024) :
    Layout.block ⟨2, ![1024, 1024]⟩ ⟨2, ![16384, 1024]⟩ 0 16 e w (by decide) (ix2 k n) = w (ix2 (colOf e k) n) := by
  rw [Layout.block_apply]
  refine congrArg w (funext fun a => Fin.ext ?_)
  match a with
  | 0 => exact (show e.val * 1024 + k.val = 1024 * e.val + k.val by omega)
  | 1 => rfl

/-- The reference's summand at column l and result (i, n). -/
def term (x : Vec Ideal S1x1024x1024 .f32) (wq : Vec Ideal ⟨2, ![1024, 16384]⟩ .f32) (k v : Vec Ideal S1x1024x128x128 .f32)
    (wo : Vec Ideal ⟨2, ![16384, 1024]⟩ .f32) (i n : Fin 1024) (l : Fin 16384) : EReal :=
  Spec.attn (fun i d => ∑ y, x (ix3 0 i y) * wq (ix2 y ⟨l.val / 128 * 128 + d.val, by omega⟩))
    (fun j d => k (ix4 0 j ⟨l.val / 128, by omega⟩ d)) (fun j d => v (ix4 0 j ⟨l.val / 128, by omega⟩ d)) i ⟨l.val % 128, by omega⟩
  * wo (ix2 l n)

/-- A share read from blocks is the sum of the reference's summands over the device's columns. -/
theorem share_cols (x : Vec Ideal S1x1024x1024 .f32) (wq : Vec Ideal ⟨2, ![1024, 16384]⟩ .f32) (k v : Vec Ideal S1x1024x128x128 .f32)
    (wo : Vec Ideal ⟨2, ![16384, 1024]⟩ .f32) (c : Dev nD) (X WQ WO : Vec Ideal S1024x1024 .f32) (K V : Vec Ideal S1024x8x128 .f32)
    (hX : ∀ i y : Fin 1024, X (ix2 i y) = x (ix3 0 i y)) (hQ : ∀ y k : Fin 1024, WQ (ix2 y k) = wq (ix2 y (colOf c k)))
    (hK : ∀ (j : Fin 1024) (h : Fin 8) (d : Fin 128), K (ix3 j h d) = k (ix4 0 j (headOf c h) d))
    (hV : ∀ (j : Fin 1024) (h : Fin 8) (d : Fin 128), V (ix3 j h d) = v (ix4 0 j (headOf c h) d))
    (hO : ∀ k n : Fin 1024, WO (ix2 k n) = wo (ix2 (colOf c k) n)) (i n : Fin 1024) :
    share X WQ K V WO (ix2 i n) = ∑ l : Fin 1024, term x wq k v wo i n (colOf c l) := by
  rw [share_apply]
  refine Finset.sum_congr rfl fun l _ => ?_
  have hc : c.val < 16 := c.isLt
  have eh : headOf c ⟨l.val / 128, by omega⟩ = ⟨(colOf c l).val / 128, by have := (colOf c l).isLt; omega⟩ :=
    Fin.ext (show 8 * c.val + l.val / 128 = (1024 * c.val + l.val) / 128 by omega)
  have em : (⟨l.val % 128, by omega⟩ : Fin 128) = ⟨(colOf c l).val % 128, by omega⟩ :=
    Fin.ext (show l.val % 128 = (1024 * c.val + l.val) % 128 by omega)
  have eq : ∀ d : Fin 128, colOf c ⟨128 * (l.val / 128) + d.val, by omega⟩
      = ⟨(colOf c l).val / 128 * 128 + d.val, by have := (colOf c l).isLt; omega⟩ := fun d =>
    Fin.ext (show 1024 * c.val + (128 * (l.val / 128) + d.val) = (1024 * c.val + l.val) / 128 * 128 + d.val by omega)
  simp only [hX, hQ, hK, hV, hO, eh, em, eq]
  rfl

variable (m : (ℓ : Loc nD τ sig) → Buf (Elt Ideal) ℓ)

/-- The kernel's result is the reference's, where each device holds its part of the arguments. -/
theorem sumOut_eq (x : Vec Ideal S1x1024x1024 .f32) (wq : Vec Ideal ⟨2, ![1024, 16384]⟩ .f32) (k v : Vec Ideal S1x1024x128x128 .f32)
    (wo : Vec Ideal ⟨2, ![16384, 1024]⟩ .f32)
    (h : ∀ c : Dev nD, m ((c.tc : Thread nD τ).loc main_arg0) = x
      ∧ m ((c.tc : Thread nD τ).loc main_arg1) = Layout.block ⟨2, ![1024, 1024]⟩ ⟨2, ![1024, 16384]⟩ 1 16 c wq (by decide)
      ∧ m ((c.tc : Thread nD τ).loc main_arg2) = k ∧ m ((c.tc : Thread nD τ).loc main_arg3) = v
      ∧ m ((c.tc : Thread nD τ).loc main_arg4) = Layout.block ⟨2, ![1024, 1024]⟩ ⟨2, ![16384, 1024]⟩ 0 16 c wo (by decide)) :
    sumOut m = Cert.ReferenceIdeal.Stage.out x wq k v wo := by
  funext j
  obtain ⟨z, i, n, rfl⟩ : ∃ (z : Fin 1) (i n : Fin 1024), j = ix3 z i n := ⟨j 0, j 1, j 2, eq_ix3 j⟩
  obtain rfl : z = 0 := Subsingleton.elim _ _
  have e : sumOut m (ix3 0 i n) = outAll (part m) (ix2 i n) := by
    pointwise [sumOut]
  rw [e, outAll_apply, Cert.ReferenceIdeal.Stage.out_apply]
  refine Eq.trans (Finset.sum_congr rfl fun c _ => ?_) (sum_cols (term x wq k v wo i n)).symm
  obtain ⟨h0, h1, h2, h3, h4⟩ := h c
  refine share_cols x wq k v wo c _ _ _ _ _ (fun i y => ?_) (fun y k' => ?_) (fun j' h' d => ?_) (fun j' h' d => ?_) (fun k' n => ?_) i n
  · rw [input_apply, h0]
  · rw [V1_of m c main_arg1 (by decide)]
    exact (congrFun h1 _).trans (block_cols wq c y k')
  · rw [keys_apply, h2]
  · rw [values_apply, h3]
  · rw [V1_of m c main_arg4 (by decide)]
    exact (congrFun h4 _).trans (block_rows wo c k' n)

end Cert.KernelIdeal.Comm

end
-- ==== Proof.Value.Composed.lean ====
module

public import proofs.«01_k».proof.Proof.Gen.ReferenceIdeal.Run
public import proofs.«01_k».proof.Proof.Value.Reference

@[expose] public section

noncomputable section

/-! # The reference's run ends at those stages -/

namespace Cert.ReferenceIdeal.Stage

open Idealize.ShloMosaic Idealize.ShloMosaic.TcCoe
open Cert.ReferenceIdeal Cert.ReferenceIdeal.Gen

/-- The composed term of the reference's operations is these stages. -/
theorem res_eq (m : (ℓ : Loc nD τ sig) → Buf (Elt Ideal) ℓ) (c : Dev nD) :
    Value.res_out0 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  show Value.res_main_v44 m c = _
  unfold Value.res_main_v44
  rfl

end Cert.ReferenceIdeal.Stage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import proofs.«01_k».proof.Proof.Value.Composed
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel in its own arithmetic. -/
theorem frame_kernel : Cert.quiescent_Kernel (hKernel := Cert.Kernel.Gen.facts) := fun m g _ =>
  (θ_run _ _ _).mono (fun _ h => ⟨fun c => (h.1 c).1, h.2⟩) (Cert.Kernel.Comm.run m g)

/-- The kernel over the extended reals. -/
theorem frame_kernelIdeal : Cert.quiescent_KernelIdeal (hKernelIdeal := Cert.KernelIdeal.Gen.facts) := fun m g _ =>
  (θ_run _ _ _).mono (fun _ h => ⟨fun c => (h.1 c).1, h.2⟩) (Cert.KernelIdeal.Comm.run m g)

/-- The reference. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Over the extended reals every device ends with the reference's result. -/
theorem algebraic : Cert.algebraic_KernelIdeal_ReferenceIdeal (hKernelIdeal := Cert.KernelIdeal.Gen.facts)
    (hReferenceIdeal := Cert.ReferenceIdeal.Gen.facts) := by
  intro m g m' g' _ hagree
  have e := (Cert.KernelIdeal.Comm.sumOut_eq m _ _ _ _ _ hagree).trans (Cert.ReferenceIdeal.Stage.res_eq m' 0).symm
  exact ⟨Cert.ReferenceIdeal.Value.res_out0 m' 0,
    (θ_run _ _ _).mono (fun _ h c => ⟨(h.1 c).2.trans e, (h.1 c).1⟩) (Cert.KernelIdeal.Comm.run m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
